-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v106_0)) (v1 : (c : Dev Cert.KernelIdeal.nD) → Buf (Elt Ideal) ((c.tc : Thread Cert.KernelIdeal.nD Cert.KernelIdeal.τ).loc Cert.KernelIdeal.main_v106_1)) (v2 : (c : Dev Cert.KernelIdeal.nD) → Buf (Elt Ideal) ((c.tc : Thread Cert.KernelIdeal.nD Cert.KernelIdeal.τ).loc Cert.KernelIdeal.main_v106_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106_0) = v0 c
          ∧ r.2.mem ((c.tc : Thread Cert.KernelIdeal.nD Cert.KernelIdeal.τ).loc Cert.KernelIdeal.main_v106_1) = v1 c
          ∧ r.2.mem ((c.tc : Thread Cert.KernelIdeal.nD Cert.KernelIdeal.τ).loc Cert.KernelIdeal.main_v106_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_v89) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v26)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v26) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v64) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S4096x4096 : Shape := ⟨2, ![4096, 4096]⟩
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S512 : Shape := ⟨1, ![512]⟩
abbrev S512x512 : Shape := ⟨2, ![512, 512]⟩
abbrev S_ : Shape := ⟨0, ![]⟩
abbrev S8x2048 : Shape := ⟨2, ![8, 2048]⟩
abbrev S32x1 : Shape := ⟨2, ![32, 1]⟩
abbrev S32x64x1 : Shape := ⟨3, ![32, 64, 1]⟩
abbrev S32x32 : Shape := ⟨2, ![32, 32]⟩
abbrev S1x2048 : Shape := ⟨2, ![1, 2048]⟩
abbrev S32x16x1x64 : Shape := ⟨4, ![32, 16, 1, 64]⟩
abbrev S32x1x32x1 : Shape := ⟨4, ![32, 1, 32, 1]⟩
abbrev S32x16x32x64 : Shape := ⟨4, ![32, 16, 32, 64]⟩
abbrev S512x2048 : Shape := ⟨2, ![512, 2048]⟩
abbrev S256x1024 : Shape := ⟨2, ![256, 1024]⟩
abbrev S1x256x1024 : Shape := ⟨3, ![1, 256, 1024]⟩
abbrev S2x256x1024 : Shape := ⟨3, ![2, 256, 1024]⟩
abbrev S32x64x1x16 : Shape := ⟨4, ![32, 64, 1, 16]⟩
abbrev S32x64x32x16 : Shape := ⟨4, ![32, 64, 32, 16]⟩
abbrev S2048x512 : Shape := ⟨2, ![2048, 512]⟩
abbrev S1024x256 : Shape := ⟨2, ![1024, 256]⟩
abbrev S1x1024x256 : Shape := ⟨3, ![1, 1024, 256]⟩
abbrev S2x1024x256 : Shape := ⟨3, ![2, 1024, 256]⟩
abbrev S1x512 : Shape := ⟨2, ![1, 512]⟩
abbrev S128x4096 : Shape := ⟨2, ![128, 4096]⟩
abbrev S1024x2048 : Shape := ⟨2, ![1024, 2048]⟩
abbrev S4x1024x128 : Shape := ⟨3, ![4, 1024, 128]⟩
abbrev S128x128 : Shape := ⟨2, ![128, 128]⟩
abbrev S1x128x128 : Shape := ⟨3, ![1, 128, 128]⟩
abbrev S1x1024x128 : Shape := ⟨3, ![1, 1024, 128]⟩
abbrev S1024x128 : Shape := ⟨2, ![1024, 128]⟩
abbrev S1024x512 : Shape := ⟨2, ![1024, 512]⟩
abbrev S1024x1024 : Shape := ⟨2, ![1024, 1024]⟩
abbrev S8x512 : Shape := ⟨2, ![8, 512]⟩

abbrev nBuf : Space → Nat
  | .hbm => 124
  | .vmem => 21
  | .smem => 0
  | _ => 0

abbrev bufTy : (tb : Table) → Fin (tcTables nBuf tb) → BufTy
  | .hbm, ⟨0, _⟩ => ⟨S4096x4096, .f32⟩
  | .hbm, ⟨1, _⟩ => ⟨S32x64, .f32⟩
  | .hbm, ⟨2, _⟩ => ⟨S32x64, .f32⟩
  | .hbm, ⟨3, _⟩ => ⟨S32, .f32⟩
  | .hbm, ⟨4, _⟩ => ⟨S32x64x16, .f32⟩
  | .hbm, ⟨5, _⟩ => ⟨S32x64x16, .f32⟩
  | .hbm, ⟨6, _⟩ => ⟨S32x16x64, .f32⟩
  | .hbm, ⟨7, _⟩ => ⟨S32x16x64, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S_, .f32⟩
  | .hbm, ⟨12, _⟩ => ⟨S8x2048, .f32⟩
  | .hbm, ⟨13, _⟩ => ⟨S32, .f32⟩
  | .hbm, ⟨14, _⟩ => ⟨S32x1, .f32⟩
  | .hbm, ⟨15, _⟩ => ⟨S32x64, .f32⟩
  | .hbm, ⟨16, _⟩ => ⟨S32x64, .f32⟩
  | .hbm, ⟨17, _⟩ => ⟨S32x64, .f32⟩
  | .hbm, ⟨18, _⟩ => ⟨S32x64, .f32⟩
  | .hbm, ⟨19, _⟩ => ⟨S32x64, .f32⟩
  | .hbm, ⟨20, _⟩ => ⟨S32x64, .f32⟩
  | .hbm, ⟨21, _⟩ => ⟨S32x64, .f32⟩
  | .hbm, ⟨22, _⟩ => ⟨S32x64, .f32⟩
  | .hbm, ⟨23, _⟩ => ⟨S32x64, .f32⟩
  | .hbm, ⟨24, _⟩ => ⟨S32x64, .f32⟩
  | .hbm, ⟨25, _⟩ => ⟨S32x64, .f32⟩
  | .hbm, ⟨26, _⟩ => ⟨S32x64, .f32⟩
  | .hbm, ⟨27, _⟩ => ⟨S32x64, .f32⟩
  | .hbm, ⟨28, _⟩ => ⟨S32x64, .f32⟩
  | .hbm, ⟨29, _⟩ => ⟨S_, .f32⟩
  | .hbm, ⟨30, _⟩ => ⟨S32x64, .f32⟩
  | .hbm, ⟨31, _⟩ => ⟨S32x64, .f32⟩
  | .hbm, ⟨32, _⟩ => ⟨S32x64, .f32⟩
  | .hbm, ⟨33, _⟩ => ⟨S32x64, .f32⟩
  | .hbm, ⟨34, _⟩ => ⟨S32x64, .f32⟩
  | .hbm, ⟨35, _⟩ => ⟨S32x64, .f32⟩
  | .hbm, ⟨36, _⟩ => ⟨S32x64, .f32⟩
  | .hbm, ⟨37, _⟩ => ⟨S_, .f32⟩
  | .hbm, ⟨38, _⟩ => ⟨S32x64, .f32⟩
  | .hbm, ⟨39, _⟩ => ⟨S32x64, .f32⟩
  | .hbm, ⟨40, _⟩ => ⟨S32x64, .f32⟩
  | .hbm, ⟨41, _⟩ => ⟨S32x64, .f32⟩
  | .hbm, ⟨42, _⟩ => ⟨S32x64, .f32⟩
  | .hbm, ⟨43, _⟩ => ⟨S32x64x1, .f32⟩
  | .hbm, ⟨44, _⟩ => ⟨S32x64x16, .f32⟩
  | .hbm, ⟨45, _⟩ => ⟨S32x64x16, .f32⟩
  | .hbm, ⟨46, _⟩ => ⟨S32x64x1, .f32⟩
  | .hbm, ⟨47, _⟩ => ⟨S32x64x16, .f32⟩
  | .hbm, ⟨48, _⟩ => ⟨S32x64x16, .f32⟩
  | .hbm, ⟨49, _⟩ => ⟨S32x64x16, .f32⟩
  | .hbm, ⟨50, _⟩ => ⟨S32x64x1, .f32⟩
  | .hbm, ⟨51, _⟩ => ⟨S32x64x16, .f32⟩
  | .hbm, ⟨52, _⟩ => ⟨S32x64x16, .f32⟩
  | .hbm, ⟨53, _⟩ => ⟨S32x64x1, .f32⟩
  | .hbm, ⟨54, _⟩ => ⟨S32x64x16, .f32⟩
  | .hbm, ⟨55, _⟩ => ⟨S32x64x16, .f32⟩
  | .hbm, ⟨56, _⟩ => ⟨S32x64x16, .f32⟩
  | .hbm, ⟨57, _⟩ => ⟨S32x32, .i32⟩
  | .hbm, ⟨58, _⟩ => ⟨S32x32, .i32⟩
  | .hbm, ⟨59, _⟩ => ⟨S_, .i32⟩
  | .hbm, ⟨60, _⟩ => ⟨S32x32, .i32⟩
  | .hbm, ⟨61, _⟩ => ⟨S32x32, .i32⟩
  | .hbm, ⟨62, _⟩ => ⟨S32x32, .i1⟩
  | .hbm, ⟨63, _⟩ => ⟨S32x32, .f32⟩
  | .hbm, ⟨64, _⟩ => ⟨S1x2048, .f32⟩
  | .hbm, ⟨65, _⟩ => ⟨S1x2048, .f32⟩
  | .hbm, ⟨66, _⟩ => ⟨S32x16x64, .f32⟩
  | .hbm, ⟨67, _⟩ => ⟨S32x16x1x64, .f32⟩
  | .hbm, ⟨68, _⟩ => ⟨S32x1x32x1, .f32⟩
  | .hbm, ⟨69, _⟩ => ⟨S32x16x32x64, .f32⟩
  | .hbm, ⟨70, _⟩ => ⟨S32x16x32x64, .f32⟩
  | .hbm, ⟨71, _⟩ => ⟨S32x16x32x64, .f32⟩
  | .hbm, ⟨72, _⟩ => ⟨S512x2048, .f32⟩
  | .hbm, ⟨73, _⟩ => ⟨S256x1024, .f32⟩
  | .hbm, ⟨74, _⟩ => ⟨S256x1024, .f32⟩
  | .hbm, ⟨75, _⟩ => ⟨S1x256x1024, .f32⟩
  | .hbm, ⟨76, _⟩ => ⟨S1x256x1024, .f32⟩
  | .hbm, ⟨77, _⟩ => ⟨S2x256x1024, .f32⟩
  | .hbm, ⟨78, _⟩ => ⟨S2x256x1024, .bf16⟩
  | .hbm, ⟨79, _⟩ => ⟨S32x16x64, .f32⟩
  | .hbm, ⟨80, _⟩ => ⟨S32x16x1x64, .f32⟩
  | .hbm, ⟨81, _⟩ => ⟨S32x1x32x1, .f32⟩
  | .hbm, ⟨82, _⟩ => ⟨S32x16x32x64, .f32⟩
  | .hbm, ⟨83, _⟩ => ⟨S32x16x32x64, .f32⟩
  | .hbm, ⟨84, _⟩ => ⟨S32x16x32x64, .f32⟩
  | .hbm, ⟨85, _⟩ => ⟨S512x2048, .f32⟩
  | .hbm, ⟨86, _⟩ => ⟨S256x1024, .f32⟩
  | .hbm, ⟨87, _⟩ => ⟨S256x1024, .f32⟩
  | .hbm, ⟨88, _⟩ => ⟨S1x256x1024, .f32⟩
  | .hbm, ⟨89, _⟩ => ⟨S1x256x1024, .f32⟩
  | .hbm, ⟨90, _⟩ => ⟨S2x256x1024, .f32⟩
  | .hbm, ⟨91, _⟩ => ⟨S2x256x1024, .bf16⟩
  | .hbm, ⟨92, _⟩ => ⟨S32x64x16, .f32⟩
  | .hbm, ⟨93, _⟩ => ⟨S32x64x1x16, .f32⟩
  | .hbm, ⟨94, _⟩ => ⟨S32x1x32x1, .f32⟩
  | .hbm, ⟨95, _⟩ => ⟨S32x64x32x16, .f32⟩
  | .hbm, ⟨96, _⟩ => ⟨S32x64x32x16, .f32⟩
  | .hbm, ⟨97, _⟩ => ⟨S32x64x32x16, .f32⟩
  | .hbm, ⟨98, _⟩ => ⟨S2048x512, .f32⟩
  | .hbm, ⟨99, _⟩ => ⟨S1024x256, .f32⟩
  | .hbm, ⟨100, _⟩ => ⟨S1024x256, .f32⟩
  | .hbm, ⟨101, _⟩ => ⟨S1x1024x256, .f32⟩
  | .hbm, ⟨102, _⟩ => ⟨S1x1024x256, .f32⟩
  | .hbm, ⟨103, _⟩ => ⟨S2x1024x256, .f32⟩
  | .hbm, ⟨104, _⟩ => ⟨S2x1024x256, .bf16⟩
  | .hbm, ⟨105, _⟩ => ⟨S32x64x16, .f32⟩
  | .hbm, ⟨106, _⟩ => ⟨S32x64x1x16, .f32⟩
  | .hbm, ⟨107, _⟩ => ⟨S32x1x32x1, .f32⟩
  | .hbm, ⟨108, _⟩ => ⟨S32x64x32x16, .f32⟩
  | .hbm, ⟨109, _⟩ => ⟨S32x64x32x16, .f32⟩
  | .hbm, ⟨110, _⟩ => ⟨S32x64x32x16, .f32⟩
  | .hbm, ⟨111, _⟩ => ⟨S2048x512, .f32⟩
  | .hbm, ⟨112, _⟩ => ⟨S1024x256, .f32⟩
  | .hbm, ⟨113, _⟩ => ⟨S1024x256, .f32⟩
  | .hbm, ⟨114, _⟩ => ⟨S1x1024x256, .f32⟩
  | .hbm, ⟨115, _⟩ => ⟨S1x1024x256, .f32⟩
  | .hbm, ⟨116, _⟩ => ⟨S2x1024x256, .f32⟩
  | .hbm, ⟨117, _⟩ => ⟨S2x1024x256, .bf16⟩
  | .hbm, ⟨118, _⟩ => ⟨S1x512, .f32⟩
  | .hbm, ⟨119, _⟩ => ⟨S512x512, .bf16⟩
  | .hbm, ⟨120, _⟩ => ⟨S1x512, .f32⟩
  | .hbm, ⟨121, _⟩ => ⟨S4096x4096, .bf16⟩
  | .hbm, ⟨122, _⟩ => ⟨S8x2048, .f32⟩
  | .hbm, ⟨123, _⟩ => ⟨S8x2048, .f32⟩
  | .local _ .vmem, ⟨0, _⟩ => ⟨S128x4096, .f32⟩
  | .local _ .vmem, ⟨1, _⟩ => ⟨S128x4096, .f32⟩
  | .local _ .vmem, ⟨2, _⟩ => ⟨S8x2048, .f32⟩
  | .local _ .vmem, ⟨3, _⟩ => ⟨S8x2048, .f32⟩
  | .local _ .vmem, ⟨4, _⟩ => ⟨S1x2048, .f32⟩
  | .local _ .vmem, ⟨5, _⟩ => ⟨S1x2048, .f32⟩
  | .local _ .vmem, ⟨6, _⟩ => ⟨S2x256x1024, .bf16⟩
  | .local _ .vmem, ⟨7, _⟩ => ⟨S2x256x1024, .bf16⟩
  | .local _ .vmem, ⟨8, _⟩ => ⟨S2x1024x256, .bf16⟩
  | .local _ .vmem, ⟨9, _⟩ => ⟨S2x1024x256, .bf16⟩
  | .local _ .vmem, ⟨10, _⟩ => ⟨S1x512, .f32⟩
  | .local _ .vmem, ⟨11, _⟩ => ⟨S512x512, .bf16⟩
  | .local _ .vmem, ⟨12, _⟩ => ⟨S1x512, .f32⟩
  | .local _ .vmem, ⟨13, _⟩ => ⟨S128x4096, .bf16⟩
  | .local _ .vmem, ⟨14, _⟩ => ⟨S128x4096, .bf16⟩
  | .local _ .vmem, ⟨15, _⟩ => ⟨S8x2048, .f32⟩
  | .local _ .vmem, ⟨16, _⟩ => ⟨S8x2048, .f32⟩
  | .local _ .vmem, ⟨17, _⟩ => ⟨S1024x2048, .f32⟩
  | .local _ .vmem, ⟨18, _⟩ => ⟨S1024x2048, .f32⟩
  | .local _ .vmem, ⟨19, _⟩ => ⟨S4x1024x128, .f32⟩
  | .local _ .vmem, ⟨20, _⟩ => ⟨S4x1024x128, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_1 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_c : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106_0 : Ref sig .tc := ⟨.hbm, 121, rfl⟩
abbrev main_v106_1 : Ref sig .tc := ⟨.hbm, 122, rfl⟩
abbrev main_v106_2 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg14_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem14_0 : DmaSem sig := 16

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_165 : BitVec 32 := 0#32
  let c128_i32 : BitVec 32 := 128#32
  let v181 : BitVec 32 := Scalar.addi c0_i32_165 c128_i32
  let c1_i32 : BitVec 32 := 1#32
  ⟨c0_i32_165, v181, c1_i32⟩
def k0_mult1 (k0_t1 : Fin k0_t1_loop.trips) : BitVec 32 :=
  let c0_i32_165 : BitVec 32 := 0#32
  let c1_i32 : BitVec 32 := 1#32
  let arg20 : BitVec 32 := Scf.iv c0_i32_165 c1_i32 k0_t1
  let c8_i32 : BitVec 32 := 8#32
  let v434 : BitVec 32 := Scalar.muli arg20 c8_i32
  v434
def k0_off1 (k0_t1 : Fin k0_t1_loop.trips) : Fin 2 → Nat :=
  let c0_i32_165 : BitVec 32 := 0#32
  let c1_i32 : BitVec 32 := 1#32
  let arg20 : BitVec 32 := Scf.iv c0_i32_165 c1_i32 k0_t1
  let c8_i32 : BitVec 32 := 8#32
  let v434 : BitVec 32 := Scalar.muli arg20 c8_i32
  let v435 : BitVec 32 := v434
  let v439 : Index := Scalar.indexCast v435
  let c0_429 : Index := 0#32
  ![v439.toNat, 0]
@[reducible] def k0_t2_loop : Scf.Loop 32 :=
  let c0_i32_179 : BitVec 32 := 0#32
  let c128_i32_180 : BitVec 32 := 128#32
  let v197 : BitVec 32 := Scalar.addi c0_i32_179 c128_i32_180
  let c1_i32_181 : BitVec 32 := 1#32
  ⟨c0_i32_179, v197, c1_i32_181⟩
def k0_mult2 (k0_t2 : Fin k0_t2_loop.trips) : BitVec 32 :=
  let c0_i32_179 : BitVec 32 := 0#32
  let c1_i32_181 : BitVec 32 := 1#32
  let arg20 : BitVec 32 := Scf.iv c0_i32_179 c1_i32_181 k0_t2
  let c8_i32 : BitVec 32 := 8#32
  let v434 : BitVec 32 := Scalar.muli arg20 c8_i32
  v434
def k0_off2 (k0_t2 : Fin k0_t2_loop.trips) : Fin 2 → Nat :=
  let c0_i32_179 : BitVec 32 := 0#32
  let c1_i32_181 : BitVec 32 := 1#32
  let arg20 : BitVec 32 := Scf.iv c0_i32_179 c1_i32_181 k0_t2
  let c8_i32 : BitVec 32 := 8#32
  let v434 : BitVec 32 := Scalar.muli arg20 c8_i32
  let v435 : BitVec 32 := v434
  let v439 : Index := Scalar.indexCast v435
  let c512_429 : Index := 512#32
  ![v439.toNat, 512]
@[reducible] def k0_t3_loop : Scf.Loop 32 :=
  let c0_i32_195 : BitVec 32 := 0#32
  let c128_i32_196 : BitVec 32 := 128#32
  let v213 : BitVec 32 := Scalar.addi c0_i32_195 c128_i32_196
  let c1_i32_197 : BitVec 32 := 1#32
  ⟨c0_i32_195, v213, c1_i32_197⟩
def k0_mult3 (k0_t3 : Fin k0_t3_loop.trips) : BitVec 32 :=
  let c0_i32_195 : BitVec 32 := 0#32
  let c1_i32_197 : BitVec 32 := 1#32
  let arg20 : BitVec 32 := Scf.iv c0_i32_195 c1_i32_197 k0_t3
  let c8_i32 : BitVec 32 := 8#32
  let v434 : BitVec 32 := Scalar.muli arg20 c8_i32
  v434
def k0_off3 (k0_t3 : Fin k0_t3_loop.trips) : Fin 2 → Nat :=
  let c0_i32_195 : BitVec 32 := 0#32
  let c1_i32_197 : BitVec 32 := 1#32
  let arg20 : BitVec 32 := Scf.iv c0_i32_195 c1_i32_197 k0_t3
  let c8_i32 : BitVec 32 := 8#32
  let v434 : BitVec 32 := Scalar.muli arg20 c8_i32
  let v435 : BitVec 32 := v434
  let v439 : Index := Scalar.indexCast v435
  let c1024_429 : Index := 1024#32
  ![v439.toNat, 1024]
@[reducible] def k0_t4_loop : Scf.Loop 32 :=
  let c0_i32_211 : BitVec 32 := 0#32
  let c128_i32_212 : BitVec 32 := 128#32
  let v229 : BitVec 32 := Scalar.addi c0_i32_211 c128_i32_212
  let c1_i32_213 : BitVec 32 := 1#32
  ⟨c0_i32_211, v229, c1_i32_213⟩
def k0_mult4 (k0_t4 : Fin k0_t4_loop.trips) : BitVec 32 :=
  let c0_i32_211 : BitVec 32 := 0#32
  let c1_i32_213 : BitVec 32 := 1#32
  let arg20 : BitVec 32 := Scf.iv c0_i32_211 c1_i32_213 k0_t4
  let c8_i32 : BitVec 32 := 8#32
  let v434 : BitVec 32 := Scalar.muli arg20 c8_i32
  v434
def k0_off4 (k0_t4 : Fin k0_t4_loop.trips) : Fin 2 → Nat :=
  let c0_i32_211 : BitVec 32 := 0#32
  let c1_i32_213 : BitVec 32 := 1#32
  let arg20 : BitVec 32 := Scf.iv c0_i32_211 c1_i32_213 k0_t4
  let c8_i32 : BitVec 32 := 8#32
  let v434 : BitVec 32 := Scalar.muli arg20 c8_i32
  let v435 : BitVec 32 := v434
  let v439 : Index := Scalar.indexCast v435
  let c1536_429 : Index := 1536#32
  ![v439.toNat, 1536]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S128x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceIdeal.lean ====
abbrev S4096x4096 : Shape := ⟨2, ![4096, 4096]⟩
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S512 : Shape := ⟨1, ![512]⟩
abbrev S512x512 : Shape := ⟨2, ![512, 512]⟩
abbrev S32x1 : Shape := ⟨2, ![32, 1]⟩
abbrev S_ : Shape := ⟨0, ![]⟩
abbrev S32x64x1 : Shape := ⟨3, ![32, 64, 1]⟩
abbrev S4096x8x32x16 : Shape := ⟨4, ![4096, 8, 32, 16]⟩
abbrev S32x64x4096x8 : Shape := ⟨4, ![32, 64, 4096, 8]⟩
abbrev S4096x8x32x64 : Shape := ⟨4, ![4096, 8, 32, 64]⟩
abbrev S8x32x64 : Shape := ⟨3, ![8, 32, 64]⟩
abbrev S1x8x32x64 : Shape := ⟨4, ![1, 8, 32, 64]⟩
abbrev S1x32x64 : Shape := ⟨3, ![1, 32, 64]⟩
abbrev S32x16x4096x8 : Shape := ⟨4, ![32, 16, 4096, 8]⟩
abbrev S4096x8x512 : Shape := ⟨3, ![4096, 8, 512]⟩
abbrev S1x1x512 : Shape := ⟨3, ![1, 1, 512]⟩
abbrev S8x2048 : Shape := ⟨2, ![8, 2048]⟩

abbrev nBuf : Space → Nat
  | .hbm => 161
  | .vmem => 0
  | .smem => 0
  | _ => 0

abbrev hbmTy0_0 (i : Nat) : BufTy := match i % 128 with
  | 0 => ⟨S4096x4096, .f32⟩
  | 1 => ⟨S32x64, .f32⟩
  | 2 => ⟨S32x64, .f32⟩
  | 3 => ⟨S32, .f32⟩
  | 4 => ⟨S32x64x16, .f32⟩
  | 5 => ⟨S32x64x16, .f32⟩
  | 6 => ⟨S32x16x64, .f32⟩
  | 7 => ⟨S32x16x64, .f32⟩
  | 8 => ⟨S512, .f32⟩
  | 9 => ⟨S512x512, .f32⟩
  | 10 => ⟨S512, .f32⟩
  | 11 => ⟨S32, .f32⟩
  | 12 => ⟨S32x1, .f32⟩
  | 13 => ⟨S32x64, .f32⟩
  | 14 => ⟨S32x64, .f32⟩
  | 15 => ⟨S32x64, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S32x64, .f32⟩
  | 24 => ⟨S32x64, .f32⟩
  | 25 => ⟨S32x64, .f32⟩
  | 26 => ⟨S32x64, .f32⟩
  | 27 => ⟨S_, .f32⟩
  | 28 => ⟨S32x64, .f32⟩
  | 29 => ⟨S32x64, .f32⟩
  | 30 => ⟨S32x64, .f32⟩
  | 31 => ⟨S32x64, .f32⟩
  | 32 => ⟨S32x64, .f32⟩
  | 33 => ⟨S32x64, .f32⟩
  | 34 => ⟨S32x64, .f32⟩
  | 35 => ⟨S_, .f32⟩
  | 36 => ⟨S32x64, .f32⟩
  | 37 => ⟨S32x64, .f32⟩
  | 38 => ⟨S32x64, .f32⟩
  | 39 => ⟨S32x64, .f32⟩
  | 40 => ⟨S32x64, .f32⟩
  | 41 => ⟨S32x64x1, .f32⟩
  | 42 => ⟨S32x64x16, .f32⟩
  | 43 => ⟨S32x64x16, .f32⟩
  | 44 => ⟨S32x64x1, .f32⟩
  | 45 => ⟨S32x64x16, .f32⟩
  | 46 => ⟨S32x64x16, .f32⟩
  | 47 => ⟨S32x64x16, .f32⟩
  | 48 => ⟨S32x64x1, .f32⟩
  | 49 => ⟨S32x64x16, .f32⟩
  | 50 => ⟨S32x64x16, .f32⟩
  | 51 => ⟨S32x64x1, .f32⟩
  | 52 => ⟨S32x64x16, .f32⟩
  | 53 => ⟨S32x64x16, .f32⟩
  | 54 => ⟨S32x64x16, .f32⟩
  | 55 => ⟨S4096x8x32x16, .f32⟩
  | 56 => ⟨S32x64x4096x8, .f32⟩
  | 57 => ⟨S4096x8x32x64, .f32⟩
  | 58 => ⟨S32x64x4096x8, .f32⟩
  | 59 => ⟨S4096x8x32x64, .f32⟩
  | 60 => ⟨S_, .f32⟩
  | 61 => ⟨S8x32x64, .f32⟩
  | 62 => ⟨S_, .f32⟩
  | 63 => ⟨S4096x8x32x64, .f32⟩
  | 64 => ⟨S_, .f32⟩
  | 65 => ⟨S4096x8x32x64, .f32⟩
  | 66 => ⟨S_, .i32⟩
  | 67 => ⟨S4096x8x32x64, .f32⟩
  | 68 => ⟨S4096x8x32x64, .f32⟩
  | 69 => ⟨S32x64, .f32⟩
  | 70 => ⟨S32x64, .f32⟩
  | 71 => ⟨S_, .i32⟩
  | 72 => ⟨S8x32x64, .f32⟩
  | 73 => ⟨S8x32x64, .f32⟩
  | 74 => ⟨S4096x8x32x64, .f32⟩
  | 75 => ⟨S4096x8x32x64, .f32⟩
  | 76 => ⟨S_, .i32⟩
  | 77 => ⟨S_, .i1⟩
  | 78 => ⟨S_, .i32⟩
  | 79 => ⟨S_, .i32⟩
  | 80 => ⟨S_, .i32⟩
  | 81 => ⟨S1x8x32x64, .f32⟩
  | 82 => ⟨S8x32x64, .f32⟩
  | 83 => ⟨S_, .i32⟩
  | 84 => ⟨S_, .i32⟩
  | 85 => ⟨S_, .i32⟩
  | 86 => ⟨S1x8x32x64, .f32⟩
  | 87 => ⟨S8x32x64, .f32⟩
  | 88 => ⟨S1x32x64, .f32⟩
  | 89 => ⟨S8x32x64, .f32⟩
  | 90 => ⟨S8x32x64, .f32⟩
  | 91 => ⟨S1x32x64, .f32⟩
  | 92 => ⟨S8x32x64, .f32⟩
  | 93 => ⟨S8x32x64, .f32⟩
  | 94 => ⟨S8x32x64, .f32⟩
  | 95 => ⟨S8x32x64, .f32⟩
  | 96 => ⟨S1x32x64, .f32⟩
  | 97 => ⟨S8x32x64, .f32⟩
  | 98 => ⟨S8x32x64, .f32⟩
  | 99 => ⟨S1x32x64, .f32⟩
  | 100 => ⟨S8x32x64, .f32⟩
  | 101 => ⟨S8x32x64, .f32⟩
  | 102 => ⟨S8x32x64, .f32⟩
  | 103 => ⟨S8x32x64, .f32⟩
  | 104 => ⟨S1x8x32x64, .f32⟩
  | 105 => ⟨S_, .i32⟩
  | 106 => ⟨S_, .i32⟩
  | 107 => ⟨S_, .i32⟩
  | 108 => ⟨S4096x8x32x64, .f32⟩
  | 109 => ⟨S1x8x32x64, .f32⟩
  | 110 => ⟨S_, .i32⟩
  | 111 => ⟨S_, .i32⟩
  | 112 => ⟨S_, .i32⟩
  | 113 => ⟨S4096x8x32x64, .f32⟩
  | 114 => ⟨S_, .i32⟩
  | 115 => ⟨S_, .i32⟩
  | 116 => ⟨S32x16x4096x8, .f32⟩
  | 117 => ⟨S4096x8x32x16, .f32⟩
  | 118 => ⟨S32x16x4096x8, .f32⟩
  | 119 => ⟨S4096x8x32x16, .f32⟩
  | 120 => ⟨S4096x8x32x16, .f32⟩
  | 121 => ⟨S4096x8x512, .f32⟩
  | 122 => ⟨S4096x8x512, .f32⟩
  | 123 => ⟨S1x1x512, .f32⟩
  | 124 => ⟨S4096x8x512, .f32⟩
  | 125 => ⟨S4096x8x512, .f32⟩
  | 126 => ⟨S4096x8x512, .f32⟩
  | 127 => ⟨S4096x8x512, .f32⟩
  | _ => ⟨S4096x4096, .f32⟩

abbrev hbmTy0_1 (i : Nat) : BufTy := match i % 128 with
  | 0 => ⟨S4096x8x512, .f32⟩
  | 1 => ⟨S_, .f32⟩
  | 2 => ⟨S4096x8x512, .f32⟩
  | 3 => ⟨S4096x8x512, .f32⟩
  | 4 => ⟨S4096x8x512, .f32⟩
  | 5 => ⟨S_, .f32⟩
  | 6 => ⟨S4096x8x512, .f32⟩
  | 7 => ⟨S4096x8x512, .f32⟩
  | 8 => ⟨S4096x8x512, .f32⟩
  | 9 => ⟨S_, .f32⟩
  | 10 => ⟨S4096x8x512, .f32⟩
  | 11 => ⟨S4096x8x512, .f32⟩
  | 12 => ⟨S_, .f32⟩
  | 13 => ⟨S4096x8x512, .f32⟩
  | 14 => ⟨S4096x8x512, .f32⟩
  | 15 => ⟨S4096x8x512, .f32⟩
  | 16 => ⟨S4096x8x512, .f32⟩
  | 17 => ⟨S1x1x512, .f32⟩
  | 18 => ⟨S4096x8x512, .f32⟩
  | 19 => ⟨S4096x8x512, .f32⟩
  | 20 => ⟨S4096x8x512, .f32⟩
  | 21 => ⟨S4096x8x512, .f32⟩
  | 22 => ⟨S_, .f32⟩
  | 23 => ⟨S4096x8x512, .f32⟩
  | 24 => ⟨S4096x8x512, .f32⟩
  | 25 => ⟨S_, .f32⟩
  | 26 => ⟨S4096x8x512, .f32⟩
  | 27 => ⟨S4096x8x512, .f32⟩
  | 28 => ⟨S4096x8x512, .f32⟩
  | 29 => ⟨S4096x4096, .f32⟩
  | 30 => ⟨S4096x4096, .bf16⟩
  | 31 => ⟨S8x2048, .f32⟩
  | 32 => ⟨S8x2048, .f32⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_1 : Ref sig .tc := ⟨.hbm, 60, rfl⟩
abbrev main_v47 : Ref sig .tc := ⟨.hbm, 61, rfl⟩
abbrev main_cst_2 : Ref sig .tc := ⟨.hbm, 62, rfl⟩
abbrev main_v48 : Ref sig .tc := ⟨.hbm, 63, rfl⟩
abbrev main_cst_3 : Ref sig .tc := ⟨.hbm, 64, rfl⟩
abbrev main_v49 : Ref sig .tc := ⟨.hbm, 65, rfl⟩
abbrev main_c : Ref sig .tc := ⟨.hbm, 66, rfl⟩
abbrev main_v50_0 : Ref sig .tc := ⟨.hbm, 67, rfl⟩
abbrev main_v50_1 : Ref sig .tc := ⟨.hbm, 68, rfl⟩
abbrev main_v50_2 : Ref sig .tc := ⟨.hbm, 69, rfl⟩
abbrev main_v50_3 : Ref sig .tc := ⟨.hbm, 70, rfl⟩
abbrev main_v50_4 : Ref sig .tc := ⟨.hbm, 71, rfl⟩
abbrev main_v50_5 : Ref sig .tc := ⟨.hbm, 72, rfl⟩
abbrev main_v50_6 : Ref sig .tc := ⟨.hbm, 73, rfl⟩
abbrev main_v50_7 : Ref sig .tc := ⟨.hbm, 74, rfl⟩
abbrev main_v50_8 : Ref sig .tc := ⟨.hbm, 75, rfl⟩
abbrev main_while0c_c_18 : Ref sig .tc := ⟨.hbm, 76, rfl⟩
abbrev main_while0c_v90 : Ref sig .tc := ⟨.hbm, 77, rfl⟩
abbrev main_while0b_call0_c : Ref sig .tc := ⟨.hbm, 78, rfl⟩
abbrev main_while0b_call0_c_0 : Ref sig .tc := ⟨.hbm, 79, rfl⟩
abbrev main_while0b_call0_c_1 : Ref sig .tc := ⟨.hbm, 80, rfl⟩
abbrev main_while0b_call0_v0 : Ref sig .tc := ⟨.hbm, 81, rfl⟩
abbrev main_while0b_v90 : Ref sig .tc := ⟨.hbm, 82, rfl⟩
abbrev main_while0b_call1_c : Ref sig .tc := ⟨.hbm, 83, rfl⟩
abbrev main_while0b_call1_c_0 : Ref sig .tc := ⟨.hbm, 84, rfl⟩
abbrev main_while0b_call1_c_1 : Ref sig .tc := ⟨.hbm, 85, rfl⟩
abbrev main_while0b_call1_v0 : Ref sig .tc := ⟨.hbm, 86, rfl⟩
abbrev main_while0b_v91 : Ref sig .tc := ⟨.hbm, 87, rfl⟩
abbrev main_while0b_v92 : Ref sig .tc := ⟨.hbm, 88, rfl⟩
abbrev main_while0b_v93 : Ref sig .tc := ⟨.hbm, 89, rfl⟩
abbrev main_while0b_v94 : Ref sig .tc := ⟨.hbm, 90, rfl⟩
abbrev main_while0b_v95 : Ref sig .tc := ⟨.hbm, 91, rfl⟩
abbrev main_while0b_v96 : Ref sig .tc := ⟨.hbm, 92, rfl⟩
abbrev main_while0b_v97 : Ref sig .tc := ⟨.hbm, 93, rfl⟩
abbrev main_while0b_v98 : Ref sig .tc := ⟨.hbm, 94, rfl⟩
abbrev main_while0b_v99 : Ref sig .tc := ⟨.hbm, 95, rfl⟩
abbrev main_while0b_v100 : Ref sig .tc := ⟨.hbm, 96, rfl⟩
abbrev main_while0b_v101 : Ref sig .tc := ⟨.hbm, 97, rfl⟩
abbrev main_while0b_v102 : Ref sig .tc := ⟨.hbm, 98, rfl⟩
abbrev main_while0b_v103 : Ref sig .tc := ⟨.hbm, 99, rfl⟩
abbrev main_while0b_v104 : Ref sig .tc := ⟨.hbm, 100, rfl⟩
abbrev main_while0b_v105 : Ref sig .tc := ⟨.hbm, 101, rfl⟩
abbrev main_while0b_v106 : Ref sig .tc := ⟨.hbm, 102, rfl⟩
abbrev main_while0b_v107 : Ref sig .tc := ⟨.hbm, 103, rfl⟩
abbrev main_while0b_call2_v0 : Ref sig .tc := ⟨.hbm, 104, rfl⟩
abbrev main_while0b_call2_c : Ref sig .tc := ⟨.hbm, 105, rfl⟩
abbrev main_while0b_call2_c_0 : Ref sig .tc := ⟨.hbm, 106, rfl⟩
abbrev main_while0b_call2_c_1 : Ref sig .tc := ⟨.hbm, 107, rfl⟩
abbrev main_while0b_v108 : Ref sig .tc := ⟨.hbm, 108, rfl⟩
abbrev main_while0b_call3_v0 : Ref sig .tc := ⟨.hbm, 109, rfl⟩
abbrev main_while0b_call3_c : Ref sig .tc := ⟨.hbm, 110, rfl⟩
abbrev main_while0b_call3_c_0 : Ref sig .tc := ⟨.hbm, 111, rfl⟩
abbrev main_while0b_call3_c_1 : Ref sig .tc := ⟨.hbm, 112, rfl⟩
abbrev main_while0b_v109 : Ref sig .tc := ⟨.hbm, 113, rfl⟩
abbrev main_while0b_c_18 : Ref sig .tc := ⟨.hbm, 114, rfl⟩
abbrev main_while0b_v110 : Ref sig .tc := ⟨.hbm, 115, rfl⟩
abbrev main_v51 : Ref sig .tc := ⟨.hbm, 116, rfl⟩
abbrev main_v52 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_v56 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩
abbrev main_v60 : Ref sig .tc := ⟨.hbm, 125, rfl⟩
abbrev main_v61 : Ref sig .tc := ⟨.hbm, 126, rfl⟩
abbrev main_v62 : Ref sig .tc := ⟨.hbm, 127, rfl⟩
abbrev main_v63 : Ref sig .tc := ⟨.hbm, 128, rfl⟩
abbrev main_cst_4 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_cst_5 : Ref sig .tc := ⟨.hbm, 133, rfl⟩
abbrev main_v67 : Ref sig .tc := ⟨.hbm, 134, rfl⟩
abbrev main_v68 : Ref sig .tc := ⟨.hbm, 135, rfl⟩
abbrev main_v69 : Ref sig .tc := ⟨.hbm, 136, rfl⟩
abbrev main_cst_6 : Ref sig .tc := ⟨.hbm, 137, rfl⟩
abbrev main_v70 : Ref sig .tc := ⟨.hbm, 138, rfl⟩
abbrev main_v71 : Ref sig .tc := ⟨.hbm, 139, rfl⟩
abbrev main_cst_7 : Ref sig .tc := ⟨.hbm, 140, rfl⟩
abbrev main_v72 : Ref sig .tc := ⟨.hbm, 141, rfl⟩
abbrev main_v73 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_cst_8 : Ref sig .tc := ⟨.hbm, 150, rfl⟩
abbrev main_v81 : Ref sig .tc := ⟨.hbm, 151, rfl⟩
abbrev main_v82 : Ref sig .tc := ⟨.hbm, 152, rfl⟩
abbrev main_cst_9 : Ref sig .tc := ⟨.hbm, 153, rfl⟩
abbrev main_v83 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩
abbrev main_v89 : Ref sig .tc := ⟨.hbm, 160, rfl⟩

abbrev nD : Nat := 1
abbrev τ : Topo := Topo.v7x

variable {F : FTy → Type} [FloatOps F]

abbrev main_while0_count : Scf.Loop 32 := ⟨0#32, 4096#32, 1#32⟩
-- ==== Kernel2.lean ====
abbrev S32768x1024 : Shape := ⟨2, ![32768, 1024]⟩
abbrev S1024x5632 : Shape := ⟨2, ![1024, 5632]⟩
abbrev S2816x1024 : Shape := ⟨2, ![2816, 1024]⟩
abbrev S1024 : Shape := ⟨1, ![1024]⟩
abbrev S1024x2816 : Shape := ⟨2, ![1024, 2816]⟩
abbrev S1x1024 : Shape := ⟨2, ![1, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩

abbrev nBuf : Space → Nat
  | .hbm => 13
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S1x1024, .f32⟩
  | .hbm, ⟨11, _⟩ => ⟨S1x1024, .f32⟩
  | .hbm, ⟨12, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S32768x1024 : Shape := ⟨2, ![32768, 1024]⟩
abbrev S1024x5632 : Shape := ⟨2, ![1024, 5632]⟩
abbrev S2816x1024 : Shape := ⟨2, ![2816, 1024]⟩
abbrev S1024 : Shape := ⟨1, ![1024]⟩
abbrev S_ : Shape := ⟨0, ![]⟩
abbrev S32768x5632 : Shape := ⟨2, ![32768, 5632]⟩
abbrev S32768x2816 : Shape := ⟨2, ![32768, 2816]⟩
abbrev S32768 : Shape := ⟨1, ![32768]⟩
abbrev S32768x1 : Shape := ⟨2, ![32768, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S32768x1024, .f32⟩
  | .hbm, ⟨7, _⟩ => ⟨S32768x1024, .f32⟩
  | .hbm, ⟨8, _⟩ => ⟨S32768x5632, .f32⟩
  | .hbm, ⟨9, _⟩ => ⟨S32768x2816, .f32⟩
  | .hbm, ⟨10, _⟩ => ⟨S32768x2816, .f32⟩
  | .hbm, ⟨11, _⟩ => ⟨S32768x2816, .f32⟩
  | .hbm, ⟨12, _⟩ => ⟨S32768x2816, .f32⟩
  | .hbm, ⟨13, _⟩ => ⟨S_, .f32⟩
  | .hbm, ⟨14, _⟩ => ⟨S32768x2816, .f32⟩
  | .hbm, ⟨15, _⟩ => ⟨S32768x2816, .f32⟩
  | .hbm, ⟨16, _⟩ => ⟨S_, .f32⟩
  | .hbm, ⟨17, _⟩ => ⟨S32768x2816, .f32⟩
  | .hbm, ⟨18, _⟩ => ⟨S32768x2816, .f32⟩
  | .hbm, ⟨19, _⟩ => ⟨S32768x2816, .f32⟩
  | .hbm, ⟨20, _⟩ => ⟨S32768x2816, .f32⟩
  | .hbm, ⟨21, _⟩ => ⟨S32768x1024, .f32⟩
  | .hbm, ⟨22, _⟩ => ⟨S_, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S_, .f32⟩
  | .hbm, ⟨27, _⟩ => ⟨S32768, .f32⟩
  | .hbm, ⟨28, _⟩ => ⟨S32768x1, .f32⟩
  | .hbm, ⟨29, _⟩ => ⟨S_, .f32⟩
  | .hbm, ⟨30, _⟩ => ⟨S32768x1, .f32⟩
  | .hbm, ⟨31, _⟩ => ⟨S32768x1, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S_, .f32⟩
  | .hbm, ⟨36, _⟩ => ⟨S32768, .f32⟩
  | .hbm, ⟨37, _⟩ => ⟨S32768x1, .f32⟩
  | .hbm, ⟨38, _⟩ => ⟨S_, .f32⟩
  | .hbm, ⟨39, _⟩ => ⟨S32768x1, .f32⟩
  | .hbm, ⟨40, _⟩ => ⟨S32768x1, .f32⟩
  | .hbm, ⟨41, _⟩ => ⟨S32768x1024, .f32⟩
  | .hbm, ⟨42, _⟩ => ⟨S32768x1024, .f32⟩
  | .hbm, ⟨43, _⟩ => ⟨S_, .f32⟩
  | .hbm, ⟨44, _⟩ => ⟨S32768x1, .f32⟩
  | .hbm, ⟨45, _⟩ => ⟨S32768x1, .f32⟩
  | .hbm, ⟨46, _⟩ => ⟨S32768x1, .f32⟩
  | .hbm, ⟨47, _⟩ => ⟨S32768x1024, .f32⟩
  | .hbm, ⟨48, _⟩ => ⟨S32768x1024, .f32⟩
  | .hbm, ⟨49, _⟩ => ⟨S1x1024, .f32⟩
  | .hbm, ⟨50, _⟩ => ⟨S32768x1024, .f32⟩
  | .hbm, ⟨51, _⟩ => ⟨S32768x1024, .f32⟩
  | .hbm, ⟨52, _⟩ => ⟨S1x1024, .f32⟩
  | .hbm, ⟨53, _⟩ => ⟨S32768x1024, .f32⟩
  | .hbm, ⟨54, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== Kernel3.lean ====
abbrev S8x4096x1024 : Shape := ⟨3, ![8, 4096, 1024]⟩
abbrev S4096x4096 : Shape := ⟨2, ![4096, 4096]⟩
abbrev S8x4096x512 : Shape := ⟨3, ![8, 4096, 512]⟩
abbrev S1024x6424 : Shape := ⟨2, ![1024, 6424]⟩
abbrev S512x1024 : Shape := ⟨2, ![512, 1024]⟩
abbrev S1024x1024 : Shape := ⟨2, ![1024, 1024]⟩
abbrev S1024 : Shape := ⟨1, ![1024]⟩
abbrev S1024x512 : Shape := ⟨2, ![1024, 512]⟩
abbrev S1024x768 : Shape := ⟨2, ![1024, 768]⟩
abbrev S1024x24 : Shape := ⟨2, ![1024, 24]⟩
abbrev S1024x1536 : Shape := ⟨2, ![1024, 1536]⟩
abbrev S1024x3072 : Shape := ⟨2, ![1024, 3072]⟩
abbrev S8 : Shape := ⟨1, ![8]⟩
abbrev S_ : Shape := ⟨0, ![]⟩
abbrev S1x8x1 : Shape := ⟨3, ![1, 8, 1]⟩
abbrev S1024x8x64 : Shape := ⟨3, ![1024, 8, 64]⟩
abbrev S1024x8x128 : Shape := ⟨3, ![1024, 8, 128]⟩
abbrev S1x1024 : Shape := ⟨2, ![1, 1024]⟩
abbrev S1x512x1024 : Shape := ⟨3, ![1, 512, 1024]⟩
abbrev S512x512 : Shape := ⟨2, ![512, 512]⟩
abbrev S1x512x512 : Shape := ⟨3, ![1, 512, 512]⟩
abbrev S512 : Shape := ⟨1, ![512]⟩
abbrev S512x1 : Shape := ⟨2, ![512, 1]⟩

abbrev nBuf : Space → Nat
  | .hbm => 58
  | .vmem => 17
  | .smem => 0
  | _ => 0

abbrev bufTy : (tb : Table) → Fin (tcTables nBuf tb) → BufTy
  | .hbm, ⟨0, _⟩ => ⟨S8x4096x1024, .f32⟩
  | .hbm, ⟨1, _⟩ => ⟨S4096x4096, .bf16⟩
  | .hbm, ⟨2, _⟩ => ⟨S8x4096x1024, .bf16⟩
  | .hbm, ⟨3, _⟩ => ⟨S8x4096x512, .bf16⟩
  | .hbm, ⟨4, _⟩ => ⟨S1024x6424, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024x512, .f32⟩
  | .hbm, ⟨12, _⟩ => ⟨S1024x512, .f32⟩
  | .hbm, ⟨13, _⟩ => ⟨S1024x768, .f32⟩
  | .hbm, ⟨14, _⟩ => ⟨S1024x24, .f32⟩
  | .hbm, ⟨15, _⟩ => ⟨S1024x1536, .f32⟩
  | .hbm, ⟨16, _⟩ => ⟨S1024x3072, .f32⟩
  | .hbm, ⟨17, _⟩ => ⟨S8, .i32⟩
  | .hbm, ⟨18, _⟩ => ⟨S_, .i32⟩
  | .hbm, ⟨19, _⟩ => ⟨S_, .i32⟩
  | .hbm, ⟨20, _⟩ => ⟨S8, .i32⟩
  | .hbm, ⟨21, _⟩ => ⟨S8, .i32⟩
  | .hbm, ⟨22, _⟩ => ⟨S8, .i32⟩
  | .hbm, ⟨23, _⟩ => ⟨S_, .i32⟩
  | .hbm, ⟨24, _⟩ => ⟨S8, .i32⟩
  | .hbm, ⟨25, _⟩ => ⟨S8, .i1⟩
  | .hbm, ⟨26, _⟩ => ⟨S8, .i32⟩
  | .hbm, ⟨27, _⟩ => ⟨S8, .i32⟩
  | .hbm, ⟨28, _⟩ => ⟨S_, .i32⟩
  | .hbm, ⟨29, _⟩ => ⟨S8, .i32⟩
  | .hbm, ⟨30, _⟩ => ⟨S8, .i1⟩
  | .hbm, ⟨31, _⟩ => ⟨S8, .i1⟩
  | .hbm, ⟨32, _⟩ => ⟨S_, .i32⟩
  | .hbm, ⟨33, _⟩ => ⟨S8, .i32⟩
  | .hbm, ⟨34, _⟩ => ⟨S8, .i32⟩
  | .hbm, ⟨35, _⟩ => ⟨S8, .i32⟩
  | .hbm, ⟨36, _⟩ => ⟨S1x8x1, .i32⟩
  | .hbm, ⟨37, _⟩ => ⟨S1024x512, .f32⟩
  | .hbm, ⟨38, _⟩ => ⟨S1024x8x64, .f32⟩
  | .hbm, ⟨39, _⟩ => ⟨S_, .f32⟩
  | .hbm, ⟨40, _⟩ => ⟨S1024x8x64, .f32⟩
  | .hbm, ⟨41, _⟩ => ⟨S1024x8x128, .f32⟩
  | .hbm, ⟨42, _⟩ => ⟨S1024x8x128, .f32⟩
  | .hbm, ⟨43, _⟩ => ⟨S_, .i32⟩
  | .hbm, ⟨44, _⟩ => ⟨S1x8x1, .i32⟩
  | .hbm, ⟨45, _⟩ => ⟨S1x8x1, .i1⟩
  | .hbm, ⟨46, _⟩ => ⟨S1024x8x128, .i1⟩
  | .hbm, ⟨47, _⟩ => ⟨S1024x8x128, .f32⟩
  | .hbm, ⟨48, _⟩ => ⟨S1024x1024, .f32⟩
  | .hbm, ⟨49, _⟩ => ⟨S1024x1024, .f32⟩
  | .hbm, ⟨50, _⟩ => ⟨S1024x3072, .bf16⟩
  | .hbm, ⟨51, _⟩ => ⟨S512x1024, .bf16⟩
  | .hbm, ⟨52, _⟩ => ⟨S1024x1024, .bf16⟩
  | .hbm, ⟨53, _⟩ => ⟨S512x1024, .bf16⟩
  | .hbm, ⟨54, _⟩ => ⟨S1024x1024, .bf16⟩
  | .hbm, ⟨55, _⟩ => ⟨S1x1024, .f32⟩
  | .hbm, ⟨56, _⟩ => ⟨S1x1024, .f32⟩
  | .hbm, ⟨57, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S512x512, .bf16⟩
  | .local _ .vmem, ⟨3, _⟩ => ⟨S512x512, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x512, .bf16⟩
  | .local _ .vmem, ⟨7, _⟩ => ⟨S1x512x512, .bf16⟩
  | .local _ .vmem, ⟨8, _⟩ => ⟨S1024x3072, .bf16⟩
  | .local _ .vmem, ⟨9, _⟩ => ⟨S512x1024, .bf16⟩
  | .local _ .vmem, ⟨10, _⟩ => ⟨S1024x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1x512x1024, .f32⟩
  | .local _ .vmem, ⟨16, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_c_0 : Ref sig .tc := ⟨.hbm, 43, rfl⟩
abbrev main_v14 : Ref sig .tc := ⟨.hbm, 44, rfl⟩
abbrev main_v15 : Ref sig .tc := ⟨.hbm, 45, rfl⟩
abbrev main_call1_v0 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference3Ideal.lean ====
abbrev S8x4096x1024 : Shape := ⟨3, ![8, 4096, 1024]⟩
abbrev S4096x4096 : Shape := ⟨2, ![4096, 4096]⟩
abbrev S8x4096x512 : Shape := ⟨3, ![8, 4096, 512]⟩
abbrev S1024x6424 : Shape := ⟨2, ![1024, 6424]⟩
abbrev S512x1024 : Shape := ⟨2, ![512, 1024]⟩
abbrev S1024x1024 : Shape := ⟨2, ![1024, 1024]⟩
abbrev S1024 : Shape := ⟨1, ![1024]⟩
abbrev S4096x8x512 : Shape := ⟨3, ![4096, 8, 512]⟩
abbrev S8x4096x8x2x64 : Shape := ⟨5, ![8, 4096, 8, 2, 64]⟩
abbrev S8x4096x4x1x64 : Shape := ⟨5, ![8, 4096, 4, 1, 64]⟩
abbrev S8x4096x4x64 : Shape := ⟨4, ![8, 4096, 4, 64]⟩
abbrev S8x4096x8x64 : Shape := ⟨4, ![8, 4096, 8, 64]⟩
abbrev S8x4096x6424 : Shape := ⟨3, ![8, 4096, 6424]⟩
abbrev S8x4096x768 : Shape := ⟨3, ![8, 4096, 768]⟩
abbrev S8x4096x24 : Shape := ⟨3, ![8, 4096, 24]⟩
abbrev S8x4096x1536 : Shape := ⟨3, ![8, 4096, 1536]⟩
abbrev S8x4096x3072 : Shape := ⟨3, ![8, 4096, 3072]⟩
abbrev S_ : Shape := ⟨0, ![]⟩
abbrev S8x4096x3x1024 : Shape := ⟨4, ![8, 4096, 3, 1024]⟩
abbrev S8x4096x1x1024 : Shape := ⟨4, ![8, 4096, 1, 1024]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 84
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S4096x4096, .bf16⟩
  | .hbm, ⟨2, _⟩ => ⟨S8x4096x1024, .bf16⟩
  | .hbm, ⟨3, _⟩ => ⟨S8x4096x512, .bf16⟩
  | .hbm, ⟨4, _⟩ => ⟨S1024x6424, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S4096x8x512, .bf16⟩
  | .hbm, ⟨12, _⟩ => ⟨S8x4096x512, .bf16⟩
  | .hbm, ⟨13, _⟩ => ⟨S8x4096x8x2x64, .bf16⟩
  | .hbm, ⟨14, _⟩ => ⟨S8x4096x4x1x64, .bf16⟩
  | .hbm, ⟨15, _⟩ => ⟨S8x4096x4x64, .bf16⟩
  | .hbm, ⟨16, _⟩ => ⟨S8x4096x4x1x64, .bf16⟩
  | .hbm, ⟨17, _⟩ => ⟨S8x4096x4x64, .bf16⟩
  | .hbm, ⟨18, _⟩ => ⟨S8x4096x8x64, .bf16⟩
  | .hbm, ⟨19, _⟩ => ⟨S8x4096x512, .bf16⟩
  | .hbm, ⟨20, _⟩ => ⟨S8x4096x6424, .f32⟩
  | .hbm, ⟨21, _⟩ => ⟨S8x4096x512, .f32⟩
  | .hbm, ⟨22, _⟩ => ⟨S8x4096x512, .f32⟩
  | .hbm, ⟨23, _⟩ => ⟨S8x4096x768, .f32⟩
  | .hbm, ⟨24, _⟩ => ⟨S8x4096x24, .f32⟩
  | .hbm, ⟨25, _⟩ => ⟨S8x4096x1536, .f32⟩
  | .hbm, ⟨26, _⟩ => ⟨S8x4096x3072, .f32⟩
  | .hbm, ⟨27, _⟩ => ⟨S8x4096x3072, .f32⟩
  | .hbm, ⟨28, _⟩ => ⟨S8x4096x3072, .f32⟩
  | .hbm, ⟨29, _⟩ => ⟨S_, .f32⟩
  | .hbm, ⟨30, _⟩ => ⟨S8x4096x3072, .f32⟩
  | .hbm, ⟨31, _⟩ => ⟨S8x4096x3072, .f32⟩
  | .hbm, ⟨32, _⟩ => ⟨S_, .f32⟩
  | .hbm, ⟨33, _⟩ => ⟨S8x4096x3072, .f32⟩
  | .hbm, ⟨34, _⟩ => ⟨S8x4096x3072, .f32⟩
  | .hbm, ⟨35, _⟩ => ⟨S8x4096x3x1024, .f32⟩
  | .hbm, ⟨36, _⟩ => ⟨S8x4096x1x1024, .f32⟩
  | .hbm, ⟨37, _⟩ => ⟨S8x4096x1024, .f32⟩
  | .hbm, ⟨38, _⟩ => ⟨S8x4096x1024, .f32⟩
  | .hbm, ⟨39, _⟩ => ⟨S8x4096x1024, .f32⟩
  | .hbm, ⟨40, _⟩ => ⟨S8x4096x1x1024, .f32⟩
  | .hbm, ⟨41, _⟩ => ⟨S8x4096x1024, .f32⟩
  | .hbm, ⟨42, _⟩ => ⟨S8x4096x1024, .f32⟩
  | .hbm, ⟨43, _⟩ => ⟨S8x4096x1024, .f32⟩
  | .hbm, ⟨44, _⟩ => ⟨S8x4096x1024, .f32⟩
  | .hbm, ⟨45, _⟩ => ⟨S8x4096x1x1024, .f32⟩
  | .hbm, ⟨46, _⟩ => ⟨S8x4096x1024, .f32⟩
  | .hbm, ⟨47, _⟩ => ⟨S8x4096x1024, .f32⟩
  | .hbm, ⟨48, _⟩ => ⟨S8x4096x1024, .f32⟩
  | .hbm, ⟨49, _⟩ => ⟨S8x4096x1024, .f32⟩
  | .hbm, ⟨50, _⟩ => ⟨S_, .f32⟩
  | .hbm, ⟨51, _⟩ => ⟨S8x4096x1024, .f32⟩
  | .hbm, ⟨52, _⟩ => ⟨S8x4096x1024, .f32⟩
  | .hbm, ⟨53, _⟩ => ⟨S8x4096x1024, .f32⟩
  | .hbm, ⟨54, _⟩ => ⟨S8x4096x1024, .f32⟩
  | .hbm, ⟨55, _⟩ => ⟨S_, .f32⟩
  | .hbm, ⟨56, _⟩ => ⟨S8x4096, .f32⟩
  | .hbm, ⟨57, _⟩ => ⟨S8x4096x1, .f32⟩
  | .hbm, ⟨58, _⟩ => ⟨S_, .f32⟩
  | .hbm, ⟨59, _⟩ => ⟨S8x4096x1, .f32⟩
  | .hbm, ⟨60, _⟩ => ⟨S8x4096x1, .f32⟩
  | .hbm, ⟨61, _⟩ => ⟨S8x4096x1024, .f32⟩
  | .hbm, ⟨62, _⟩ => ⟨S8x4096x1024, .f32⟩
  | .hbm, ⟨63, _⟩ => ⟨S8x4096x1024, .f32⟩
  | .hbm, ⟨64, _⟩ => ⟨S_, .f32⟩
  | .hbm, ⟨65, _⟩ => ⟨S8x4096, .f32⟩
  | .hbm, ⟨66, _⟩ => ⟨S8x4096x1, .f32⟩
  | .hbm, ⟨67, _⟩ => ⟨S_, .f32⟩
  | .hbm, ⟨68, _⟩ => ⟨S8x4096x1, .f32⟩
  | .hbm, ⟨69, _⟩ => ⟨S8x4096x1, .f32⟩
  | .hbm, ⟨70, _⟩ => ⟨S8x4096x1024, .f32⟩
  | .hbm, ⟨71, _⟩ => ⟨S8x4096x1024, .f32⟩
  | .hbm, ⟨72, _⟩ => ⟨S_, .f32⟩
  | .hbm, ⟨73, _⟩ => ⟨S8x4096x1, .f32⟩
  | .hbm, ⟨74, _⟩ => ⟨S8x4096x1, .f32⟩
  | .hbm, ⟨75, _⟩ => ⟨S8x4096x1, .f32⟩
  | .hbm, ⟨76, _⟩ => ⟨S8x4096x1024, .f32⟩
  | .hbm, ⟨77, _⟩ => ⟨S8x4096x1024, .f32⟩
  | .hbm, ⟨78, _⟩ => ⟨S1x1x1024, .f32⟩
  | .hbm, ⟨79, _⟩ => ⟨S8x4096x1024, .f32⟩
  | .hbm, ⟨80, _⟩ => ⟨S8x4096x1024, .f32⟩
  | .hbm, ⟨81, _⟩ => ⟨S1x1x1024, .f32⟩
  | .hbm, ⟨82, _⟩ => ⟨S8x4096x1024, .f32⟩
  | .hbm, ⟨83, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst : Ref sig .tc := ⟨.hbm, 29, rfl⟩
abbrev main_v18 : Ref sig .tc := ⟨.hbm, 30, rfl⟩
abbrev main_v19 : Ref sig .tc := ⟨.hbm, 31, rfl⟩
abbrev main_cst_0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_1 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_2 : Ref sig .tc := ⟨.hbm, 55, rfl⟩
abbrev main_v41 : Ref sig .tc := ⟨.hbm, 56, rfl⟩
abbrev main_v42 : Ref sig .tc := ⟨.hbm, 57, rfl⟩
abbrev main_cst_3 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_4 : Ref sig .tc := ⟨.hbm, 64, rfl⟩
abbrev main_v48 : Ref sig .tc := ⟨.hbm, 65, rfl⟩
abbrev main_v49 : Ref sig .tc := ⟨.hbm, 66, rfl⟩
abbrev main_cst_5 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_6 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩

abbrev nD : Nat := 1
abbrev τ : Topo := Topo.v7x

variable {F : FTy → Type} [FloatOps F]
-- ==== Proof.S5Spec.lean ====
/-
  The recurrence of the S5 branch over the extended reals: one complex state, carried as its real and imaginary part,
  `s' = a·s + x` at every time step. Both programs of the first algebraic claim are shown to compute `scan`.
-/
module

public import Idealize.ShloMosaic.PureOps.Ideal.Laws

@[expose] public section

noncomputable section

namespace Cert.S5Spec

open Idealize.ShloMosaic

/-- The state (real part, imaginary part) after `k` steps from `s`, with multiplier `ar + i·ai` and inputs
    `xr t + i·xi t`. -/
def scan (ar ai : EReal) (xr xi : ℕ → EReal) (s : EReal × EReal) : ℕ → EReal × EReal
  | 0 => s
  | k + 1 =>
    (ar * (scan ar ai xr xi s k).1 - ai * (scan ar ai xr xi s k).2 + xr k,
      ar * (scan ar ai xr xi s k).2 + ai * (scan ar ai xr xi s k).1 + xi k)

theorem scan_succ (ar ai : EReal) (xr xi : ℕ → EReal) (s : EReal × EReal) (k : ℕ) :
    scan ar ai xr xi s (k + 1)
      = (ar * (scan ar ai xr xi s k).1 - ai * (scan ar ai xr xi s k).2 + xr k,
          ar * (scan ar ai xr xi s k).2 + ai * (scan ar ai xr xi s k).1 + xi k) := rfl

/-- The first `k` states depend on the first `k` inputs alone. -/
theorem scan_congr (ar ai : EReal) {xr xr' xi xi' : ℕ → EReal} (s : EReal × EReal) (n : ℕ)
    (hr : ∀ t < n, xr t = xr' t) (hi : ∀ t < n, xi t = xi' t) :
    ∀ k ≤ n, scan ar ai xr xi s k = scan ar ai xr' xi' s k := by
  intro k
  induction k with
  | zero => intro _; rfl
  | succ k ih =>
    intro h
    rw [scan_succ, scan_succ, ih (by omega), hr k (by omega), hi k (by omega)]

/-- `m + k` steps are `m` steps followed by `k` steps on the later inputs. -/
theorem scan_add (ar ai : EReal) (xr xi : ℕ → EReal) (s : EReal × EReal) (m : ℕ) :
    ∀ k, scan ar ai xr xi s (m + k)
      = scan ar ai (fun t => xr (m + t)) (fun t => xi (m + t)) (scan ar ai xr xi s m) k := by
  intro k
  induction k with
  | zero => rfl
  | succ k ih =>
    show scan ar ai xr xi s ((m + k) + 1) = _
    rw [scan_succ, scan_succ, ih]

end Cert.S5Spec

end
-- ==== Proof.S5Trip.lean ====
/-
  A loop that runs the recurrence down the rows of two scratch arrays. The arrays hold the inputs, row `8·t + b` for
  time `t` and batch row `b`; a trip reads the eight rows of its time in a chunk of 512 columns, takes one step of the
  recurrence from the carried states and stores the new states back over the inputs.
-/
module

public import proofs.«01_k».proof.Proof.Gen.KernelIdeal
public import proofs.«01_k».proof.Proof.S5Spec
public import Idealize.ShloMosaic.Lib.Pointwise
public import Idealize.ShloMosaic.Lib.WritesUnit

@[expose] public section

noncomputable section

namespace Cert.S5Trip

open Cert.KernelIdeal Cert.KernelIdeal.Gen Idealize.ShloMosaic Idealize.ShloMosaic.TcCoe Idealize.SL.Sem
open Cert.S5Spec

/-- The row of time `t` and batch row `b`. -/
def rowOf (t : ℕ) (ht : t < 128) (b : Fin 8) : Fin 1024 := ⟨8 * t + b.val, by omega⟩

/-- Column `q` of the chunk that starts at column `o`. -/
def colOf (o : ℕ) (ho : o + 512 ≤ 2048) (q : Fin 512) : Fin 2048 := ⟨o + q.val, by omega⟩

/-- What a loop has after some trips: the carried states, and the stores made to the two arrays, last first. -/
abbrev State : Type :=
  (FVec Ideal S8x512 .f32 × FVec Ideal S8x512 .f32)
    × List (View.Piece (Elt Ideal) S1024x2048 .f32) × List (View.Piece (Elt Ideal) S1024x2048 .f32)

section

variable (v w : View sig .tc .vmem S1024x2048 .f32) (G : v.ty.Contents (Elt Ideal)) (H : w.ty.Contents (Elt Ideal))

/-- The first array as it stands after the stores of `s`. -/
def arrR (s : State) : S1024x2048.Idx → EReal := v.read (Elt Ideal) (v.writes (Elt Ideal) G s.2.1)
/-- The second array as it stands after the stores of `s`. -/
def arrI (s : State) : S1024x2048.Idx → EReal := w.read (Elt Ideal) (w.writes (Elt Ideal) H s.2.2)

/-- Trip `k` leads from `prev` to `next`: one step of the recurrence on each of the 8×512 states, stored at the rows of
    time `k`. -/
def Trip (ar ai : Fin 8 → Fin 512 → EReal) (o : ℕ) (ho : o + 512 ≤ 2048) (k : ℕ) (hk : k < 128) (prev next : State) :
    Prop :=
  ∃ (off : Fin 2 → ℕ) (inb : ∀ a, off a + S8x512.size a ≤ S1024x2048.size a) (x y : FVec Ideal S8x512 .f32),
    off = ![8 * k, o]
    ∧ next = ((x, y), (⟨Rect.unit off S8x512.size inb, x⟩ : View.Piece (Elt Ideal) S1024x2048 .f32) :: prev.2.1,
        (⟨Rect.unit off S8x512.size inb, y⟩ : View.Piece (Elt Ideal) S1024x2048 .f32) :: prev.2.2)
    ∧ (∀ b q, x (ix2 b q) = ar b q * prev.1.1 (ix2 b q) - ai b q * prev.1.2 (ix2 b q)
        + arrR v G prev (ix2 (rowOf k hk b) (colOf o ho q)))
    ∧ ∀ b q, y (ix2 b q) = ar b q * prev.1.2 (ix2 b q) + ai b q * prev.1.1 (ix2 b q)
        + arrI w H prev (ix2 (rowOf k hk b) (colOf o ho q))

/-- The inputs of state `(b, q)` of the chunk, by time, in an array `X`. -/
def drive (X : S1024x2048.Idx → EReal) (o : ℕ) (ho : o + 512 ≤ 2048) (b : Fin 8) (q : Fin 512) (t : ℕ) : EReal :=
  if ht : t < 128 then X (ix2 (rowOf t ht b) (colOf o ho q)) else 0

variable (ar ai : Fin 8 → Fin 512 → EReal) (o : ℕ) (ho : o + 512 ≤ 2048) (st : ℕ → State)
  (h0 : (st 0).2 = ([], [])) (hs : ∀ k (hk : k < 128), Trip v w G H ar ai o ho k hk (st k) (st (k + 1)))

/-- The states of `(b, q)` by time, from the loop's initial ones. -/
def states (b : Fin 8) (q : Fin 512) : ℕ → EReal × EReal :=
  scan (ar b q) (ai b q) (drive (v.read (Elt Ideal) G) o ho b q) (drive (w.read (Elt Ideal) H) o ho b q)
    ((st 0).1.1 (ix2 b q), (st 0).1.2 (ix2 b q))

include h0 hs

/-- Before trip `k`: the carried states are those after `k` steps; the rows of the times before `k` hold their states
    in the chunk's columns; every other element is as it was. -/
theorem inv : ∀ k ≤ 128,
    (∀ b q, ((st k).1.1 (ix2 b q), (st k).1.2 (ix2 b q)) = states v w G H ar ai o ho st b q k)
    ∧ (∀ t (ht : t < 128) b q, t < k →
        (arrR v G (st k) (ix2 (rowOf t ht b) (colOf o ho q)), arrI w H (st k) (ix2 (rowOf t ht b) (colOf o ho q)))
          = states v w G H ar ai o ho st b q (t + 1))
    ∧ (∀ (r : Fin 1024) (n : Fin 2048), (8 * k ≤ r.val ∨ n.val < o ∨ o + 512 ≤ n.val) →
        arrR v G (st k) (ix2 r n) = v.read (Elt Ideal) G (ix2 r n)
        ∧ arrI w H (st k) (ix2 r n) = w.read (Elt Ideal) H (ix2 r n)) := by
  intro k
  induction k with
  | zero =>
    intro _
    refine ⟨fun b q => rfl, fun t _ _ _ h => absurd h (by omega), fun r n _ => ?_⟩
    unfold arrR arrI
    rw [h0]
    exact ⟨rfl, rfl⟩
  | succ k ih =>
    intro hk'
    have hk : k < 128 := by omega
    obtain ⟨ih1, ih2, ih3⟩ := ih (by omega)
    obtain ⟨off, inb, x, y, hoff, hnext, hx, hy⟩ := hs k hk
    have step : ∀ b q, (x (ix2 b q), y (ix2 b q)) = states v w G H ar ai o ho st b q (k + 1) := by
      intro b q
      have e1 : (st k).1.1 (ix2 b q) = (states v w G H ar ai o ho st b q k).1 := congrArg Prod.fst (ih1 b q)
      have e2 : (st k).1.2 (ix2 b q) = (states v w G H ar ai o ho st b q k).2 := congrArg Prod.snd (ih1 b q)
      obtain ⟨g1, g2⟩ := ih3 (rowOf k hk b) (colOf o ho q) (Or.inl (by simp only [rowOf]; omega))
      rw [hx, hy, e1, e2, g1, g2]
      unfold states
      rw [scan_succ]
      simp only [drive, hk, dif_pos]
    refine ⟨fun b q => ?_, fun t ht b q htk => ?_, fun r n hrn => ?_⟩
    · rw [hnext]; exact step b q
    · by_cases hlast : t = k
      · subst hlast
        rw [← step b q, hnext]
        refine Prod.ext ?_ ?_
        · exact View.read_writes_cons_unit_of_mem v G inb x _ _ (ix2 b q) hoff
            (Fin.forall_fin_two.mpr ⟨rfl, rfl⟩)
        · exact View.read_writes_cons_unit_of_mem w H inb y _ _ (ix2 b q) hoff
            (Fin.forall_fin_two.mpr ⟨rfl, rfl⟩)
      · rw [← ih2 t ht b q (by omega), hnext]
        have miss : (rowOf t ht b).val < (![8 * k, o] : Fin 2 → ℕ) 0
            ∨ (![8 * k, o] : Fin 2 → ℕ) 0 + S8x512.size 0 ≤ (rowOf t ht b).val :=
          Or.inl (show 8 * t + b.val < 8 * k by omega)
        refine Prod.ext ?_ ?_
        · exact View.read_writes_cons_unit_of_not_mem v G inb x _ _ hoff 0 miss
        · exact View.read_writes_cons_unit_of_not_mem w H inb y _ _ hoff 0 miss
    · obtain ⟨g1, g2⟩ := ih3 r n (by omega)
      rw [← g1, ← g2, hnext]
      rcases hrn with h | h
      · have miss : r.val < (![8 * k, o] : Fin 2 → ℕ) 0 ∨ (![8 * k, o] : Fin 2 → ℕ) 0 + S8x512.size 0 ≤ r.val :=
          Or.inr (show 8 * k + 8 ≤ r.val by omega)
        exact ⟨View.read_writes_cons_unit_of_not_mem v G inb x _ _ hoff 0 miss,
          View.read_writes_cons_unit_of_not_mem w H inb y _ _ hoff 0 miss⟩
      · have miss : n.val < (![8 * k, o] : Fin 2 → ℕ) 1 ∨ (![8 * k, o] : Fin 2 → ℕ) 1 + S8x512.size 1 ≤ n.val :=
          (show n.val < o ∨ o + 512 ≤ n.val from h)
        exact ⟨View.read_writes_cons_unit_of_not_mem v G inb x _ _ hoff 1 miss,
          View.read_writes_cons_unit_of_not_mem w H inb y _ _ hoff 1 miss⟩

end

end Cert.S5Trip

end
-- ==== Proof.S5Loops.lean ====
/-
  The four loops of the S5 kernel's body, one per chunk of 512 states, each an instance of the loop read in S5Trip: what
  a trip of the generated recursion does is one step of the recurrence.
-/
module

public import proofs.«01_k».proof.Proof.Gen.KernelIdeal.Loops
public import proofs.«01_k».proof.Proof.S5Trip

@[expose] public section

noncomputable section

namespace Cert.S5Loops

open Cert.KernelIdeal Cert.KernelIdeal.Gen Idealize.ShloMosaic Idealize.ShloMosaic.TcCoe Idealize.SL.Sem
open Cert.S5Trip

theorem trips1 : k0_t1_loop.trips = 128 := by decide +kernel
theorem trips2 : k0_t2_loop.trips = 128 := by decide +kernel
theorem trips3 : k0_t3_loop.trips = 128 := by decide +kernel
theorem trips4 : k0_t4_loop.trips = 128 := by decide +kernel

/-- A read of eight rows through the rectangle at row `8·k` and column `o`. -/
theorem read_chunk (v : View sig .tc .vmem S1024x2048 .f32) (f : v.ty.Contents (Elt Ideal)) (off : Fin 2 → ℕ)
    (inb : ∀ a, off a + S8x512.size a ≤ S1024x2048.size a) (k : ℕ) (hk : k < 128) (o : ℕ) (ho : o + 512 ≤ 2048)
    (hoff : off = ![8 * k, o]) (b : Fin 8) (q : Fin 512) :
    View.readAt (Elt Ideal) v (Rect.unit (s := S1024x2048) off S8x512.size inb).toLoadRect
        f (ix2 b q : S8x512.Idx)
      = v.read (Elt Ideal) f (ix2 (rowOf k hk b) (colOf o ho q)) := by
  rw [View.readAt_apply]
  refine congrArg _ (funext fun a => Fin.ext ?_)
  subst hoff
  fin_cases a
  · show 8 * k + 1 * b.val = 8 * k + b.val
    rw [Nat.one_mul]
  · show o + 1 * q.val = o + q.val
    rw [Nat.one_mul]

/-- The multiplier of a chunk, one row for all batch rows. -/
def row (x : Vec Ideal S1x512 .f32) (_ : Fin 8) (q : Fin 512) : EReal := x (ix2 0 q)
/-- The multiplier of a chunk, already repeated over the batch rows. -/
def rows (x : FVec Ideal S8x512 .f32) (b : Fin 8) (q : Fin 512) : EReal := x (ix2 b q)

/-! What a trip stores is what it carries on. -/

theorem pay51_eq (p q : FVec Ideal S8x512 .f32) (x y : FVec Ideal S8x512 .f32) (z : Vec Ideal S8x512 .f32) :
    k0_pay51 p q x y z = k0_pay49 p q x y z := by
  funext j
  rw [eq_ix2 j]
  unfold k0_pay51
  pointwise

theorem pay52_eq (p q : FVec Ideal S8x512 .f32) (x y : FVec Ideal S8x512 .f32) (z : Vec Ideal S8x512 .f32) :
    k0_pay52 p q x y z = k0_pay50 p q x y z := by
  funext j
  rw [eq_ix2 j]
  unfold k0_pay52
  pointwise

theorem pay59_eq (p q : Vec Ideal S1x512 .f32) (x y : FVec Ideal S8x512 .f32) (z : Vec Ideal S8x512 .f32) :
    k0_pay59 p q x y z = k0_pay57 p q x y z := by
  funext j
  rw [eq_ix2 j]
  unfold k0_pay59
  pointwise

theorem pay60_eq (p q : Vec Ideal S1x512 .f32) (x y : FVec Ideal S8x512 .f32) (z : Vec Ideal S8x512 .f32) :
    k0_pay60 p q x y z = k0_pay58 p q x y z := by
  funext j
  rw [eq_ix2 j]
  unfold k0_pay60
  pointwise

theorem pay67_eq (p : FVec Ideal S8x512 .f32) (q : Vec Ideal S1x512 .f32) (x y : FVec Ideal S8x512 .f32) (z : Vec Ideal S8x512 .f32) :
    k0_pay67 p q x y z = k0_pay65 p q x y z := by
  funext j
  rw [eq_ix2 j]
  unfold k0_pay67
  pointwise

theorem pay68_eq (p : FVec Ideal S8x512 .f32) (q : Vec Ideal S1x512 .f32) (x y : FVec Ideal S8x512 .f32) (z : Vec Ideal S8x512 .f32) :
    k0_pay68 p q x y z = k0_pay66 p q x y z := by
  funext j
  rw [eq_ix2 j]
  unfold k0_pay68
  pointwise

theorem pay75_eq (p q : Vec Ideal S1x512 .f32) (x y : FVec Ideal S8x512 .f32) (z : Vec Ideal S8x512 .f32) :
    k0_pay75 p q x y z = k0_pay73 p q x y z := by
  funext j
  rw [eq_ix2 j]
  unfold k0_pay75
  pointwise

theorem pay76_eq (p q : Vec Ideal S1x512 .f32) (x y : FVec Ideal S8x512 .f32) (z : Vec Ideal S8x512 .f32) :
    k0_pay76 p q x y z = k0_pay74 p q x y z := by
  funext j
  rw [eq_ix2 j]
  unfold k0_pay76
  pointwise

section

variable
  (𝒱 : Variants) (c : Dev nD) (bd : Option 𝒱.V) (i : grid0.Coords) (arg1 : Memref sig .tc .vmem S128x4096 .f32)
  (harg1 : arg1.IsWhole) (arg2 : Memref sig .tc .vmem S8x2048 .f32) (harg2 : arg2.IsWhole)
  (arg3 : Memref sig .tc .vmem S8x2048 .f32) (harg3 : arg3.IsWhole) (arg4 : Memref sig .tc .vmem S1x2048 .f32)
  (harg4 : arg4.IsWhole) (arg5 : Memref sig .tc .vmem S1x2048 .f32) (harg5 : arg5.IsWhole)
  (arg6 : Memref sig .tc .vmem S2x256x1024 .bf16) (harg6 : arg6.IsWhole)
  (arg7 : Memref sig .tc .vmem S2x256x1024 .bf16) (harg7 : arg7.IsWhole)
  (arg8 : Memref sig .tc .vmem S2x1024x256 .bf16) (harg8 : arg8.IsWhole)
  (arg9 : Memref sig .tc .vmem S2x1024x256 .bf16) (harg9 : arg9.IsWhole) (arg10 : Memref sig .tc .vmem S1x512 .f32)
  (harg10 : arg10.IsWhole) (arg11 : Memref sig .tc .vmem S512x512 .bf16) (harg11 : arg11.IsWhole)
  (arg12 : Memref sig .tc .vmem S1x512 .f32) (harg12 : arg12.IsWhole) (arg13 : Memref sig .tc .vmem S128x4096 .bf16)
  (harg13 : arg13.IsWhole) (arg14 : Memref sig .tc .vmem S8x2048 .f32) (harg14 : arg14.IsWhole)
  (arg15 : Memref sig .tc .vmem S8x2048 .f32) (harg15 : arg15.IsWhole) (arg16 : Memref sig .tc .vmem S1024x2048 .f32)
  (harg16 : arg16.IsWhole) (arg17 : Memref sig .tc .vmem S1024x2048 .f32) (harg17 : arg17.IsWhole)
  (arg18 : Memref sig .tc .vmem S4x1024x128 .f32) (harg18 : arg18.IsWhole)
  (arg19 : Memref sig .tc .vmem S4x1024x128 .f32) (harg19 : arg19.IsWhole)
  (v172 : FVec Ideal S8x512 .f32) (v176 : FVec Ideal S8x512 .f32) (v177 : Vec Ideal S8x512 .f32)
  (v185 : Vec Ideal S1x512 .f32) (v189 : Vec Ideal S1x512 .f32) (v204 : FVec Ideal S8x512 .f32)
  (v205 : Vec Ideal S1x512 .f32) (v217 : Vec Ideal S1x512 .f32) (v221 : Vec Ideal S1x512 .f32)
  (G : BufTy.Contents (Elt Ideal) arg16.view.ty) (H : BufTy.Contents (Elt Ideal) arg17.view.ty)
  (init : FVec Ideal S8x512 .f32 × FVec Ideal S8x512 .f32)

/-- The states of loop 1, by trips. -/
abbrev run1 (k : ℕ) : State :=
  st_k0_t1 (F := Ideal) 𝒱 c bd i arg1 harg1 arg2 harg2 arg3 harg3 arg4 harg4 arg5 harg5 arg6 harg6 arg7 harg7 arg8
  harg8 arg9 harg9 arg10 harg10 arg11 harg11 arg12 harg12 arg13 harg13 arg14 harg14 arg15 harg15 arg16 harg16 arg17
  harg17 arg18 harg18 arg19 harg19 v172 v176 v177 G H init k

theorem trip1 (k : ℕ) (hk : k < 128) :
    Trip arg16.view arg17.view G H (rows v172) (rows v176) 0 (by decide) k hk

      (run1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v172 v176 v177 G H init k)
      (run1 𝒱 c bd i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17
      arg18 harg18 arg19 harg19 v172 v176 v177 G H init (k + 1) ) := by
  have hk' : k < k0_t1_loop.trips := trips1 ▸ hk
  have hsucc := st_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
    v172 v176 v177 G H init ⟨k, hk'⟩
  unfold tripR_k0_t1 tripL_k0_t1 trip_k0_t1 at hsucc
  simp only [pay51_eq, pay52_eq] at hsucc
  refine ⟨k0_off1 ⟨k, hk'⟩, k0_off1_inb ⟨k, hk'⟩, _, _, k0_off1_eq ⟨k, hk'⟩, hsucc, fun b q => ?_, fun b q => ?_⟩
  · pointwise [k0_pay49, rows, row]
    rw [read_chunk _ _ _ _ k hk 0 (by decide) (k0_off1_eq ⟨k, hk'⟩)]
    rfl
  · pointwise [k0_pay50, rows, row]
    rw [read_chunk _ _ _ _ k hk 0 (by decide) (k0_off1_eq ⟨k, hk'⟩)]
    rfl

/-- The states of loop 2, by trips. -/
abbrev run2 (k : ℕ) : State :=
  st_k0_t2 (F := Ideal) 𝒱 c bd i arg1 harg1 arg2 harg2 arg3 harg3 arg4 harg4 arg5 harg5 arg6 harg6 arg7 harg7 arg8
  harg8 arg9 harg9 arg10 harg10 arg11 harg11 arg12 harg12 arg13 harg13 arg14 harg14 arg15 harg15 arg16 harg16 arg17
  harg17 arg18 harg18 arg19 harg19 v172 v176 v177 v185 v189 G H init k

theorem trip2 (k : ℕ) (hk : k < 128) :
    Trip arg16.view arg17.view G H (row v185) (row v189) 512 (by decide) k hk

      (run2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v172 v176 v177 v185 v189 G H init k)
      (run2 𝒱 c bd i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17
      arg18 harg18 arg19 harg19 v172 v176 v177 v185 v189 G H init (k + 1) ) := by
  have hk' : k < k0_t2_loop.trips := trips2 ▸ hk
  have hsucc := st_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
    v172 v176 v177 v185 v189 G H init ⟨k, hk'⟩
  unfold tripR_k0_t2 tripL_k0_t2 trip_k0_t2 at hsucc
  simp only [pay59_eq, pay60_eq] at hsucc
  refine ⟨k0_off2 ⟨k, hk'⟩, k0_off2_inb ⟨k, hk'⟩, _, _, k0_off2_eq ⟨k, hk'⟩, hsucc, fun b q => ?_, fun b q => ?_⟩
  · pointwise [k0_pay57, k0_pay53, k0_pay54, rows, row]
    rw [read_chunk _ _ _ _ k hk 512 (by decide) (k0_off2_eq ⟨k, hk'⟩)]
    rfl
  · pointwise [k0_pay58, k0_pay53, k0_pay54, rows, row]
    rw [read_chunk _ _ _ _ k hk 512 (by decide) (k0_off2_eq ⟨k, hk'⟩)]
    rfl

/-- The states of loop 3, by trips. -/
abbrev run3 (k : ℕ) : State :=
  st_k0_t3 (F := Ideal) 𝒱 c bd i arg1 harg1 arg2 harg2 arg3 harg3 arg4 harg4 arg5 harg5 arg6 harg6 arg7 harg7 arg8
  harg8 arg9 harg9 arg10 harg10 arg11 harg11 arg12 harg12 arg13 harg13 arg14 harg14 arg15 harg15 arg16 harg16 arg17
  harg17 arg18 harg18 arg19 harg19 v204 v205 G H init k

theorem trip3 (k : ℕ) (hk : k < 128) :
    Trip arg16.view arg17.view G H (rows v204) (row v205) 1024 (by decide) k hk

      (run3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v204 v205 G H init k)
      (run3 𝒱 c bd i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17
      arg18 harg18 arg19 harg19 v204 v205 G H init (k + 1) ) := by
  have hk' : k < k0_t3_loop.trips := trips3 ▸ hk
  have hsucc := st_k0_t3_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
    v204 v205 G H init ⟨k, hk'⟩
  unfold tripR_k0_t3 tripL_k0_t3 trip_k0_t3 at hsucc
  simp only [pay67_eq, pay68_eq] at hsucc
  refine ⟨k0_off3 ⟨k, hk'⟩, k0_off3_inb ⟨k, hk'⟩, _, _, k0_off3_eq ⟨k, hk'⟩, hsucc, fun b q => ?_, fun b q => ?_⟩
  · pointwise [k0_pay65, k0_pay62, rows, row]
    rw [read_chunk _ _ _ _ k hk 1024 (by decide) (k0_off3_eq ⟨k, hk'⟩)]
    rfl
  · pointwise [k0_pay66, k0_pay62, rows, row]
    rw [read_chunk _ _ _ _ k hk 1024 (by decide) (k0_off3_eq ⟨k, hk'⟩)]
    rfl

/-- The states of loop 4, by trips. -/
abbrev run4 (k : ℕ) : State :=
  st_k0_t4 (F := Ideal) 𝒱 c bd i arg1 harg1 arg2 harg2 arg3 harg3 arg4 harg4 arg5 harg5 arg6 harg6 arg7 harg7 arg8
  harg8 arg9 harg9 arg10 harg10 arg11 harg11 arg12 harg12 arg13 harg13 arg14 harg14 arg15 harg15 arg16 harg16 arg17
  harg17 arg18 harg18 arg19 harg19 v204 v217 v221 G H init k

theorem trip4 (k : ℕ) (hk : k < 128) :
    Trip arg16.view arg17.view G H (row v217) (row v221) 1536 (by decide) k hk

      (run4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v204 v217 v221 G H init k)
      (run4 𝒱 c bd i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17
      arg18 harg18 arg19 harg19 v204 v217 v221 G H init (k + 1) ) := by
  have hk' : k < k0_t4_loop.trips := trips4 ▸ hk
  have hsucc := st_k0_t4_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
    v204 v217 v221 G H init ⟨k, hk'⟩
  unfold tripR_k0_t4 tripL_k0_t4 trip_k0_t4 at hsucc
  simp only [pay75_eq, pay76_eq] at hsucc
  refine ⟨k0_off4 ⟨k, hk'⟩, k0_off4_inb ⟨k, hk'⟩, _, _, k0_off4_eq ⟨k, hk'⟩, hsucc, fun b q => ?_, fun b q => ?_⟩
  · pointwise [k0_pay73, k0_pay69, k0_pay70, rows, row]
    rw [read_chunk _ _ _ _ k hk 1536 (by decide) (k0_off4_eq ⟨k, hk'⟩)]
    rfl
  · pointwise [k0_pay74, k0_pay69, k0_pay70, rows, row]
    rw [read_chunk _ _ _ _ k hk 1536 (by decide) (k0_off4_eq ⟨k, hk'⟩)]
    rfl

end

end Cert.S5Loops

end
-- ==== Proof.S5Chain.lean ====
/-
  The four loops one after another. Each works on its own chunk of 512 columns of the two arrays and finds the other
  columns as the loops before it left them, so at the end every column holds the states of its own recurrence.
-/
module

public import proofs.«01_k».proof.Proof.S5Trip
public import Idealize.ShloMosaic.Lib.Pipeline.FrameBody

@[expose] public section

noncomputable section

namespace Cert.S5Chain

open Cert.KernelIdeal Cert.KernelIdeal.Gen Idealize.ShloMosaic Idealize.ShloMosaic.TcCoe Idealize.SL.Sem
open Cert.S5Spec Cert.S5Trip

/-- The stores made to an array. -/
abbrev Stores : Type := List (View.Piece (Elt Ideal) S1024x2048 .f32)

/-- What an array holds after its stores. -/
abbrev held (L : Stores) : S1024x2048.Idx → EReal := View.canon L

/-- The inputs of state `n` of batch row `b` in an array `X`, by time. -/
def inputs (X : S1024x2048.Idx → EReal) (b : Fin 8) (n : Fin 2048) (t : ℕ) : EReal :=
  if ht : t < 128 then X (ix2 (rowOf t ht b) n) else 0

section

variable (v w : View sig .tc .vmem S1024x2048 .f32) (ar ai : Fin 2048 → EReal)
  (X Y : S1024x2048.Idx → EReal) (init : Fin 8 → Fin 2048 → EReal × EReal)

/-- State `n` of batch row `b` after `k` steps, with the inputs in `X` and `Y`. -/
def states (b : Fin 8) (n : Fin 2048) : ℕ → EReal × EReal :=
  scan (ar n) (ai n) (inputs X b n) (inputs Y b n) (init b n)

/-- What a loop on the chunk at column `o` needs and is: it starts from the chunk's initial states, and its trips are
    steps of the recurrence. -/
structure Link (o : ℕ) (ho : o + 512 ≤ 2048) (L M : Stores) (st : ℕ → State) : Prop where
  stores : (st 0).2 = ([], [])
  start : ∀ b q, ((st 0).1.1 (ix2 b q), (st 0).1.2 (ix2 b q)) = init b (colOf o ho q)
  steps : ∀ k (hk : k < 128),
    Trip v w (v.writes (Elt Ideal) v.junk L) (w.writes (Elt Ideal) w.junk M)
      (fun _ q => ar (colOf o ho q)) (fun _ q => ai (colOf o ho q)) o ho k hk (st k) (st (k + 1))

variable {v w ar ai X Y init}

theorem arr_eq (L : Stores) (s : State) :
    arrR v (v.writes (Elt Ideal) v.junk L) s = held (s.2.1 ++ L) := by
  unfold arrR held
  rw [← View.writes_append, View.read_writes_junk_eq_canon]

theorem arrI_eq (M : Stores) (s : State) :
    arrI w (w.writes (Elt Ideal) w.junk M) s = held (s.2.2 ++ M) := by
  unfold arrI held
  rw [← View.writes_append, View.read_writes_junk_eq_canon]

/-- A loop whose chunk still holds the inputs leaves the states in its chunk, carries the last ones, and leaves the other
    columns alone. -/
theorem link {o : ℕ} {ho : o + 512 ≤ 2048} {L M : Stores} {st : ℕ → State}
    (h : Link v w ar ai init o ho L M st)
    (hX : ∀ r q, held L (ix2 r (colOf o ho q)) = X (ix2 r (colOf o ho q)))
    (hY : ∀ r q, held M (ix2 r (colOf o ho q)) = Y (ix2 r (colOf o ho q))) :
    (∀ b q, ((st 128).1.1 (ix2 b q), (st 128).1.2 (ix2 b q)) = states ar ai X Y init b (colOf o ho q) 128)
    ∧ (∀ t (ht : t < 128) b q,
        (held ((st 128).2.1 ++ L) (ix2 (rowOf t ht b) (colOf o ho q)),
          held ((st 128).2.2 ++ M) (ix2 (rowOf t ht b) (colOf o ho q)))
          = states ar ai X Y init b (colOf o ho q) (t + 1))
    ∧ (∀ (r : Fin 1024) (n : Fin 2048), (n.val < o ∨ o + 512 ≤ n.val) →
        held ((st 128).2.1 ++ L) (ix2 r n) = held L (ix2 r n)
        ∧ held ((st 128).2.2 ++ M) (ix2 r n) = held M (ix2 r n)) := by
  have key : ∀ b q, S5Trip.states v w (v.writes (Elt Ideal) v.junk L) (w.writes (Elt Ideal) w.junk M)
      (fun _ q => ar (colOf o ho q)) (fun _ q => ai (colOf o ho q)) o ho st b q
        = states ar ai X Y init b (colOf o ho q) := by
    intro b q
    unfold S5Trip.states states
    rw [h.start, View.read_writes_junk_eq_canon, View.read_writes_junk_eq_canon]
    have e1 : drive (View.canon L) o ho b q = inputs X b (colOf o ho q) := by
      funext t
      unfold drive inputs
      split
      · exact hX _ _
      · rfl
    have e2 : drive (View.canon M) o ho b q = inputs Y b (colOf o ho q) := by
      funext t
      unfold drive inputs
      split
      · exact hY _ _
      · rfl
    rw [e1, e2]
  obtain ⟨g1, g2, g3⟩ := inv v w _ _ _ _ o ho st h.stores h.steps 128 le_rfl
  refine ⟨fun b q => ?_, fun t ht b q => ?_, fun r n hn => ?_⟩
  · rw [g1, key]
  · rw [← arr_eq (v := v), ← arrI_eq (w := w), g2 t ht b q ht, key]
  · rw [← arr_eq (v := v), ← arrI_eq (w := w)]
    obtain ⟨e1, e2⟩ := g3 r n (Or.inr hn)
    rw [e1, e2, View.read_writes_junk_eq_canon, View.read_writes_junk_eq_canon]
    exact ⟨rfl, rfl⟩

/-- The column `n` lies in the chunk at `o`. -/
theorem col_eq (o : ℕ) (ho : o + 512 ≤ 2048) (n : Fin 2048) (h1 : o ≤ n.val) (h2 : n.val < o + 512) :
    n = colOf o ho ⟨n.val - o, by omega⟩ := Fin.ext (show n.val = o + (n.val - o) by omega)

variable {L M : Stores} {s1 s2 s3 s4 : ℕ → State}

/-- After the four loops: every column holds its states by time, and the four loops carry the last states of their
    chunks. -/
theorem chain {e1 e2 e3 e4 : State} (q1 : s1 128 = e1) (q2 : s2 128 = e2) (q3 : s3 128 = e3) (q4 : s4 128 = e4)
    (h1 : Link v w ar ai init 0 (by decide) L M s1)
    (h2 : Link v w ar ai init 512 (by decide) (e1.2.1 ++ L) (e1.2.2 ++ M) s2)
    (h3 : Link v w ar ai init 1024 (by decide) (e2.2.1 ++ (e1.2.1 ++ L))
      (e2.2.2 ++ (e1.2.2 ++ M)) s3)
    (h4 : Link v w ar ai init 1536 (by decide) (e3.2.1 ++ (e2.2.1 ++ (e1.2.1 ++ L)))
      (e3.2.2 ++ (e2.2.2 ++ (e1.2.2 ++ M))) s4) :
    (∀ t (ht : t < 128) b n,
      (held (e4.2.1 ++ (e3.2.1 ++ (e2.2.1 ++ (e1.2.1 ++ L)))) (ix2 (rowOf t ht b) n),
        held (e4.2.2 ++ (e3.2.2 ++ (e2.2.2 ++ (e1.2.2 ++ M)))) (ix2 (rowOf t ht b) n))
        = states ar ai (held L) (held M) init b n (t + 1))
    ∧ (∀ b q, (e1.1.1 (ix2 b q), e1.1.2 (ix2 b q))
        = states ar ai (held L) (held M) init b (colOf 0 (by decide) q) 128)
    ∧ (∀ b q, (e2.1.1 (ix2 b q), e2.1.2 (ix2 b q))
        = states ar ai (held L) (held M) init b (colOf 512 (by decide) q) 128)
    ∧ (∀ b q, (e3.1.1 (ix2 b q), e3.1.2 (ix2 b q))
        = states ar ai (held L) (held M) init b (colOf 1024 (by decide) q) 128)
    ∧ (∀ b q, (e4.1.1 (ix2 b q), e4.1.2 (ix2 b q))
        = states ar ai (held L) (held M) init b (colOf 1536 (by decide) q) 128) := by
  subst q1 q2 q3 q4
  obtain ⟨c1, f1, k1⟩ := link (X := held L) (Y := held M) h1 (fun _ _ => rfl) (fun _ _ => rfl)
  have u1 : ∀ r (n : Fin 2048), 512 ≤ n.val → _ := fun r n hn => k1 r n (Or.inr (by omega))
  obtain ⟨c2, f2, k2⟩ := link (X := held L) (Y := held M) h2
    (fun r q => (u1 r _ (show 512 ≤ 512 + q.val by omega)).1) (fun r q => (u1 r _ (show 512 ≤ 512 + q.val by omega)).2)
  have u2 : ∀ r (n : Fin 2048), 1024 ≤ n.val → _ ∧ _ := fun r n hn =>
    ⟨(k2 r n (Or.inr (by omega))).1.trans (u1 r n (by omega)).1,
      (k2 r n (Or.inr (by omega))).2.trans (u1 r n (by omega)).2⟩
  obtain ⟨c3, f3, k3⟩ := link (X := held L) (Y := held M) h3
    (fun r q => (u2 r _ (show 1024 ≤ 1024 + q.val by omega)).1)
    (fun r q => (u2 r _ (show 1024 ≤ 1024 + q.val by omega)).2)
  have u3 : ∀ r (n : Fin 2048), 1536 ≤ n.val → _ ∧ _ := fun r n hn =>
    ⟨(k3 r n (Or.inr (by omega))).1.trans (u2 r n (by omega)).1,
      (k3 r n (Or.inr (by omega))).2.trans (u2 r n (by omega)).2⟩
  obtain ⟨c4, f4, k4⟩ := link (X := held L) (Y := held M) h4
    (fun r q => (u3 r _ (show 1536 ≤ 1536 + q.val by omega)).1)
    (fun r q => (u3 r _ (show 1536 ≤ 1536 + q.val by omega)).2)
  refine ⟨fun t ht b n => ?_, c1, c2, c3, c4⟩
  have hn := n.isLt
  by_cases n4 : 1536 ≤ n.val
  · rw [col_eq 1536 (by decide) n n4 (by omega)]
    exact f4 t ht b _
  rw [(k4 _ n (Or.inl (by omega))).1, (k4 _ n (Or.inl (by omega))).2]
  by_cases n3 : 1024 ≤ n.val
  · rw [col_eq 1024 (by decide) n n3 (by omega)]
    exact f3 t ht b _
  rw [(k3 _ n (Or.inl (by omega))).1, (k3 _ n (Or.inl (by omega))).2]
  by_cases n2 : 512 ≤ n.val
  · rw [col_eq 512 (by decide) n n2 (by omega)]
    exact f2 t ht b _
  rw [(k2 _ n (Or.inl (by omega))).1, (k2 _ n (Or.inl (by omega))).2]
  rw [col_eq 0 (by decide) n (Nat.zero_le _) (by omega)]
  exact f1 t ht b _

end

end Cert.S5Chain

end
-- ==== Proof.S5States.lean ====
/-
  The four loops of the body in turn, as the body runs them: each starts from the stores of the loops before it and from
  its chunk of the kept states.
-/
module

public import proofs.«01_k».proof.Proof.S5Loops
public import proofs.«01_k».proof.Proof.S5Chain

@[expose] public section

noncomputable section

namespace Cert.S5States

open Cert.KernelIdeal Cert.KernelIdeal.Gen Idealize.ShloMosaic Idealize.ShloMosaic.TcCoe Idealize.SL.Sem
open Cert.S5Spec Cert.S5Trip Cert.S5Loops Cert.S5Chain

theorem chunk1 : 0 + 512 ≤ 2048 := by decide

theorem chunk2 : 512 + 512 ≤ 2048 := by decide

theorem chunk3 : 1024 + 512 ≤ 2048 := by decide

theorem chunk4 : 1536 + 512 ≤ 2048 := by decide

section

variable
  (c : Dev nD) (i : grid0.Coords) (arg1 : Memref sig .tc .vmem S128x4096 .f32)
  (harg1 : arg1.IsWhole) (arg2 : Memref sig .tc .vmem S8x2048 .f32) (harg2 : arg2.IsWhole)
  (arg3 : Memref sig .tc .vmem S8x2048 .f32) (harg3 : arg3.IsWhole) (arg4 : Memref sig .tc .vmem S1x2048 .f32)
  (harg4 : arg4.IsWhole) (arg5 : Memref sig .tc .vmem S1x2048 .f32) (harg5 : arg5.IsWhole)
  (arg6 : Memref sig .tc .vmem S2x256x1024 .bf16) (harg6 : arg6.IsWhole)
  (arg7 : Memref sig .tc .vmem S2x256x1024 .bf16) (harg7 : arg7.IsWhole)
  (arg8 : Memref sig .tc .vmem S2x1024x256 .bf16) (harg8 : arg8.IsWhole)
  (arg9 : Memref sig .tc .vmem S2x1024x256 .bf16) (harg9 : arg9.IsWhole) (arg10 : Memref sig .tc .vmem S1x512 .f32)
  (harg10 : arg10.IsWhole) (arg11 : Memref sig .tc .vmem S512x512 .bf16) (harg11 : arg11.IsWhole)
  (arg12 : Memref sig .tc .vmem S1x512 .f32) (harg12 : arg12.IsWhole) (arg13 : Memref sig .tc .vmem S128x4096 .bf16)
  (harg13 : arg13.IsWhole) (arg14 : Memref sig .tc .vmem S8x2048 .f32) (harg14 : arg14.IsWhole)
  (arg15 : Memref sig .tc .vmem S8x2048 .f32) (harg15 : arg15.IsWhole) (arg16 : Memref sig .tc .vmem S1024x2048 .f32)
  (harg16 : arg16.IsWhole) (arg17 : Memref sig .tc .vmem S1024x2048 .f32) (harg17 : arg17.IsWhole)
  (arg18 : Memref sig .tc .vmem S4x1024x128 .f32) (harg18 : arg18.IsWhole)
  (arg19 : Memref sig .tc .vmem S4x1024x128 .f32) (harg19 : arg19.IsWhole)
  (v172 : FVec Ideal S8x512 .f32) (v176 : FVec Ideal S8x512 .f32) (v177 : Vec Ideal S8x512 .f32)
  (v185 : Vec Ideal S1x512 .f32) (v189 : Vec Ideal S1x512 .f32) (v204 : FVec Ideal S8x512 .f32)
  (v205 : Vec Ideal S1x512 .f32) (v217 : Vec Ideal S1x512 .f32) (v221 : Vec Ideal S1x512 .f32)
  (P Q : Stores) (i1 i2 i3 i4 : FVec Ideal S8x512 .f32 × FVec Ideal S8x512 .f32)

/-- Loop 1 after `k` trips. -/
abbrev at1 (k : ℕ) : State :=
  run1 Variants.none c none i arg1 harg1 arg2 harg2 arg3 harg3 arg4 harg4 arg5 harg5 arg6 harg6 arg7 harg7 arg8 harg8
  arg9 harg9 arg10 harg10 arg11 harg11 arg12 harg12 arg13 harg13 arg14 harg14 arg15 harg15 arg16 harg16 arg17 harg17
  arg18 harg18 arg19 harg19 v172 v176 v177 (arg16.view.writes (Elt Ideal) arg16.view.junk P) (arg17.view.writes (Elt
  Ideal) arg17.view.junk Q) i1 k

/-- Loop 1 at its end. -/
abbrev end1 : State :=
  at1 c i arg1 harg1 arg2 harg2 arg3 harg3 arg4 harg4 arg5 harg5 arg6 harg6 arg7 harg7 arg8 harg8 arg9 harg9 arg10
  harg10 arg11 harg11 arg12 harg12 arg13 harg13 arg14 harg14 arg15 harg15 arg16 harg16 arg17 harg17 arg18 harg18
  arg19 harg19 v172 v176 v177 P Q i1 k0_t1_loop.trips

/-- Loop 2 after `k` trips. -/
abbrev at2 (k : ℕ) : State :=
  run2 Variants.none c none i arg1 harg1 arg2 harg2 arg3 harg3 arg4 harg4 arg5 harg5 arg6 harg6 arg7 harg7 arg8 harg8
  arg9 harg9 arg10 harg10 arg11 harg11 arg12 harg12 arg13 harg13 arg14 harg14 arg15 harg15 arg16 harg16 arg17 harg17
  arg18 harg18 arg19 harg19 v172 v176 v177 v185 v189 (arg16.view.writes (Elt Ideal) arg16.view.junk ((end1 c i arg1
  harg1 arg2 harg2 arg3 harg3 arg4 harg4 arg5 harg5 arg6 harg6 arg7 harg7 arg8 harg8 arg9 harg9 arg10 harg10 arg11
  harg11 arg12 harg12 arg13 harg13 arg14 harg14 arg15 harg15 arg16 harg16 arg17 harg17 arg18 harg18 arg19 harg19 v172
  v176 v177 P Q i1).2.1 ++ P)) (arg17.view.writes (Elt Ideal) arg17.view.junk ((end1 c i arg1 harg1 arg2 harg2 arg3
  harg3 arg4 harg4 arg5 harg5 arg6 harg6 arg7 harg7 arg8 harg8 arg9 harg9 arg10 harg10 arg11 harg11 arg12 harg12
  arg13 harg13 arg14 harg14 arg15 harg15 arg16 harg16 arg17 harg17 arg18 harg18 arg19 harg19 v172 v176 v177 P Q
  i1).2.2 ++ Q)) i2 k

/-- Loop 2 at its end. -/
abbrev end2 : State :=
  at2 c i arg1 harg1 arg2 harg2 arg3 harg3 arg4 harg4 arg5 harg5 arg6 harg6 arg7 harg7 arg8 harg8 arg9 harg9 arg10
  harg10 arg11 harg11 arg12 harg12 arg13 harg13 arg14 harg14 arg15 harg15 arg16 harg16 arg17 harg17 arg18 harg18
  arg19 harg19 v172 v176 v177 v185 v189 P Q i1 i2 k0_t2_loop.trips

/-- Loop 3 after `k` trips. -/
abbrev at3 (k : ℕ) : State :=
  run3 Variants.none c none i arg1 harg1 arg2 harg2 arg3 harg3 arg4 harg4 arg5 harg5 arg6 harg6 arg7 harg7 arg8 harg8
  arg9 harg9 arg10 harg10 arg11 harg11 arg12 harg12 arg13 harg13 arg14 harg14 arg15 harg15 arg16 harg16 arg17 harg17
  arg18 harg18 arg19 harg19 v204 v205 (arg16.view.writes (Elt Ideal) arg16.view.junk ((end2 c i arg1 harg1 arg2 harg2
  arg3 harg3 arg4 harg4 arg5 harg5 arg6 harg6 arg7 harg7 arg8 harg8 arg9 harg9 arg10 harg10 arg11 harg11 arg12 harg12
  arg13 harg13 arg14 harg14 arg15 harg15 arg16 harg16 arg17 harg17 arg18 harg18 arg19 harg19 v172 v176 v177 v185 v189
  P Q i1 i2).2.1 ++ ((end1 c i arg1 harg1 arg2 harg2 arg3 harg3 arg4 harg4 arg5 harg5 arg6 harg6 arg7 harg7 arg8
  harg8 arg9 harg9 arg10 harg10 arg11 harg11 arg12 harg12 arg13 harg13 arg14 harg14 arg15 harg15 arg16 harg16 arg17
  harg17 arg18 harg18 arg19 harg19 v172 v176 v177 P Q i1).2.1 ++ P))) (arg17.view.writes (Elt Ideal) arg17.view.junk
  ((end2 c i arg1 harg1 arg2 harg2 arg3 harg3 arg4 harg4 arg5 harg5 arg6 harg6 arg7 harg7 arg8 harg8 arg9 harg9 arg10
  harg10 arg11 harg11 arg12 harg12 arg13 harg13 arg14 harg14 arg15 harg15 arg16 harg16 arg17 harg17 arg18 harg18
  arg19 harg19 v172 v176 v177 v185 v189 P Q i1 i2).2.2 ++ ((end1 c i arg1 harg1 arg2 harg2 arg3 harg3 arg4 harg4 arg5
  harg5 arg6 harg6 arg7 harg7 arg8 harg8 arg9 harg9 arg10 harg10 arg11 harg11 arg12 harg12 arg13 harg13 arg14 harg14
  arg15 harg15 arg16 harg16 arg17 harg17 arg18 harg18 arg19 harg19 v172 v176 v177 P Q i1).2.2 ++ Q))) i3 k

/-- Loop 3 at its end. -/
abbrev end3 : State :=
  at3 c i arg1 harg1 arg2 harg2 arg3 harg3 arg4 harg4 arg5 harg5 arg6 harg6 arg7 harg7 arg8 harg8 arg9 harg9 arg10
  harg10 arg11 harg11 arg12 harg12 arg13 harg13 arg14 harg14 arg15 harg15 arg16 harg16 arg17 harg17 arg18 harg18
  arg19 harg19 v172 v176 v177 v185 v189 v204 v205 P Q i1 i2 i3 k0_t3_loop.trips

/-- Loop 4 after `k` trips. -/
abbrev at4 (k : ℕ) : State :=
  run4 Variants.none c none i arg1 harg1 arg2 harg2 arg3 harg3 arg4 harg4 arg5 harg5 arg6 harg6 arg7 harg7 arg8 harg8
  arg9 harg9 arg10 harg10 arg11 harg11 arg12 harg12 arg13 harg13 arg14 harg14 arg15 harg15 arg16 harg16 arg17 harg17
  arg18 harg18 arg19 harg19 v204 v217 v221 (arg16.view.writes (Elt Ideal) arg16.view.junk ((end3 c i arg1 harg1 arg2
  harg2 arg3 harg3 arg4 harg4 arg5 harg5 arg6 harg6 arg7 harg7 arg8 harg8 arg9 harg9 arg10 harg10 arg11 harg11 arg12
  harg12 arg13 harg13 arg14 harg14 arg15 harg15 arg16 harg16 arg17 harg17 arg18 harg18 arg19 harg19 v172 v176 v177
  v185 v189 v204 v205 P Q i1 i2 i3).2.1 ++ ((end2 c i arg1 harg1 arg2 harg2 arg3 harg3 arg4 harg4 arg5 harg5 arg6
  harg6 arg7 harg7 arg8 harg8 arg9 harg9 arg10 harg10 arg11 harg11 arg12 harg12 arg13 harg13 arg14 harg14 arg15
  harg15 arg16 harg16 arg17 harg17 arg18 harg18 arg19 harg19 v172 v176 v177 v185 v189 P Q i1 i2).2.1 ++ ((end1 c i
  arg1 harg1 arg2 harg2 arg3 harg3 arg4 harg4 arg5 harg5 arg6 harg6 arg7 harg7 arg8 harg8 arg9 harg9 arg10 harg10
  arg11 harg11 arg12 harg12 arg13 harg13 arg14 harg14 arg15 harg15 arg16 harg16 arg17 harg17 arg18 harg18 arg19
  harg19 v172 v176 v177 P Q i1).2.1 ++ P)))) (arg17.view.writes (Elt Ideal) arg17.view.junk ((end3 c i arg1 harg1
  arg2 harg2 arg3 harg3 arg4 harg4 arg5 harg5 arg6 harg6 arg7 harg7 arg8 harg8 arg9 harg9 arg10 harg10 arg11 harg11
  arg12 harg12 arg13 harg13 arg14 harg14 arg15 harg15 arg16 harg16 arg17 harg17 arg18 harg18 arg19 harg19 v172 v176
  v177 v185 v189 v204 v205 P Q i1 i2 i3).2.2 ++ ((end2 c i arg1 harg1 arg2 harg2 arg3 harg3 arg4 harg4 arg5 harg5
  arg6 harg6 arg7 harg7 arg8 harg8 arg9 harg9 arg10 harg10 arg11 harg11 arg12 harg12 arg13 harg13 arg14 harg14 arg15
  harg15 arg16 harg16 arg17 harg17 arg18 harg18 arg19 harg19 v172 v176 v177 v185 v189 P Q i1 i2).2.2 ++ ((end1 c i
  arg1 harg1 arg2 harg2 arg3 harg3 arg4 harg4 arg5 harg5 arg6 harg6 arg7 harg7 arg8 harg8 arg9 harg9 arg10 harg10
  arg11 harg11 arg12 harg12 arg13 harg13 arg14 harg14 arg15 harg15 arg16 harg16 arg17 harg17 arg18 harg18 arg19
  harg19 v172 v176 v177 P Q i1).2.2 ++ Q)))) i4 k

/-- Loop 4 at its end. -/
abbrev end4 : State :=
  at4 c i arg1 harg1 arg2 harg2 arg3 harg3 arg4 harg4 arg5 harg5 arg6 harg6 arg7 harg7 arg8 harg8 arg9 harg9 arg10
  harg10 arg11 harg11 arg12 harg12 arg13 harg13 arg14 harg14 arg15 harg15 arg16 harg16 arg17 harg17 arg18 harg18
  arg19 harg19 v172 v176 v177 v185 v189 v204 v205 v217 v221 P Q i1 i2 i3 i4 k0_t4_loop.trips

variable (ar ai : Fin 2048 → EReal) (init : Fin 8 → Fin 2048 → EReal × EReal)
  (hr1 : ∀ b q, rows v172 b q = ar (colOf 0 chunk1 q))
  (hi1 : ∀ b q, rows v176 b q = ai (colOf 0 chunk1 q))
  (hs1 : ∀ b q, (i1.1 (ix2 b q), i1.2 (ix2 b q)) = init b (colOf 0 chunk1 q))
  (hr2 : ∀ b q, row v185 b q = ar (colOf 512 chunk2 q))
  (hi2 : ∀ b q, row v189 b q = ai (colOf 512 chunk2 q))
  (hs2 : ∀ b q, (i2.1 (ix2 b q), i2.2 (ix2 b q)) = init b (colOf 512 chunk2 q))
  (hr3 : ∀ b q, rows v204 b q = ar (colOf 1024 chunk3 q))
  (hi3 : ∀ b q, row v205 b q = ai (colOf 1024 chunk3 q))
  (hs3 : ∀ b q, (i3.1 (ix2 b q), i3.2 (ix2 b q)) = init b (colOf 1024 chunk3 q))
  (hr4 : ∀ b q, row v217 b q = ar (colOf 1536 chunk4 q))
  (hi4 : ∀ b q, row v221 b q = ai (colOf 1536 chunk4 q))
  (hs4 : ∀ b q, (i4.1 (ix2 b q), i4.2 (ix2 b q)) = init b (colOf 1536 chunk4 q))

include hr1 hi1 hs1 hr2 hi2 hs2 hr3 hi3 hs3 hr4 hi4 hs4

/-- After the four loops: every column holds its states by time, and each loop carries the last states of its chunk. -/
theorem loops :
    (∀ t (ht : t < 128) b n,
      (held ((end4 c i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17
      arg18 harg18 arg19 harg19 v172 v176 v177 v185 v189 v204 v205 v217 v221 P Q i1 i2 i3 i4).2.1 ++ ((end3 c i arg1
      harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19
      harg19 v172 v176 v177 v185 v189 v204 v205 P Q i1 i2 i3).2.1 ++ ((end2 c i arg1 harg1 arg2 harg2 arg3 harg3 arg4
      harg4 arg5 harg5 arg6 harg6 arg7 harg7 arg8 harg8 arg9 harg9 arg10 harg10 arg11 harg11 arg12 harg12 arg13
      harg13 arg14 harg14 arg15 harg15 arg16 harg16 arg17 harg17 arg18 harg18 arg19 harg19 v172 v176 v177 v185 v189 P
      Q i1 i2).2.1 ++ ((end1 c i arg1 harg1 arg2 harg2 arg3 harg3 arg4 harg4 arg5 harg5 arg6 harg6 arg7 harg7 arg8
      harg8 arg9 harg9 arg10 harg10 arg11 harg11 arg12 harg12 arg13 harg13 arg14 harg14 arg15 harg15 arg16 harg16
      arg17 harg17 arg18 harg18 arg19 harg19 v172 v176 v177 P Q i1).2.1 ++ P)))) (ix2 (rowOf t ht b) n), held ((end4
      c i arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18 harg18
      arg19 harg19 v172 v176 v177 v185 v189 v204 v205 v217 v221 P Q i1 i2 i3 i4).2.2 ++ ((end3 c i arg1 harg1 arg2
      harg2 arg3 harg3 arg4 harg4 arg5 harg5 arg6 harg6 arg7 harg7 arg8 harg8 arg9 harg9 arg10 harg10 arg11 harg11
      arg12 harg12 arg13 harg13 arg14 harg14 arg15 harg15 arg16 harg16 arg17 harg17 arg18 harg18 arg19 harg19 v172
      v176 v177 v185 v189 v204 v205 P Q i1 i2 i3).2.2 ++ ((end2 c i arg1 harg1 arg2 harg2 arg3 harg3 arg4 harg4 arg5
      harg5 arg6 harg6 arg7 harg7 arg8 harg8 arg9 harg9 arg10 harg10 arg11 harg11 arg12 harg12 arg13 harg13 arg14
      harg14 arg15 harg15 arg16 harg16 arg17 harg17 arg18 harg18 arg19 harg19 v172 v176 v177 v185 v189 P Q i1 i2).2.2
      ++ ((end1 c i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17
      arg18 harg18 arg19 harg19 v172 v176 v177 P Q i1).2.2 ++ Q)))) (ix2 (rowOf t ht b) n)) = states ar ai (held P)
      (held Q) init b n (t + 1))
      ∧ (∀ b q, ((end1 c i arg1 harg1 arg2 harg2 arg3 harg3 arg4 harg4 arg5 harg5 arg6 harg6 arg7 harg7 arg8 harg8
      arg9 harg9 arg10 harg10 arg11 harg11 arg12 harg12 arg13 harg13 arg14 harg14 arg15 harg15 arg16 harg16 arg17
      harg17 arg18 harg18 arg19 harg19 v172 v176 v177 P Q i1).1.1 (ix2 b q), (end1 c i arg1 harg1 arg2 harg2 arg3
      harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 v172 v176 v177 P Q
      i1).1.2 (ix2 b q)) = states ar ai (held P) (held Q) init b (colOf 0 chunk1 q) 128)
      ∧ (∀ b q, ((end2 c i arg1 harg1 arg2 harg2 arg3 harg3 arg4 harg4 arg5 harg5 arg6 harg6 arg7 harg7 arg8 harg8
      arg9 harg9 arg10 harg10 arg11 harg11 arg12 harg12 arg13 harg13 arg14 harg14 arg15 harg15 arg16 harg16 arg17
      harg17 arg18 harg18 arg19 harg19 v172 v176 v177 v185 v189 P Q i1 i2).1.1 (ix2 b q), (end2 c i arg1 harg1 arg2
      harg2 arg3 harg3 arg4 harg4 arg5 harg5 arg6 harg6 arg7 harg7 arg8 harg8 arg9 harg9 arg10 harg10 arg11 harg11
      arg12 harg12 arg13 harg13 arg14 harg14 arg15 harg15 arg16 harg16 arg17 harg17 arg18 harg18 arg19 harg19 v172
      v176 v177 v185 v189 P Q i1 i2).1.2 (ix2 b q)) = states ar ai (held P) (held Q) init b (colOf 512 chunk2 q)
      128)
      ∧ (∀ b q, ((end3 c i arg1 harg1 arg2 harg2 arg3 harg3 arg4 harg4 arg5 harg5 arg6 harg6 arg7 harg7 arg8 harg8
      arg9 harg9 arg10 harg10 arg11 harg11 arg12 harg12 arg13 harg13 arg14 harg14 arg15 harg15 arg16 harg16 arg17
      harg17 arg18 harg18 arg19 harg19 v172 v176 v177 v185 v189 v204 v205 P Q i1 i2 i3).1.1 (ix2 b q), (end3 c i arg1
      harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19
      harg19 v172 v176 v177 v185 v189 v204 v205 P Q i1 i2 i3).1.2 (ix2 b q)) = states ar ai (held P) (held Q) init b
      (colOf 1024 chunk3 q) 128)
      ∧ (∀ b q, ((end4 c i arg1 harg1 arg2 harg2 arg3 harg3 arg4 harg4 arg5 harg5 arg6 harg6 arg7 harg7 arg8 harg8
      arg9 harg9 arg10 harg10 arg11 harg11 arg12 harg12 arg13 harg13 arg14 harg14 arg15 harg15 arg16 harg16 arg17
      harg17 arg18 harg18 arg19 harg19 v172 v176 v177 v185 v189 v204 v205 v217 v221 P Q i1 i2 i3 i4).1.1 (ix2 b q),
      (end4 c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18
      harg18 arg19 harg19 v172 v176 v177 v185 v189 v204 v205 v217 v221 P Q i1 i2 i3 i4).1.2 (ix2 b q)) = states ar ai
      (held P) (held Q) init b (colOf 1536 chunk4 q) 128) := by
  have k1 : Link arg16.view arg17.view ar ai init 0 (by decide) P Q (at1 c i arg1 harg1 arg2 harg2 arg3 harg3 arg4
    harg4 arg5 harg5 arg6 harg6 arg7 harg7 arg8 harg8 arg9 harg9 arg10 harg10 arg11 harg11 arg12 harg12 arg13 harg13
    arg14 harg14 arg15 harg15 arg16 harg16 arg17 harg17 arg18 harg18 arg19 harg19 v172 v176 v177 P Q i1) := by
    refine ⟨rfl, hs1, fun k hk => ?_⟩
    rw [show (fun (_ : Fin 8) (q : Fin 512) => ar (colOf 0 chunk1 q)) = rows v172 from (funext₂ hr1).symm,
      show (fun (_ : Fin 8) (q : Fin 512) => ai (colOf 0 chunk1 q)) = rows v176 from (funext₂ hi1).symm]
    exact trip1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v172 v176 v177
      _ _ i1 k hk
  have k2 : Link arg16.view arg17.view ar ai init 512 (by decide) ((end1 c i arg1 harg1 arg2 harg2 arg3 harg3 arg4
    harg4 arg5 harg5 arg6 harg6 arg7 harg7 arg8 harg8 arg9 harg9 arg10 harg10 arg11 harg11 arg12 harg12 arg13 harg13
    arg14 harg14 arg15 harg15 arg16 harg16 arg17 harg17 arg18 harg18 arg19 harg19 v172 v176 v177 P Q i1).2.1 ++ P)
    ((end1 c i arg1 harg1 arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18
    harg18 arg19 harg19 v172 v176 v177 P Q i1).2.2 ++ Q) (at2 c i arg1 harg1 arg2 harg2 arg3 harg3 arg4 harg4 arg5
    harg5 arg6 harg6 arg7 harg7 arg8 harg8 arg9 harg9 arg10 harg10 arg11 harg11 arg12 harg12 arg13 harg13 arg14
    harg14 arg15 harg15 arg16 harg16 arg17 harg17 arg18 harg18 arg19 harg19 v172 v176 v177 v185 v189 P Q i1 i2) := by
    refine ⟨rfl, hs2, fun k hk => ?_⟩
    rw [show (fun (_ : Fin 8) (q : Fin 512) => ar (colOf 512 chunk2 q)) = row v185 from (funext₂ hr2).symm,
      show (fun (_ : Fin 8) (q : Fin 512) => ai (colOf 512 chunk2 q)) = row v189 from (funext₂ hi2).symm]
    exact trip2 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v172 v176 v177 v185 v189
      _ _ i2 k hk
  have k3 : Link arg16.view arg17.view ar ai init 1024 (by decide) ((end2 c i arg1 harg1 arg2 harg2 arg3 harg3 arg4
    harg4 arg5 harg5 arg6 harg6 arg7 harg7 arg8 harg8 arg9 harg9 arg10 harg10 arg11 harg11 arg12 harg12 arg13 harg13
    arg14 harg14 arg15 harg15 arg16 harg16 arg17 harg17 arg18 harg18 arg19 harg19 v172 v176 v177 v185 v189 P Q i1
    i2).2.1 ++ ((end1 c i arg1 harg1 arg2 harg2 arg3 harg3 arg4 harg4 arg5 harg5 arg6 harg6 arg7 harg7 arg8 harg8
    arg9 harg9 arg10 harg10 arg11 harg11 arg12 harg12 arg13 harg13 arg14 harg14 arg15 harg15 arg16 harg16 arg17
    harg17 arg18 harg18 arg19 harg19 v172 v176 v177 P Q i1).2.1 ++ P)) ((end2 c i arg1 harg1 arg2 harg2 arg3 harg3
    arg4 harg4 arg5 harg5 arg6 harg6 arg7 harg7 arg8 harg8 arg9 harg9 arg10 harg10 arg11 harg11 arg12 harg12 arg13
    harg13 arg14 harg14 arg15 harg15 arg16 harg16 arg17 harg17 arg18 harg18 arg19 harg19 v172 v176 v177 v185 v189 P Q
    i1 i2).2.2 ++ ((end1 c i arg1 harg1 arg2 harg2 arg3 harg3 arg4 harg4 arg5 harg5 arg6 harg6 arg7 harg7 arg8 harg8
    arg9 harg9 arg10 harg10 arg11 harg11 arg12 harg12 arg13 harg13 arg14 harg14 arg15 harg15 arg16 harg16 arg17
    harg17 arg18 harg18 arg19 harg19 v172 v176 v177 P Q i1).2.2 ++ Q)) (at3 c i arg1 harg1 arg2 harg2 arg3 harg3 arg4
    harg4 arg5 harg5 arg6 harg6 arg7 harg7 arg8 harg8 arg9 harg9 arg10 harg10 arg11 harg11 arg12 harg12 arg13 harg13
    arg14 harg14 arg15 harg15 arg16 harg16 arg17 harg17 arg18 harg18 arg19 harg19 v172 v176 v177 v185 v189 v204 v205
    P Q i1 i2 i3) := by
    refine ⟨rfl, hs3, fun k hk => ?_⟩
    rw [show (fun (_ : Fin 8) (q : Fin 512) => ar (colOf 1024 chunk3 q)) = rows v204 from (funext₂ hr3).symm,
      show (fun (_ : Fin 8) (q : Fin 512) => ai (colOf 1024 chunk3 q)) = row v205 from (funext₂ hi3).symm]
    exact trip3 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v204 v205
      _ _ i3 k hk
  have k4 : Link arg16.view arg17.view ar ai init 1536 (by decide) ((end3 c i arg1 harg1 arg2 harg2 arg3 harg3 arg4
    harg4 arg5 harg5 arg6 harg6 arg7 harg7 arg8 harg8 arg9 harg9 arg10 harg10 arg11 harg11 arg12 harg12 arg13 harg13
    arg14 harg14 arg15 harg15 arg16 harg16 arg17 harg17 arg18 harg18 arg19 harg19 v172 v176 v177 v185 v189 v204 v205
    P Q i1 i2 i3).2.1 ++ ((end2 c i arg1 harg1 arg2 harg2 arg3 harg3 arg4 harg4 arg5 harg5 arg6 harg6 arg7 harg7 arg8
    harg8 arg9 harg9 arg10 harg10 arg11 harg11 arg12 harg12 arg13 harg13 arg14 harg14 arg15 harg15 arg16 harg16 arg17
    harg17 arg18 harg18 arg19 harg19 v172 v176 v177 v185 v189 P Q i1 i2).2.1 ++ ((end1 c i arg1 harg1 arg2 harg2 arg3
    harg3 arg4 harg4 arg5 harg5 arg6 harg6 arg7 harg7 arg8 harg8 arg9 harg9 arg10 harg10 arg11 harg11 arg12 harg12
    arg13 harg13 arg14 harg14 arg15 harg15 arg16 harg16 arg17 harg17 arg18 harg18 arg19 harg19 v172 v176 v177 P Q
    i1).2.1 ++ P))) ((end3 c i arg1 harg1 arg2 harg2 arg3 harg3 arg4 harg4 arg5 harg5 arg6 harg6 arg7 harg7 arg8
    harg8 arg9 harg9 arg10 harg10 arg11 harg11 arg12 harg12 arg13 harg13 arg14 harg14 arg15 harg15 arg16 harg16 arg17
    harg17 arg18 harg18 arg19 harg19 v172 v176 v177 v185 v189 v204 v205 P Q i1 i2 i3).2.2 ++ ((end2 c i arg1 harg1
    arg2 harg2 arg3 harg3 arg4 harg4 arg5 harg5 arg6 harg6 arg7 harg7 arg8 harg8 arg9 harg9 arg10 harg10 arg11 harg11
    arg12 harg12 arg13 harg13 arg14 harg14 arg15 harg15 arg16 harg16 arg17 harg17 arg18 harg18 arg19 harg19 v172 v176
    v177 v185 v189 P Q i1 i2).2.2 ++ ((end1 c i arg1 harg1 arg2 harg2 arg3 harg3 arg4 harg4 arg5 harg5 arg6 harg6
    arg7 harg7 arg8 harg8 arg9 harg9 arg10 harg10 arg11 harg11 arg12 harg12 arg13 harg13 arg14 harg14 arg15 harg15
    arg16 harg16 arg17 harg17 arg18 harg18 arg19 harg19 v172 v176 v177 P Q i1).2.2 ++ Q))) (at4 c i arg1 harg1 arg2
    harg2 arg3 harg3 arg4 harg4 arg5 harg5 arg6 harg6 arg7 harg7 arg8 harg8 arg9 harg9 arg10 harg10 arg11 harg11
    arg12 harg12 arg13 harg13 arg14 harg14 arg15 harg15 arg16 harg16 arg17 harg17 arg18 harg18 arg19 harg19 v172 v176
    v177 v185 v189 v204 v205 v217 v221 P Q i1 i2 i3 i4) := by
    refine ⟨rfl, hs4, fun k hk => ?_⟩
    rw [show (fun (_ : Fin 8) (q : Fin 512) => ar (colOf 1536 chunk4 q)) = row v217 from (funext₂ hr4).symm,
      show (fun (_ : Fin 8) (q : Fin 512) => ai (colOf 1536 chunk4 q)) = row v221 from (funext₂ hi4).symm]
    exact trip4 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v204 v217 v221
      _ _ i4 k hk
  exact chain (congrArg (at1 c i arg1 harg1 arg2 harg2 arg3 harg3 arg4 harg4 arg5 harg5 arg6 harg6 arg7 harg7 arg8
    harg8 arg9 harg9 arg10 harg10 arg11 harg11 arg12 harg12 arg13 harg13 arg14 harg14 arg15 harg15 arg16 harg16 arg17
    harg17 arg18 harg18 arg19 harg19 v172 v176 v177 P Q i1) trips1.symm) (congrArg (at2 c i arg1 harg1 arg2 harg2
    arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 arg19 harg19 v172 v176 v177
    v185 v189 P Q i1 i2) trips2.symm) (congrArg (at3 c i arg1 harg1 arg2 harg2 arg3 harg3 arg4 harg4 arg5 harg5 arg6
    harg6 arg7 harg7 arg8 harg8 arg9 harg9 arg10 harg10 arg11 harg11 arg12 harg12 arg13 harg13 arg14 harg14 arg15
    harg15 arg16 harg16 arg17 harg17 arg18 harg18 arg19 harg19 v172 v176 v177 v185 v189 v204 v205 P Q i1 i2 i3)
    trips3.symm) (congrArg (at4 c i arg1 harg1 arg2 harg2 arg3 harg3 arg4 harg4 arg5 harg5 arg6 harg6 arg7 harg7 arg8
    harg8 arg9 harg9 arg10 harg10 arg11 harg11 arg12 harg12 arg13 harg13 arg14 harg14 arg15 harg15 arg16 harg16 arg17
    harg17 arg18 harg18 arg19 harg19 v172 v176 v177 v185 v189 v204 v205 v217 v221 P Q i1 i2 i3 i4) trips4.symm) k1 k2
    k3 k4

end

end Cert.S5States

end
-- ==== Proof.S5Layer.lean ====
/-
  The S5 branch of one batch row, as a function of the time: 2048 complex states driven by the 512 channels of the
  input, read out to 512 channels, then the GELU and the gated linear unit. The states come in two halves of 1024, each
  driven by its own 256 channels and read out to its own 256.
-/
module

public import proofs.«01_k».proof.Proof.S5Spec

@[expose] public section

noncomputable section

namespace Cert.S5Layer

open Idealize.ShloMosaic Cert.S5Spec

/-- Channel `k` of half `h`. -/
def chan (h : Fin 2) (k : Fin 256) : Fin 512 := ⟨256 * h.val + k.val, by omega⟩
/-- State `m` of half `h`. -/
def stat (h : Fin 2) (m : Fin 1024) : Fin 2048 := ⟨1024 * h.val + m.val, by omega⟩

/-- The half of a state. -/
def half (n : Fin 2048) : Fin 2 := ⟨n.val / 1024, by omega⟩
/-- Its number in the half. -/
def low (n : Fin 2048) : Fin 1024 := ⟨n.val % 1024, by omega⟩
/-- The half of a channel. -/
def halfC (o : Fin 512) : Fin 2 := ⟨o.val / 256, by omega⟩
/-- Its number in the half. -/
def lowC (o : Fin 512) : Fin 256 := ⟨o.val % 256, by omega⟩

/-- The input of state `n` from the channels `u`. -/
def feed (B : Fin 2 → Fin 256 → Fin 1024 → EReal) (u : Fin 512 → EReal) (n : Fin 2048) : EReal :=
  ∑ k : Fin 256, u (chan (half n) k) * B (half n) k (low n)

/-- State `n` after `k` steps from `s`, with the channels `u t` at time `t`. -/
def state (ar ai : Fin 2048 → EReal) (Br Bi : Fin 2 → Fin 256 → Fin 1024 → EReal) (u : ℕ → Fin 512 → EReal)
    (s : Fin 2048 → EReal × EReal) (n : Fin 2048) (k : ℕ) : EReal × EReal :=
  scan (ar n) (ai n) (fun t => feed Br (u t) n) (fun t => feed Bi (u t) n) (s n) k

/-- Channel `o` read out of the states `s`, with the direct term. -/
def readout (Cr Ci : Fin 2 → Fin 1024 → Fin 256 → EReal) (d : Fin 512 → EReal) (s : Fin 2048 → EReal × EReal)
    (u : Fin 512 → EReal) (o : Fin 512) : EReal :=
  (∑ m : Fin 1024, (s (stat (halfC o) m)).1 * Cr (halfC o) m (lowC o)
      - ∑ m : Fin 1024, (s (stat (halfC o) m)).2 * Ci (halfC o) m (lowC o)) + d o * u o

/-- The weight ½ of the GELU. -/
abbrev cHalf : EReal := Ideal.ofBits .f32 0x3F000000#32
/-- Its factor √(2/π), as a binary32 number. -/
abbrev cRoot : EReal := Ideal.ofBits .f32 0x3F4C422A#32
/-- Its factor 0.044715, as a binary32 number. -/
abbrev cCube : EReal := Ideal.ofBits .f32 0x3D372713#32

/-- The tanh form of the GELU. -/
def gelu (z : EReal) : EReal := cHalf * z * (1 + Ideal.tanh (cRoot * (z + cCube * (z * z * z))))

/-- The gated linear unit of the activated channels `a`, at channel `o`. -/
def glu (W : Fin 512 → Fin 512 → EReal) (bg : Fin 512 → EReal) (a : Fin 512 → EReal) (o : Fin 512) : EReal :=
  a o * Ideal.div 1 (1 + Ideal.exp (-(∑ j : Fin 512, a j * W j o + bg o)))

/-- The branch's output at channel `o`, from the states after the step and the channels of the time. -/
def branch (Cr Ci : Fin 2 → Fin 1024 → Fin 256 → EReal) (d : Fin 512 → EReal) (W : Fin 512 → Fin 512 → EReal)
    (bg : Fin 512 → EReal) (s : Fin 2048 → EReal × EReal) (u : Fin 512 → EReal) (o : Fin 512) : EReal :=
  glu W bg (fun j => gelu (readout Cr Ci d s u j)) o

end Cert.S5Layer

end
-- ==== Proof.S5Shuffle.lean ====
/-
  How a block of the S5 branch's input is laid out for the recurrence. The block holds a row per time and, side by side,
  the 512 channels of the eight batch rows; the kernel stores it as four slabs of 128 channels with a row `8·t + b` for
  time `t` and batch row `b`. The results go the same way back.
-/
module

public import proofs.«01_k».proof.Proof.Gen.KernelIdeal.Frame
public import proofs.«01_k».proof.Proof.S5Trip
public import proofs.«01_k».proof.Proof.S5Layer
public import Idealize.ShloMosaic.Lib.Pointwise
public import Idealize.ShloMosaic.Lib.Pipeline.ReadBack

@[expose] public section

noncomputable section

namespace Cert.S5Shuffle

open Cert.KernelIdeal Cert.KernelIdeal.Gen Idealize.ShloMosaic Idealize.ShloMosaic.TcCoe Idealize.SL.Sem
open Cert.S5Trip

/-- The column of channel `j` of batch row `b` in a block. -/
def colB (b : Fin 8) (j : Fin 512) : Fin 4096 := ⟨512 * b.val + j.val, by omega⟩
/-- Channel `l` of slab `s`. -/
def chanS (s : Fin 4) (l : Fin 128) : Fin 512 := ⟨128 * s.val + l.val, by omega⟩
/-- The time of a row. -/
def timeOf (r : Fin 1024) : Fin 128 := ⟨r.val / 8, by omega⟩
/-- The batch row of a row. -/
def batchOf (r : Fin 1024) : Fin 8 := ⟨r.val % 8, by omega⟩

/-- The four slabs of a block. -/
def slabs (x : Vec Ideal S128x4096 .f32) (y : S4x1024x128.Idx) : EReal :=
  x (ix2 (timeOf (y 1)) (colB (batchOf (y 1)) (chanS (y 0) (y 2))))

/-- The rows of batch row `b` in slab `s`. -/
def rowsRect (s : Fin 4) (b : Fin 8) : Rect S4x1024x128 where
  off := ![s.val, b.val, 0]
  size := S1x128x128.size
  stride := ![1, 8, 1]
  inb a := by
    fin_cases a
    · exact Or.inr (show s.val + 1 * (1 - 1) < 4 by omega)
    · exact Or.inr (show b.val + 8 * (128 - 1) < 1024 by omega)
    · exact Or.inr (show 0 + 1 * (128 - 1) < 128 by omega)
  stride_pos a := by fin_cases a <;> decide

theorem rowsRect_idx (s : Fin 4) (b : Fin 8) (t : Fin 128) (l : Fin 128) :
    (rowsRect s b).idx (ix3 0 t l : S1x128x128.Idx) = (ix3 s (rowOf t.val t.isLt b) l : S4x1024x128.Idx) := by
  funext a
  refine Fin.ext ?_
  fin_cases a
  · show s.val + 1 * 0 = s.val; omega
  · show b.val + 8 * t.val = 8 * t.val + b.val; omega
  · show 0 + 1 * l.val = l.val; omega

theorem timeOf_rowOf (t : Fin 128) (b : Fin 8) : timeOf (rowOf t.val t.isLt b) = t :=
  Fin.ext (show (8 * t.val + b.val) / 8 = t.val by omega)

theorem batchOf_rowOf (t : Fin 128) (b : Fin 8) : batchOf (rowOf t.val t.isLt b) = b :=
  Fin.ext (show (8 * t.val + b.val) % 8 = b.val by omega)

theorem rowOf_timeOf (r : Fin 1024) : rowOf (timeOf r).val (timeOf r).isLt (batchOf r) = r :=
  Fin.ext (show 8 * (r.val / 8) + r.val % 8 = r.val by omega)

theorem exists_row (j : S1x128x128.Idx) : ∃ t l : Fin 128, j = (ix3 0 t l : S1x128x128.Idx) :=
  ⟨j 1, j 2, (eq_ix3 j).trans (by rw [show j 0 = (0 : Fin 1) from Subsingleton.elim (α := Fin 1) _ _])⟩

theorem exists_slab (y : S4x1024x128.Idx) :
    ∃ (s : Fin 4) (r : Fin 1024) (l : Fin 128), y = (ix3 s r l : S4x1024x128.Idx) := ⟨y 0, y 1, y 2, eq_ix3 y⟩

theorem cast_row (v : Vec Ideal S128x128 .f32) (t l : Fin 128) :
    (shapeCast S1x128x128 v shapeCasts_S128x128_S1x128x128 : FVec Ideal S1x128x128 .f32) (ix3 0 t l) = v (ix2 t l) := by
  pointwise

/-- A read of the block's 128 columns from column `o`. -/
theorem read_cols (arg1 : Memref sig .tc .vmem S128x4096 .f32) (harg1 : arg1.IsWhole) (x0 : Vec Ideal S128x4096 .f32)
    (o : ℕ) (inb : ∀ a, (![0, o] : Fin 2 → ℕ) a + S128x128.size a ≤ S128x4096.size a) (t l : Fin 128)
    (n : Fin 4096) (hn : n.val = o + l.val) :
    View.readAt (Elt Ideal) arg1.view (Rect.unit (s := S128x4096) ![0, o] S128x128.size inb).toLoadRect
      (harg1.unread x0) (ix2 t l : S128x128.Idx) = x0 (ix2 t n) := by
  rw [View.readAt_apply, harg1.read_unread]
  refine congrArg x0 (funext fun a => Fin.ext ?_)
  fin_cases a
  · show 0 + 1 * t.val = t.val
    rw [Nat.zero_add, Nat.one_mul]
  · show o + 1 * l.val = n.val
    rw [Nat.one_mul, hn]

/-- One of the 32 stores of the layout: the block's 128 columns of batch row `b` and slab `s`. -/
theorem store_ok (arg1 : Memref sig .tc .vmem S128x4096 .f32) (harg1 : arg1.IsWhole) (x0 : Vec Ideal S128x4096 .f32)
    (s : Fin 4) (b : Fin 8) (o : ℕ) (inb : ∀ a, (![0, o] : Fin 2 → ℕ) a + S128x128.size a ≤ S128x4096.size a)
    (ho : o = 512 * b.val + 128 * s.val) (j : S1x128x128.Idx) :
    shapeCast S1x128x128 (View.readAt (Elt Ideal) arg1.view
        (Rect.unit (s := S128x4096) ![0, o] S128x128.size inb).toLoadRect (harg1.unread x0) : Vec Ideal S128x128 .f32)
        shapeCasts_S128x128_S1x128x128 j
      = slabs x0 ((rowsRect s b).emb j) := by
  obtain ⟨t, l, rfl⟩ := exists_row j
  have e : slabs x0 ((rowsRect s b).emb (ix3 0 t l : S1x128x128.Idx)) = x0 (ix2 t (colB b (chanS s l))) := by
    have e' : (rowsRect s b).emb (ix3 0 t l : S1x128x128.Idx) = (ix3 s (rowOf t.val t.isLt b) l : S4x1024x128.Idx) :=
      rowsRect_idx s b t l
    rw [e']
    show x0 (ix2 (timeOf (rowOf t.val t.isLt b)) (colB (batchOf (rowOf t.val t.isLt b)) (chanS s l))) = _
    rw [timeOf_rowOf, batchOf_rowOf]
  rw [e]
  refine (cast_row _ t l).trans (read_cols arg1 harg1 x0 o inb t l _ ?_)
  show 512 * b.val + (128 * s.val + l.val) = o + l.val
  omega

/-- The same of a store as a piece. -/
theorem piece_ok (arg1 : Memref sig .tc .vmem S128x4096 .f32) (harg1 : arg1.IsWhole) (x0 : Vec Ideal S128x4096 .f32)
    (p : View.Piece (Elt Ideal) S4x1024x128 .f32) (s : Fin 4) (b : Fin 8) (o : ℕ)
    (inb : ∀ a, (![0, o] : Fin 2 → ℕ) a + S128x128.size a ≤ S128x4096.size a) (ho : o = 512 * b.val + 128 * s.val)
    (hp : p = ⟨rowsRect s b, shapeCast S1x128x128 (View.readAt (Elt Ideal) arg1.view
        (Rect.unit (s := S128x4096) ![0, o] S128x128.size inb).toLoadRect (harg1.unread x0) : Vec Ideal S128x128 .f32)
        shapeCasts_S128x128_S1x128x128⟩) (x : p.1.shape.Idx) : p.2 x = slabs x0 (p.1.emb x) := by
  subst hp
  exact store_ok arg1 harg1 x0 s b o inb ho x

set_option maxHeartbeats 4000000 in
/-- The 32 stores lay the block out. -/
theorem pieces (c : Dev nD) (arg1 : Memref sig .tc .vmem S128x4096 .f32) (harg1 : arg1.IsWhole)
    (x0 : Vec Ideal S128x4096 .f32) :
    View.PiecesOf (Val := Elt Ideal) (slabs x0) (kernelRun0_B.sl.HS2_32 (F := Ideal) c arg1 harg1 x0) := by
  unfold kernelRun0_B.sl.HS2_32 kernelRun0_B.sl.r kernelRun0_B.sl.r_1 kernelRun0_B.sl.r_2 kernelRun0_B.sl.r_3
    kernelRun0_B.sl.r_4
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_,
    ?_, ?_, trivial⟩
  · exact piece_ok arg1 harg1 x0 _ 3 7 3968 inb_S128x4096_S128x128_0_3968 rfl rfl
  · exact piece_ok arg1 harg1 x0 _ 2 7 3840 inb_S128x4096_S128x128_0_3840 rfl rfl
  · exact piece_ok arg1 harg1 x0 _ 1 7 3712 inb_S128x4096_S128x128_0_3712 rfl rfl
  · exact piece_ok arg1 harg1 x0 _ 0 7 3584 inb_S128x4096_S128x128_0_3584 rfl rfl
  · exact piece_ok arg1 harg1 x0 _ 3 6 3456 inb_S128x4096_S128x128_0_3456 rfl rfl
  · exact piece_ok arg1 harg1 x0 _ 2 6 3328 inb_S128x4096_S128x128_0_3328 rfl rfl
  · exact piece_ok arg1 harg1 x0 _ 1 6 3200 inb_S128x4096_S128x128_0_3200 rfl rfl
  · exact piece_ok arg1 harg1 x0 _ 0 6 3072 inb_S128x4096_S128x128_0_3072 rfl rfl
  · exact piece_ok arg1 harg1 x0 _ 3 5 2944 inb_S128x4096_S128x128_0_2944 rfl rfl
  · exact piece_ok arg1 harg1 x0 _ 2 5 2816 inb_S128x4096_S128x128_0_2816 rfl rfl
  · exact piece_ok arg1 harg1 x0 _ 1 5 2688 inb_S128x4096_S128x128_0_2688 rfl rfl
  · exact piece_ok arg1 harg1 x0 _ 0 5 2560 inb_S128x4096_S128x128_0_2560 rfl rfl
  · exact piece_ok arg1 harg1 x0 _ 3 4 2432 inb_S128x4096_S128x128_0_2432 rfl rfl
  · exact piece_ok arg1 harg1 x0 _ 2 4 2304 inb_S128x4096_S128x128_0_2304 rfl rfl
  · exact piece_ok arg1 harg1 x0 _ 1 4 2176 inb_S128x4096_S128x128_0_2176 rfl rfl
  · exact piece_ok arg1 harg1 x0 _ 0 4 2048 inb_S128x4096_S128x128_0_2048 rfl rfl
  · exact piece_ok arg1 harg1 x0 _ 3 3 1920 inb_S128x4096_S128x128_0_1920 rfl rfl
  · exact piece_ok arg1 harg1 x0 _ 2 3 1792 inb_S128x4096_S128x128_0_1792 rfl rfl
  · exact piece_ok arg1 harg1 x0 _ 1 3 1664 inb_S128x4096_S128x128_0_1664 rfl rfl
  · exact piece_ok arg1 harg1 x0 _ 0 3 1536 inb_S128x4096_S128x128_0_1536 rfl rfl
  · exact piece_ok arg1 harg1 x0 _ 3 2 1408 inb_S128x4096_S128x128_0_1408 rfl rfl
  · exact piece_ok arg1 harg1 x0 _ 2 2 1280 inb_S128x4096_S128x128_0_1280 rfl rfl
  · exact piece_ok arg1 harg1 x0 _ 1 2 1152 inb_S128x4096_S128x128_0_1152 rfl rfl
  · exact piece_ok arg1 harg1 x0 _ 0 2 1024 inb_S128x4096_S128x128_0_1024 rfl rfl
  · exact piece_ok arg1 harg1 x0 _ 3 1 896 inb_S128x4096_S128x128_0_896 rfl rfl
  · exact piece_ok arg1 harg1 x0 _ 2 1 768 inb_S128x4096_S128x128_0_768 rfl rfl
  · exact piece_ok arg1 harg1 x0 _ 1 1 640 inb_S128x4096_S128x128_0_640 rfl rfl
  · exact piece_ok arg1 harg1 x0 _ 0 1 512 inb_S128x4096_S128x128_0_512 rfl rfl
  · exact piece_ok arg1 harg1 x0 _ 3 0 384 inb_S128x4096_S128x128_0_384 rfl rfl
  · exact piece_ok arg1 harg1 x0 _ 2 0 256 inb_S128x4096_S128x128_0_256 rfl rfl
  · exact piece_ok arg1 harg1 x0 _ 1 0 128 inb_S128x4096_S128x128_0_128 rfl rfl
  · exact piece_ok arg1 harg1 x0 _ 0 0 0 inb_S128x4096_S128x128_0_0 rfl rfl

/-- Every element of the slabs is in one of the stores. -/
theorem covered (c : Dev nD) (arg1 : Memref sig .tc .vmem S128x4096 .f32) (harg1 : arg1.IsWhole)
    (x0 : Vec Ideal S128x4096 .f32) (y : S4x1024x128.Idx) :
    ∃ p ∈ kernelRun0_B.sl.HS2_32 (F := Ideal) c arg1 harg1 x0, y ∈ p.1.set := by
  obtain ⟨s, r, l, rfl⟩ := exists_slab y
  have hlen : (kernelRun0_B.sl.HS2_32 (F := Ideal) c arg1 harg1 x0).length = 32 := rfl
  have hrect : ∀ (s : Fin 4) (b : Fin 8),
      ((kernelRun0_B.sl.HS2_32 (F := Ideal) c arg1 harg1 x0)[31 - (4 * b.val + s.val)]'(by omega)).1 = rowsRect s b := by
    intro s b
    fin_cases s <;> fin_cases b <;> rfl
  refine ⟨_, List.getElem_mem (by omega : 31 - (4 * (batchOf r).val + s.val) < _), ?_⟩
  rw [hrect]
  have e := rowsRect_idx s (batchOf r) (timeOf r) l
  rw [rowOf_timeOf] at e
  rw [← e]
  exact (rowsRect s (batchOf r)).idx_mem _

/-- So the scratch holds the slabs. -/
theorem held_slabs (c : Dev nD) (arg1 : Memref sig .tc .vmem S128x4096 .f32) (harg1 : arg1.IsWhole)
    (x0 : Vec Ideal S128x4096 .f32) (y : S4x1024x128.Idx) :
    View.canon (kernelRun0_B.sl.HS2_32 (F := Ideal) c arg1 harg1 x0) y = slabs x0 y :=
  View.canon_apply_of_pieces _ _ (pieces c arg1 harg1 x0).mem y (covered c arg1 harg1 x0 y)

/-- A slab read back whole. -/
theorem slab_read (v : View sig .tc .vmem S4x1024x128 .f32) (L : List (View.Piece (Elt Ideal) S4x1024x128 .f32))
    (s : Fin 4) (off : Fin 3 → ℕ) (inb : ∀ a, off a + S1x1024x128.size a ≤ S4x1024x128.size a) (hoff : off = ![s.val, 0, 0])
    (r : Fin 1024) (l : Fin 128) :
    v.readCov L (Rect.unit (s := S4x1024x128) off S1x1024x128.size inb).toLoadRect (ix3 0 r l : S1x1024x128.Idx)
      = View.canon L (ix3 s r l : S4x1024x128.Idx) := by
  subst hoff
  rw [View.readCov_eq_canon']
  refine congrArg (View.canon L) (funext fun a => Fin.ext ?_)
  fin_cases a
  · show s.val + 1 * 0 = s.val; omega
  · show 0 + 1 * r.val = r.val; omega
  · show 0 + 1 * l.val = l.val; omega

/-- The four slabs side by side: row `8·t + b` holds the channels of batch row `b` at time `t`. -/
theorem rows_eq (c : Dev nD) (arg1 : Memref sig .tc .vmem S128x4096 .f32) (harg1 : arg1.IsWhole)
    (arg18 : Memref sig .tc .vmem S4x1024x128 .f32) (x0 : Vec Ideal S128x4096 .f32) (r : Fin 1024) (j : Fin 512) :
    kernelRun0_B.sl.r_5 (F := Ideal) c arg1 harg1 arg18 x0 (ix2 r j) = x0 (ix2 (timeOf r) (colB (batchOf r) j)) := by
  unfold kernelRun0_B.sl.r_5
  have h0 : ∀ l, kernelRun0_B.sl.v131 (F := Ideal) c arg1 harg1 arg18 x0 (ix3 0 r l : S1x1024x128.Idx)
      = x0 (ix2 (timeOf r) (colB (batchOf r) (chanS 0 l))) := fun l =>
    (slab_read arg18.view _ 0 _ _ rfl r l).trans (held_slabs c arg1 harg1 x0 _)
  have h1 : ∀ l, kernelRun0_B.sl.v133 (F := Ideal) c arg1 harg1 arg18 x0 (ix3 0 r l : S1x1024x128.Idx)
      = x0 (ix2 (timeOf r) (colB (batchOf r) (chanS 1 l))) := fun l =>
    (slab_read arg18.view _ 1 _ _ rfl r l).trans (held_slabs c arg1 harg1 x0 _)
  have h2 : ∀ l, kernelRun0_B.sl.v135 (F := Ideal) c arg1 harg1 arg18 x0 (ix3 0 r l : S1x1024x128.Idx)
      = x0 (ix2 (timeOf r) (colB (batchOf r) (chanS 2 l))) := fun l =>
    (slab_read arg18.view _ 2 _ _ rfl r l).trans (held_slabs c arg1 harg1 x0 _)
  have h3 : ∀ l, kernelRun0_B.sl.v137 (F := Ideal) c arg1 harg1 arg18 x0 (ix3 0 r l : S1x1024x128.Idx)
      = x0 (ix2 (timeOf r) (colB (batchOf r) (chanS 3 l))) := fun l =>
    (slab_read arg18.view _ 3 _ _ rfl r l).trans (held_slabs c arg1 harg1 x0 _)
  generalize kernelRun0_B.sl.v131 (F := Ideal) c arg1 harg1 arg18 x0 = a0 at h0 ⊢
  generalize kernelRun0_B.sl.v133 (F := Ideal) c arg1 harg1 arg18 x0 = a1 at h1 ⊢
  generalize kernelRun0_B.sl.v135 (F := Ideal) c arg1 harg1 arg18 x0 = a2 at h2 ⊢
  generalize kernelRun0_B.sl.v137 (F := Ideal) c arg1 harg1 arg18 x0 = a3 at h3 ⊢
  pointwise [k0_pay38]
  have hj := j.isLt
  split
  · rw [h0]
    exact congrArg (fun q => x0 (ix2 (timeOf r) (colB (batchOf r) q))) (Fin.ext (show 128 * 0 + j.val = j.val by omega))
  split
  · rw [h1]
    exact congrArg (fun q => x0 (ix2 (timeOf r) (colB (batchOf r) q))) (Fin.ext (show 128 * 1 + (j.val - 128) = j.val by omega))
  split
  · rw [h2]
    exact congrArg (fun q => x0 (ix2 (timeOf r) (colB (batchOf r) q)))
      (Fin.ext (show 128 * 2 + (j.val - 128 - 128) = j.val by omega))
  · rw [h3]
    exact congrArg (fun q => x0 (ix2 (timeOf r) (colB (batchOf r) q)))
      (Fin.ext (show 128 * 3 + (j.val - 128 - 128 - 128) = j.val by omega))

end Cert.S5Shuffle

end
-- ==== Proof.S5Feed.lean ====
/-
  The inputs of the recurrence, as the kernel lays them out in the two scratch arrays before its loops: row `8·t + b`,
  column `n` holds the input of state `n` of batch row `b` at time `t`.
-/
module

public import proofs.«01_k».proof.Proof.S5Shuffle

@[expose] public section

noncomputable section

namespace Cert.S5Feed

open Cert.KernelIdeal Cert.KernelIdeal.Gen Idealize.ShloMosaic Idealize.ShloMosaic.TcCoe Idealize.SL.Sem
open Cert.S5Trip Cert.S5Layer Cert.S5Shuffle

/-- The channels of batch row `b` at time `t` in a block. -/
def chans (x0 : Vec Ideal S128x4096 .f32) (t : Fin 128) (b : Fin 8) (j : Fin 512) : EReal := x0 (ix2 t (colB b j))

/-- A half of a stacked matrix, read whole. -/
theorem read_half (a : Memref sig .tc .vmem S2x256x1024 .bf16) (ha : a.IsWhole) (x : Vec Ideal S2x256x1024 .bf16)
    (h : Fin 2) (off : Fin 3 → ℕ) (inb : ∀ a, off a + S1x256x1024.size a ≤ S2x256x1024.size a)
    (hoff : off = ![h.val, 0, 0]) (k : Fin 256) (m : Fin 1024) :
    View.readAt (Elt Ideal) a.view (Rect.unit (s := S2x256x1024) off S1x256x1024.size inb).toLoadRect (ha.unread x)
      (ix3 0 k m : S1x256x1024.Idx) = x (ix3 h k m) := by
  subst hoff
  rw [View.readAt_apply, ha.read_unread]
  refine congrArg x (funext fun a => Fin.ext ?_)
  fin_cases a
  · show h.val + 1 * 0 = h.val; omega
  · show 0 + 1 * k.val = k.val; omega
  · show 0 + 1 * m.val = m.val; omega

/-- The two products, on the first 256 channels and on the last. -/
theorem prod0 (r : FVec Ideal S1024x512 .bf16) (B : Vec Ideal S1x256x1024 .bf16) (i : Fin 1024) (m : Fin 1024) :
    k0_pay42 r B (ix2 i m) = ∑ k : Fin 256, r (ix2 i (chan 0 k)) * B (ix3 0 k m) := by
  pointwise [k0_pay42]
  rfl

theorem prod1 (r : FVec Ideal S1024x512 .bf16) (B : Vec Ideal S1x256x1024 .bf16) (i : Fin 1024) (m : Fin 1024) :
    k0_pay44 r B (ix2 i m) = ∑ k : Fin 256, r (ix2 i (chan 1 k)) * B (ix3 0 k m) := by
  pointwise [k0_pay44]
  rfl

/-- A half of the columns of a scratch array, as a store writes it. -/
theorem place (h : Fin 2) (off : Fin 2 → ℕ) (inb : ∀ a, off a + S1024x1024.size a ≤ S1024x2048.size a)
    (hoff : off = ![0, 1024 * h.val]) (r m : Fin 1024) :
    (Rect.unit (s := S1024x2048) off S1024x1024.size inb).idx (ix2 r m : S1024x1024.Idx)
      = (ix2 r (stat h m) : S1024x2048.Idx) := by
  subst hoff
  refine funext fun a => Fin.ext ?_
  fin_cases a
  · show 0 + 1 * r.val = r.val; omega
  · show 1024 * h.val + 1 * m.val = 1024 * h.val + m.val; omega

theorem half_stat (h : Fin 2) (m : Fin 1024) : half (stat h m) = h :=
  Fin.ext (show (1024 * h.val + m.val) / 1024 = h.val by omega)
theorem low_stat (h : Fin 2) (m : Fin 1024) : low (stat h m) = m :=
  Fin.ext (show (1024 * h.val + m.val) % 1024 = m.val by omega)
theorem stat_half (n : Fin 2048) : stat (half n) (low n) = n :=
  Fin.ext (show 1024 * (n.val / 1024) + n.val % 1024 = n.val by omega)

/-- An array that holds two halves, stored one after the other. -/
theorem held_halves (L : List (View.Piece (Elt Ideal) S1024x2048 .f32)) (w0 w1 : FVec Ideal S1024x1024 .f32)
    (inb0 : ∀ a, (![0, 0] : Fin 2 → ℕ) a + S1024x1024.size a ≤ S1024x2048.size a)
    (inb1 : ∀ a, (![0, 1024] : Fin 2 → ℕ) a + S1024x1024.size a ≤ S1024x2048.size a)
    (hL : L = [⟨Rect.unit (s := S1024x2048) ![0, 1024] S1024x1024.size inb1, w1⟩,
      ⟨Rect.unit (s := S1024x2048) ![0, 0] S1024x1024.size inb0, w0⟩])
    (r : Fin 1024) (n : Fin 2048) (z : Fin 2 → EReal) (h0 : w0 (ix2 r (low n)) = z 0) (h1 : w1 (ix2 r (low n)) = z 1) :
    View.canon L (ix2 r n) = z (half n) := by
  subst hL
  have e := stat_half n
  by_cases hn : half n = 1
  · have p := place 1 ![0, 1024] inb1 rfl r (low n)
    rw [hn] at e ⊢
    have q := View.canon_cons_emb (Val := Elt Ideal) (e := .f32)
      (Rect.unit (s := S1024x2048) ![0, 1024] S1024x1024.size inb1) w1
      [⟨Rect.unit (s := S1024x2048) ![0, 0] S1024x1024.size inb0, w0⟩] (ix2 r (low n) : S1024x1024.Idx)
    refine (congrArg _ (Eq.trans ?_ p.symm)).trans (q.trans h1)
    rw [e]
  · have hn0 : half n = 0 := by omega
    have p := place 0 ![0, 0] inb0 rfl r (low n)
    rw [hn0] at e ⊢
    have q := View.canon_cons_emb (Val := Elt Ideal) (e := .f32)
      (Rect.unit (s := S1024x2048) ![0, 0] S1024x1024.size inb0) w0 [] (ix2 r (low n) : S1024x1024.Idx)
    rw [View.canon_cons_of_not_mem]
    · refine (congrArg _ (Eq.trans ?_ p.symm)).trans (q.trans h0)
      rw [e]
    · intro hm
      obtain ⟨x, hx⟩ := LoadRect.exists_idx_of_mem _ hm
      have h1' : 1024 + 1 * (x 1).val = n.val := congrArg (fun y : S1024x2048.Idx => (y 1).val) hx
      have : n.val / 1024 = 0 := congrArg Fin.val hn0
      omega

section

variable (c : Dev nD) (arg1 : Memref sig .tc .vmem S128x4096 .f32) (harg1 : arg1.IsWhole)
  (arg6 : Memref sig .tc .vmem S2x256x1024 .bf16) (harg6 : arg6.IsWhole)
  (arg18 : Memref sig .tc .vmem S4x1024x128 .f32) (x0 : Vec Ideal S128x4096 .f32) (x5 : Vec Ideal S2x256x1024 .bf16)

/-- The laid-out channels, as the products take them. -/
theorem rows_cast (r : Fin 1024) (j : Fin 512) :
    kernelRun0_B.sl.r_6 (F := Ideal) c arg1 harg1 arg18 x0 (ix2 r j) = chans x0 (timeOf r) (batchOf r) j := by
  have e := rows_eq c arg1 harg1 arg18 x0 r j
  unfold kernelRun0_B.sl.r_5 at e
  unfold kernelRun0_B.sl.r_6 k0_pay39
  generalize k0_pay38 _ _ _ _ = v at e ⊢
  pointwise
  exact e

/-- The real parts of the inputs. -/
theorem held_re (r : Fin 1024) (n : Fin 2048) :
    View.canon (kernelRun0_B.sl.HS0_2 (F := Ideal) c arg1 harg1 arg6 harg6 arg18 x0 x5) (ix2 r n)
      = feed (fun h k m => x5 (ix3 h k m)) (chans x0 (timeOf r) (batchOf r)) n := by
  refine held_halves _ _ _ _ _ rfl r n
    (fun h => ∑ k : Fin 256, chans x0 (timeOf r) (batchOf r) (chan h k) * x5 (ix3 h k (low n))) ?_ ?_
  · refine (show _ = k0_pay42 (kernelRun0_B.sl.r_6 (F := Ideal) c arg1 harg1 arg18 x0) _ (ix2 r (low n)) from rfl).trans ?_
    rw [prod0]
    refine Finset.sum_congr rfl fun k _ => ?_
    rw [rows_cast]
    exact congrArg _ (read_half arg6 harg6 x5 0 _ _ rfl k (low n))
  · refine (show _ = k0_pay44 (kernelRun0_B.sl.r_6 (F := Ideal) c arg1 harg1 arg18 x0) _ (ix2 r (low n)) from rfl).trans ?_
    rw [prod1]
    refine Finset.sum_congr rfl fun k _ => ?_
    rw [rows_cast]
    exact congrArg _ (read_half arg6 harg6 x5 1 _ _ rfl k (low n))

/-- The imaginary parts of the inputs. -/
theorem held_im (arg7 : Memref sig .tc .vmem S2x256x1024 .bf16) (harg7 : arg7.IsWhole)
    (x6 : Vec Ideal S2x256x1024 .bf16) (r : Fin 1024) (n : Fin 2048) :
    View.canon (kernelRun0_B.sl.HS1_2 (F := Ideal) c arg1 harg1 arg7 harg7 arg18 x0 x6) (ix2 r n)
      = feed (fun h k m => x6 (ix3 h k m)) (chans x0 (timeOf r) (batchOf r)) n :=
  held_re c arg1 harg1 arg7 harg7 arg18 x0 x6 r n

end

end Cert.S5Feed

end
-- ==== Proof.S5Out.lean ====
/-
  What the S5 kernel stores: the readout of the states, the GELU and the gated linear unit on the laid-out rows, and the
  way back from the rows to the block.
-/
module

public import proofs.«01_k».proof.Proof.S5Feed

@[expose] public section

noncomputable section

namespace Cert.S5Out

open Cert.KernelIdeal Cert.KernelIdeal.Gen Idealize.ShloMosaic Idealize.ShloMosaic.TcCoe Idealize.SL.Sem
open Cert.S5Trip Cert.S5Layer Cert.S5Shuffle Cert.S5Feed

section

variable (rows : FVec Ideal S1024x512 .f32) (sr0 si0 sr1 si1 : Vec Ideal S1024x1024 .f32)
  (cr0 ci0 cr1 ci1 : Vec Ideal S1x1024x256 .bf16) (d : Vec Ideal S1x512 .f32)
  (Cr Ci : Fin 2 → Fin 1024 → Fin 256 → EReal) (r : Fin 1024) (S : Fin 2048 → EReal × EReal)
  (hr0 : ∀ m, sr0 (ix2 r m) = (S (stat 0 m)).1) (hi0 : ∀ m, si0 (ix2 r m) = (S (stat 0 m)).2)
  (hr1 : ∀ m, sr1 (ix2 r m) = (S (stat 1 m)).1) (hi1 : ∀ m, si1 (ix2 r m) = (S (stat 1 m)).2)
  (gr0 : ∀ m k, cr0 (ix3 0 m k) = Cr 0 m k) (gi0 : ∀ m k, ci0 (ix3 0 m k) = Ci 0 m k)
  (gr1 : ∀ m k, cr1 (ix3 0 m k) = Cr 1 m k) (gi1 : ∀ m k, ci1 (ix3 0 m k) = Ci 1 m k)

include hr0 hi0 hr1 hi1 gr0 gi0 gr1 gi1

/-- The readout of row `r`. -/
theorem readout_apply (o : Fin 512) :
    k0_pay77 rows sr0 cr0 si0 ci0 sr1 cr1 si1 ci1 d (ix2 r o)
      = readout Cr Ci (fun j => d (ix2 0 j)) S (fun j => rows (ix2 r j)) o := by
  pointwise [k0_pay77]
  unfold readout
  simp only [hr0, hi0, hr1, hi1, gr0, gi0, gr1, gi1]
  have ho := o.isLt
  split
  · rename_i h
    have e1 : halfC o = 0 := Fin.ext (show o.val / 256 = 0 by omega)
    have e2 : lowC o = ⟨o.val, h⟩ := Fin.ext (show o.val % 256 = o.val by omega)
    rw [e1, e2]
  · rename_i h
    have e1 : halfC o = 1 := Fin.ext (show o.val / 256 = 1 by omega)
    have e2 : lowC o = ⟨o.val - 256, by omega⟩ := Fin.ext (show o.val % 256 = o.val - 256 by omega)
    rw [e1, e2]

/-- The branch's output on row `r`. -/
theorem branch_apply (W : Vec Ideal S512x512 .bf16) (bg : Vec Ideal S1x512 .f32) (o : Fin 512) :
    k0_pay80 (k0_pay77 rows sr0 cr0 si0 ci0 sr1 cr1 si1 ci1 d) (k0_pay78 rows sr0 cr0 si0 ci0 sr1 cr1 si1 ci1 d)
        (k0_pay79 rows sr0 cr0 si0 ci0 sr1 cr1 si1 ci1 d) W bg (ix2 r o)
      = branch Cr Ci (fun j => d (ix2 0 j)) (fun j k => W (ix2 j k)) (fun k => bg (ix2 0 k)) S
          (fun j => rows (ix2 r j)) o := by
  have h := readout_apply rows sr0 si0 sr1 si1 cr0 ci0 cr1 ci1 d Cr Ci r S hr0 hi0 hr1 hi1 gr0 gi0 gr1 gi1
  unfold k0_pay78 k0_pay79
  generalize k0_pay77 rows sr0 cr0 si0 ci0 sr1 cr1 si1 ci1 d = v at h ⊢
  pointwise [k0_pay80]
  simp only [h, branch, glu, gelu, zero_sub]

end

/-- The rows put back as a block. -/
def sheet (R : FVec Ideal S1024x512 .f32) (y : S128x4096.Idx) : EReal :=
  R (ix2 (rowOf (y 0).val (y 0).isLt ⟨(y 1).val / 512, by have : (y 1).val < 4096 := (y 1).isLt; omega⟩)
    ⟨(y 1).val % 512, by omega⟩)

theorem sheet_apply (R : FVec Ideal S1024x512 .f32) (t : Fin 128) (b : Fin 8) (j : Fin 512) :
    sheet R (ix2 t (colB b j)) = R (ix2 (rowOf t.val t.isLt b) j) := by
  unfold sheet
  have e1 : (⟨(colB b j).val / 512, by have := (colB b j).isLt; omega⟩ : Fin 8) = b :=
    Fin.ext (show (512 * b.val + j.val) / 512 = b.val by omega)
  have e2 : (⟨(colB b j).val % 512, by omega⟩ : Fin 512) = j :=
    Fin.ext (show (512 * b.val + j.val) % 512 = j.val by omega)
  exact congrArg₂ (fun b j => R (ix2 (rowOf t.val t.isLt b) j)) e1 e2

theorem exists_tile (j : S128x128.Idx) : ∃ t l : Fin 128, j = (ix2 t l : S128x128.Idx) := ⟨j 0, j 1, eq_ix2 j⟩

theorem tile_cast (v : Vec Ideal S1x128x128 .f32) (t l : Fin 128) :
    (truncf .bf16 (shapeCast S128x128 v shapeCasts_S1x128x128_S128x128 : FVec Ideal S128x128 .f32) bitsLt_bf16_f32
      : FVec Ideal S128x128 .bf16) (ix2 t l) = v (ix3 0 t l) := by
  pointwise

/-- One of the 32 stores of the block: batch row `b`, slab `s`. -/
theorem tile_ok (v : View sig .tc .vmem S4x1024x128 .f32) (L : List (View.Piece (Elt Ideal) S4x1024x128 .f32))
    (R : FVec Ideal S1024x512 .f32) (hL : ∀ s r l, View.canon L (ix3 s r l : S4x1024x128.Idx) = R (ix2 r (chanS s l)))
    (p : View.Piece (Elt Ideal) S128x4096 .bf16) (s : Fin 4) (b : Fin 8) (o : ℕ)
    (inb : ∀ a, (![0, o] : Fin 2 → ℕ) a + S128x128.size a ≤ S128x4096.size a) (ho : o = 512 * b.val + 128 * s.val)
    (hp : p = ⟨Rect.unit (s := S128x4096) ![0, o] S128x128.size inb,
      truncf .bf16 (shapeCast S128x128 (v.readCov L (rowsRect s b).toLoadRect : Vec Ideal S1x128x128 .f32)
        shapeCasts_S1x128x128_S128x128 : FVec Ideal S128x128 .f32) bitsLt_bf16_f32⟩)
    (x : p.1.shape.Idx) : p.2 x = sheet R (p.1.emb x) := by
  subst hp
  obtain ⟨t, l, rfl⟩ := exists_tile x
  have e : (Rect.unit (s := S128x4096) ![0, o] S128x128.size inb).emb (ix2 t l : S128x128.Idx)
      = (ix2 t (colB b (chanS s l)) : S128x4096.Idx) := by
    refine funext fun a => Fin.ext ?_
    fin_cases a
    · show 0 + 1 * t.val = t.val; omega
    · show o + 1 * l.val = 512 * b.val + (128 * s.val + l.val); omega
  show _ = sheet R ((Rect.unit (s := S128x4096) ![0, o] S128x128.size inb).emb (ix2 t l : S128x128.Idx))
  rw [e, sheet_apply]
  refine (tile_cast _ t l).trans ?_
  rw [View.readCov_eq_canon', ← hL]
  exact congrArg (View.canon L) (rowsRect_idx s b t l)

/-- Slab `s` of the rows `R`. -/
def IsSlab (R : FVec Ideal S1024x512 .f32) (s : Fin 4) (w : FVec Ideal S1x1024x128 .f32) : Prop :=
  ∀ r l, w (ix3 0 r l) = R (ix2 r (chanS s l))

theorem slab3 (R : FVec Ideal S1024x512 .f32) : IsSlab R 3 (k0_pay84 R) := by
  intro r l
  pointwise [k0_pay84]
  rfl

theorem slab0 (a b c : FVec Ideal S1024x512 .f32) (W : Vec Ideal S512x512 .bf16) (g : Vec Ideal S1x512 .f32) :
    IsSlab (k0_pay80 a b c W g) 0 (k0_pay81 a b c W g) := by
  intro r l
  unfold k0_pay81
  generalize k0_pay80 a b c W g = R
  pointwise
  exact congrArg (fun q => R (ix2 r q)) (Fin.ext (show l.val = 128 * 0 + l.val by omega))

theorem slab1 (a b c : FVec Ideal S1024x512 .f32) (W : Vec Ideal S512x512 .bf16) (g : Vec Ideal S1x512 .f32) :
    IsSlab (k0_pay80 a b c W g) 1 (k0_pay82 a b c W g) := by
  intro r l
  unfold k0_pay82
  generalize k0_pay80 a b c W g = R
  pointwise
  rfl

theorem slab2 (a b c : FVec Ideal S1024x512 .f32) (W : Vec Ideal S512x512 .bf16) (g : Vec Ideal S1x512 .f32) :
    IsSlab (k0_pay80 a b c W g) 2 (k0_pay83 a b c W g) := by
  intro r l
  unfold k0_pay83
  generalize k0_pay80 a b c W g = R
  pointwise
  rfl

/-- The whole of a slab. -/
theorem slab_place (s : Fin 4) (off : Fin 3 → ℕ) (inb : ∀ a, off a + S1x1024x128.size a ≤ S4x1024x128.size a)
    (hoff : off = ![s.val, 0, 0]) (r : Fin 1024) (l : Fin 128) :
    (Rect.unit (s := S4x1024x128) off S1x1024x128.size inb).idx (ix3 0 r l : S1x1024x128.Idx)
      = (ix3 s r l : S4x1024x128.Idx) := by
  subst hoff
  refine funext fun a => Fin.ext ?_
  fin_cases a
  · show s.val + 1 * 0 = s.val; omega
  · show 0 + 1 * r.val = r.val; omega
  · show 0 + 1 * l.val = l.val; omega

/-- The rows as slabs. -/
def slabsOf (R : FVec Ideal S1024x512 .f32) (y : S4x1024x128.Idx) : EReal := R (ix2 (y 1) (chanS (y 0) (y 2)))

/-- Four slabs stored hold the rows. -/
theorem held_rows (R : FVec Ideal S1024x512 .f32) (L : List (View.Piece (Elt Ideal) S4x1024x128 .f32))
    (w : Fin 4 → FVec Ideal S1x1024x128 .f32) (hw : ∀ s, IsSlab R s (w s))
    (inb0 : ∀ a, (![0, 0, 0] : Fin 3 → ℕ) a + S1x1024x128.size a ≤ S4x1024x128.size a)
    (inb1 : ∀ a, (![1, 0, 0] : Fin 3 → ℕ) a + S1x1024x128.size a ≤ S4x1024x128.size a)
    (inb2 : ∀ a, (![2, 0, 0] : Fin 3 → ℕ) a + S1x1024x128.size a ≤ S4x1024x128.size a)
    (inb3 : ∀ a, (![3, 0, 0] : Fin 3 → ℕ) a + S1x1024x128.size a ≤ S4x1024x128.size a)
    (hL : L = [⟨Rect.unit (s := S4x1024x128) ![3, 0, 0] S1x1024x128.size inb3, w 3⟩,
      ⟨Rect.unit (s := S4x1024x128) ![2, 0, 0] S1x1024x128.size inb2, w 2⟩,
      ⟨Rect.unit (s := S4x1024x128) ![1, 0, 0] S1x1024x128.size inb1, w 1⟩,
      ⟨Rect.unit (s := S4x1024x128) ![0, 0, 0] S1x1024x128.size inb0, w 0⟩])
    (s : Fin 4) (r : Fin 1024) (l : Fin 128) :
    View.canon L (ix3 s r l : S4x1024x128.Idx) = R (ix2 r (chanS s l)) := by
  subst hL
  have row : ∀ x : S1x1024x128.Idx, ∃ r l, x = (ix3 0 r l : S1x1024x128.Idx) := fun x =>
    ⟨x 1, x 2, (eq_ix3 x).trans (by rw [show x 0 = (0 : Fin 1) from Subsingleton.elim (α := Fin 1) _ _])⟩
  have one : ∀ (s : Fin 4) (off : Fin 3 → ℕ) (inb : ∀ a, off a + S1x1024x128.size a ≤ S4x1024x128.size a)
      (hoff : off = ![s.val, 0, 0]) (x : S1x1024x128.Idx),
      w s x = slabsOf R
        ((Rect.unit (s := S4x1024x128) off S1x1024x128.size inb).idx x) := by
    intro s off inb hoff x
    obtain ⟨r, l, rfl⟩ := row x
    rw [slab_place s off inb hoff]
    exact hw s r l
  refine View.canon_apply_of_pieces (Val := Elt Ideal) (e := .f32) (slabsOf R) _
    (View.PiecesOf.mem (show View.PiecesOf (Val := Elt Ideal) (e := .f32) (slabsOf R)
      [⟨Rect.unit (s := S4x1024x128) ![3, 0, 0] S1x1024x128.size inb3, w 3⟩,
      ⟨Rect.unit (s := S4x1024x128) ![2, 0, 0] S1x1024x128.size inb2, w 2⟩,
      ⟨Rect.unit (s := S4x1024x128) ![1, 0, 0] S1x1024x128.size inb1, w 1⟩,
      ⟨Rect.unit (s := S4x1024x128) ![0, 0, 0] S1x1024x128.size inb0, w 0⟩] from
      ⟨one 3 _ inb3 rfl, one 2 _ inb2 rfl, one 1 _ inb1 rfl, one 0 _ inb0 rfl, trivial⟩)) _ ?_
  fin_cases s
  · exact ⟨_, List.mem_cons_of_mem _ (List.mem_cons_of_mem _ (List.mem_cons_of_mem _ List.mem_cons_self)),
      slab_place 0 _ inb0 rfl r l ▸ LoadRect.idx_mem _ _⟩
  · exact ⟨_, List.mem_cons_of_mem _ (List.mem_cons_of_mem _ List.mem_cons_self),
      slab_place 1 _ inb1 rfl r l ▸ LoadRect.idx_mem _ _⟩
  · exact ⟨_, List.mem_cons_of_mem _ List.mem_cons_self, slab_place 2 _ inb2 rfl r l ▸ LoadRect.idx_mem _ _⟩
  · exact ⟨_, List.mem_cons_self, slab_place 3 _ inb3 rfl r l ▸ LoadRect.idx_mem _ _⟩

/-! The carried states, kept in chunks of 512. -/

/-- A chunk of the kept states. -/
theorem chunk_place (o : ℕ) (ho : o + 512 ≤ 2048) (off : Fin 2 → ℕ)
    (inb : ∀ a, off a + S8x512.size a ≤ S8x2048.size a) (hoff : off = ![0, o]) (b : Fin 8) (q : Fin 512) :
    (Rect.unit (s := S8x2048) off S8x512.size inb).idx (ix2 b q : S8x512.Idx) = (ix2 b (colOf o ho q) : S8x2048.Idx) := by
  subst hoff
  refine funext fun a => Fin.ext ?_
  fin_cases a
  · show 0 + 1 * b.val = b.val; omega
  · show o + 1 * q.val = o + q.val; omega

/-- States by batch row and number, as an array. -/
def grid (Z : Fin 8 → Fin 2048 → EReal) (y : S8x2048.Idx) : EReal := Z (y 0) (y 1)

/-- Four chunks stored, over any earlier stores, hold the states. -/
theorem held_chunks (Z : Fin 8 → Fin 2048 → EReal) (L : List (View.Piece (Elt Ideal) S8x2048 .f32))
    (L' : List (View.Piece (Elt Ideal) S8x2048 .f32)) (w0 w1 w2 w3 : FVec Ideal S8x512 .f32)
    (inb0 : ∀ a, (![0, 0] : Fin 2 → ℕ) a + S8x512.size a ≤ S8x2048.size a)
    (inb1 : ∀ a, (![0, 512] : Fin 2 → ℕ) a + S8x512.size a ≤ S8x2048.size a)
    (inb2 : ∀ a, (![0, 1024] : Fin 2 → ℕ) a + S8x512.size a ≤ S8x2048.size a)
    (inb3 : ∀ a, (![0, 1536] : Fin 2 → ℕ) a + S8x512.size a ≤ S8x2048.size a)
    (h0 : ∀ b q, w0 (ix2 b q) = Z b (colOf 0 (by decide) q)) (h1 : ∀ b q, w1 (ix2 b q) = Z b (colOf 512 (by decide) q))
    (h2 : ∀ b q, w2 (ix2 b q) = Z b (colOf 1024 (by decide) q))
    (h3 : ∀ b q, w3 (ix2 b q) = Z b (colOf 1536 (by decide) q))
    (hL : L = (⟨Rect.unit (s := S8x2048) ![0, 1536] S8x512.size inb3, w3⟩ : View.Piece (Elt Ideal) S8x2048 .f32)
      :: ⟨Rect.unit (s := S8x2048) ![0, 1024] S8x512.size inb2, w2⟩
      :: ⟨Rect.unit (s := S8x2048) ![0, 512] S8x512.size inb1, w1⟩
      :: ⟨Rect.unit (s := S8x2048) ![0, 0] S8x512.size inb0, w0⟩ :: L') (b : Fin 8) (n : Fin 2048) :
    View.canon L (ix2 b n : S8x2048.Idx) = Z b n := by
  subst hL
  have one : ∀ (o : ℕ) (ho : o + 512 ≤ 2048) (off : Fin 2 → ℕ)
      (inb : ∀ a, off a + S8x512.size a ≤ S8x2048.size a) (hoff : off = ![0, o]) (w : FVec Ideal S8x512 .f32)
      (hw : ∀ b q, w (ix2 b q) = Z b (colOf o ho q)) (x : S8x512.Idx),
      w x = grid Z ((Rect.unit (s := S8x2048) off S8x512.size inb).idx x) := by
    intro o ho off inb hoff w hw x
    obtain ⟨b, q, rfl⟩ : ∃ (b : Fin 8) (q : Fin 512), x = (ix2 b q : S8x512.Idx) := ⟨x 0, x 1, eq_ix2 x⟩
    rw [chunk_place o ho off inb hoff]
    exact hw b q
  have hn := n.isLt
  refine View.canon_append_of_pieces (Val := Elt Ideal) (e := .f32) (grid Z) L'
    [⟨Rect.unit (s := S8x2048) ![0, 1536] S8x512.size inb3, w3⟩, ⟨Rect.unit (s := S8x2048) ![0, 1024] S8x512.size inb2, w2⟩,
      ⟨Rect.unit (s := S8x2048) ![0, 512] S8x512.size inb1, w1⟩, ⟨Rect.unit (s := S8x2048) ![0, 0] S8x512.size inb0, w0⟩]
    (View.PiecesOf.mem (Val := Elt Ideal) (e := .f32) (G := grid Z) ⟨one 1536 (by decide) _ inb3 rfl w3 h3, one 1024 (by decide) _ inb2 rfl w2 h2,
      one 512 (by decide) _ inb1 rfl w1 h1, one 0 (by decide) _ inb0 rfl w0 h0, trivial⟩) _ ?_
  have at_ : ∀ (o : ℕ) (ho : o + 512 ≤ 2048) (h1 : o ≤ n.val) (h2 : n.val < o + 512) (off : Fin 2 → ℕ)
      (inb : ∀ a, off a + S8x512.size a ≤ S8x2048.size a) (hoff : off = ![0, o]),
      (ix2 b n : S8x2048.Idx) ∈ (Rect.unit (s := S8x2048) off S8x512.size inb).set := by
    intro o ho h1 h2 off inb hoff
    have e : n = colOf o ho ⟨n.val - o, by omega⟩ := Fin.ext (show n.val = o + (n.val - o) by omega)
    rw [e, ← chunk_place o ho off inb hoff]
    exact LoadRect.idx_mem _ _
  by_cases n3 : 1536 ≤ n.val
  · exact ⟨_, List.mem_cons_self, at_ 1536 (by decide) n3 (by omega) _ inb3 rfl⟩
  by_cases n2 : 1024 ≤ n.val
  · exact ⟨_, List.mem_cons_of_mem _ List.mem_cons_self, at_ 1024 (by decide) n2 (by omega) _ inb2 rfl⟩
  by_cases n1 : 512 ≤ n.val
  · exact ⟨_, List.mem_cons_of_mem _ (List.mem_cons_of_mem _ List.mem_cons_self),
      at_ 512 (by decide) n1 (by omega) _ inb1 rfl⟩
  · exact ⟨_, List.mem_cons_of_mem _ (List.mem_cons_of_mem _ (List.mem_cons_of_mem _ List.mem_cons_self)),
      at_ 0 (by decide) (Nat.zero_le _) (by omega) _ inb0 rfl⟩

end Cert.S5Out

end
-- ==== Proof.S5Body.lean ====
/-
  The body of the S5 kernel on one block of 128 times: from the block, the layer's matrices and the states kept from the
  block before, the states by time and the branch's output on the laid-out rows. Both cases of the body, the first grid
  point and the later ones, are this; they differ in where the kept states are read.
-/
module

public import proofs.«01_k».proof.Proof.S5States
public import proofs.«01_k».proof.Proof.S5Out

@[expose] public section

noncomputable section

namespace Cert.S5Body

open Cert.KernelIdeal Cert.KernelIdeal.Gen Idealize.ShloMosaic Idealize.ShloMosaic.TcCoe Idealize.SL.Sem
open Cert.S5Spec Cert.S5Trip Cert.S5Loops Cert.S5Chain Cert.S5States Cert.S5Layer Cert.S5Shuffle Cert.S5Feed Cert.S5Out

/-- The channels of batch row `b` by time. -/
def chansAt (x0 : Vec Ideal S128x4096 .f32) (b : Fin 8) (t : ℕ) (j : Fin 512) : EReal :=
  if ht : t < 128 then chans x0 ⟨t, ht⟩ b j else 0

/-- The states of batch row `b` in a block, from the kept ones. -/
def blockState (x0 : Vec Ideal S128x4096 .f32) (x3 x4 : Vec Ideal S1x2048 .f32) (x5 x6 : Vec Ideal S2x256x1024 .bf16)
    (kept : Fin 8 → Fin 2048 → EReal × EReal) (b : Fin 8) : Fin 2048 → ℕ → EReal × EReal :=
  state (fun n => x3 (ix2 0 n)) (fun n => x4 (ix2 0 n)) (fun h k m => x5 (ix3 h k m)) (fun h k m => x6 (ix3 h k m))
    (chansAt x0 b) (kept b)

/-- The branch's output for batch row `b` at time `t` of a block, from the kept states. -/
def blockOut (x0 : Vec Ideal S128x4096 .f32) (x3 x4 : Vec Ideal S1x2048 .f32) (x5 x6 : Vec Ideal S2x256x1024 .bf16)
    (x7 x8 : Vec Ideal S2x1024x256 .bf16) (x9 : Vec Ideal S1x512 .f32) (x10 : Vec Ideal S512x512 .bf16)
    (x11 : Vec Ideal S1x512 .f32) (kept : Fin 8 → Fin 2048 → EReal × EReal) (b : Fin 8) (t : Fin 128) (o : Fin 512) :
    EReal :=
  branch (fun h m k => x7 (ix3 h m k)) (fun h m k => x8 (ix3 h m k)) (fun j => x9 (ix2 0 j)) (fun j k => x10 (ix2 j k))
    (fun k => x11 (ix2 0 k)) (fun n => blockState x0 x3 x4 x5 x6 kept b n (t.val + 1)) (chans x0 t b) o

theorem branch_congr (Cr Ci : Fin 2 → Fin 1024 → Fin 256 → EReal) (S : Fin 2048 → EReal × EReal) (o : Fin 512)
    {d d' : Fin 512 → EReal} {W W' : Fin 512 → Fin 512 → EReal} {g g' u u' : Fin 512 → EReal} (hd : ∀ j, d j = d' j)
    (hW : ∀ j k, W j k = W' j k) (hg : ∀ k, g k = g' k) (hu : ∀ j, u j = u' j) :
    branch Cr Ci d W g S u o = branch Cr Ci d' W' g' S u' o := by
  rw [funext hd, funext fun j => funext (hW j), funext hg, funext hu]

theorem feed_zero (B : Fin 2 → Fin 256 → Fin 1024 → EReal) (n : Fin 2048) : feed B (fun _ => 0) n = 0 := by
  unfold feed
  exact Finset.sum_eq_zero fun k _ => zero_mul _

theorem inputs_eq (X : S1024x2048.Idx → EReal) (x0 : Vec Ideal S128x4096 .f32) (B : Fin 2 → Fin 256 → Fin 1024 → EReal)
    (hX : ∀ r n, X (ix2 r n) = feed B (chans x0 (timeOf r) (batchOf r)) n) (b : Fin 8) (n : Fin 2048) :
    inputs X b n = fun t => feed B (chansAt x0 b t) n := by
  funext t
  unfold inputs
  by_cases ht : t < 128
  · have e : chansAt x0 b t = chans x0 ⟨t, ht⟩ b := by
      funext j
      unfold chansAt
      rw [dif_pos ht]
    rw [dif_pos ht, hX, e, timeOf_rowOf ⟨t, ht⟩ b, batchOf_rowOf ⟨t, ht⟩ b]
  · have e : chansAt x0 b t = fun _ => 0 := by
      funext j
      unfold chansAt
      rw [dif_neg ht]
    rw [dif_neg ht, e, feed_zero]

/-- A row of multipliers, read in a chunk. -/
theorem read_row (a : Memref sig .tc .vmem S1x2048 .f32) (ha : a.IsWhole) (x : Vec Ideal S1x2048 .f32) (o : ℕ)
    (ho : o + 512 ≤ 2048) (off : Fin 2 → ℕ) (inb : ∀ a, off a + S1x512.size a ≤ S1x2048.size a) (hoff : off = ![0, o])
    (q : Fin 512) :
    View.readAt (Elt Ideal) a.view (Rect.unit (s := S1x2048) off S1x512.size inb).toLoadRect (ha.unread x)
      (ix2 0 q : S1x512.Idx) = x (ix2 0 (colOf o ho q)) := by
  subst hoff
  rw [View.readAt_apply, ha.read_unread]
  refine congrArg x (funext fun a => Fin.ext ?_)
  fin_cases a
  · show 0 + 1 * 0 = 0; omega
  · show o + 1 * q.val = o + q.val; omega

theorem row45 (x : Vec Ideal S1x512 .f32) (b : Fin 8) (q : Fin 512) : rows (k0_pay45 x) b q = x (ix2 0 q) := by
  unfold rows
  pointwise [k0_pay45]

theorem row46 (x : Vec Ideal S1x512 .f32) (b : Fin 8) (q : Fin 512) : rows (k0_pay46 x) b q = x (ix2 0 q) := by
  unfold rows
  pointwise [k0_pay46]

theorem row61 (x : Vec Ideal S1x512 .f32) (b : Fin 8) (q : Fin 512) : rows (k0_pay61 x) b q = x (ix2 0 q) := by
  unfold rows
  pointwise [k0_pay61]

section

variable
  (c : Dev nD) (i : grid0.Coords) (arg1 : Memref sig .tc .vmem S128x4096 .f32)
  (harg1 : arg1.IsWhole) (arg2 : Memref sig .tc .vmem S8x2048 .f32) (harg2 : arg2.IsWhole)
  (arg3 : Memref sig .tc .vmem S8x2048 .f32) (harg3 : arg3.IsWhole) (arg4 : Memref sig .tc .vmem S1x2048 .f32)
  (harg4 : arg4.IsWhole) (arg5 : Memref sig .tc .vmem S1x2048 .f32) (harg5 : arg5.IsWhole)
  (arg6 : Memref sig .tc .vmem S2x256x1024 .bf16) (harg6 : arg6.IsWhole)
  (arg7 : Memref sig .tc .vmem S2x256x1024 .bf16) (harg7 : arg7.IsWhole)
  (arg8 : Memref sig .tc .vmem S2x1024x256 .bf16) (harg8 : arg8.IsWhole)
  (arg9 : Memref sig .tc .vmem S2x1024x256 .bf16) (harg9 : arg9.IsWhole) (arg10 : Memref sig .tc .vmem S1x512 .f32)
  (harg10 : arg10.IsWhole) (arg11 : Memref sig .tc .vmem S512x512 .bf16) (harg11 : arg11.IsWhole)
  (arg12 : Memref sig .tc .vmem S1x512 .f32) (harg12 : arg12.IsWhole) (arg13 : Memref sig .tc .vmem S128x4096 .bf16)
  (harg13 : arg13.IsWhole) (arg14 : Memref sig .tc .vmem S8x2048 .f32) (harg14 : arg14.IsWhole)
  (arg15 : Memref sig .tc .vmem S8x2048 .f32) (harg15 : arg15.IsWhole) (arg16 : Memref sig .tc .vmem S1024x2048 .f32)
  (harg16 : arg16.IsWhole) (arg17 : Memref sig .tc .vmem S1024x2048 .f32) (harg17 : arg17.IsWhole)
  (arg18 : Memref sig .tc .vmem S4x1024x128 .f32) (harg18 : arg18.IsWhole)
  (arg19 : Memref sig .tc .vmem S4x1024x128 .f32) (harg19 : arg19.IsWhole)
  (x0 : Vec Ideal S128x4096 .f32) (x3 x4 : Vec Ideal S1x2048 .f32) (x5 x6 : Vec Ideal S2x256x1024 .bf16)
  (x7 x8 : Vec Ideal S2x1024x256 .bf16) (x9 : Vec Ideal S1x512 .f32) (x10 : Vec Ideal S512x512 .bf16)
  (x11 : Vec Ideal S1x512 .f32)
  (v177 : Vec Ideal S8x512 .f32) (i1 i2 i3 i4 : FVec Ideal S8x512 .f32 × FVec Ideal S8x512 .f32)
  (kept : Fin 8 → Fin 2048 → EReal × EReal)

/-- Loop 1 of the body at its end. -/
abbrev loop1 : State :=
  end1 c i arg1 harg1 arg2 harg2 arg3 harg3 arg4 harg4 arg5 harg5 arg6 harg6 arg7 harg7 arg8 harg8 arg9 harg9 arg10
  harg10 arg11 harg11 arg12 harg12 arg13 harg13 arg14 harg14 arg15 harg15 arg16 harg16 arg17 harg17 arg18 harg18
  arg19 harg19 (kernelRun0_B.sl.r_9 c arg4 harg4 x3) (kernelRun0_B.sl.r_10 c arg5 harg5 x4) v177
  (kernelRun0_B.sl.HS0_2 c arg1 harg1 arg6 harg6 arg18 x0 x5) (kernelRun0_B.sl.HS1_2 c arg1 harg1 arg7 harg7 arg18 x0
  x6) i1

/-- Loop 2 of the body at its end. -/
abbrev loop2 : State :=
  end2 c i arg1 harg1 arg2 harg2 arg3 harg3 arg4 harg4 arg5 harg5 arg6 harg6 arg7 harg7 arg8 harg8 arg9 harg9 arg10
  harg10 arg11 harg11 arg12 harg12 arg13 harg13 arg14 harg14 arg15 harg15 arg16 harg16 arg17 harg17 arg18 harg18
  arg19 harg19 (kernelRun0_B.sl.r_9 c arg4 harg4 x3) (kernelRun0_B.sl.r_10 c arg5 harg5 x4) v177 (View.readAt (Elt
  Ideal) arg4.view (Rect.unit (s := S1x2048) ![0, 512] S1x512.size inb_S1x2048_S1x512_0_512).toLoadRect (harg4.unread
  x3)) (View.readAt (Elt Ideal) arg5.view (Rect.unit (s := S1x2048) ![0, 512] S1x512.size
  inb_S1x2048_S1x512_0_512).toLoadRect (harg5.unread x4)) (kernelRun0_B.sl.HS0_2 c arg1 harg1 arg6 harg6 arg18 x0 x5)
  (kernelRun0_B.sl.HS1_2 c arg1 harg1 arg7 harg7 arg18 x0 x6) i1 i2

/-- Loop 3 of the body at its end. -/
abbrev loop3 : State :=
  end3 c i arg1 harg1 arg2 harg2 arg3 harg3 arg4 harg4 arg5 harg5 arg6 harg6 arg7 harg7 arg8 harg8 arg9 harg9 arg10
  harg10 arg11 harg11 arg12 harg12 arg13 harg13 arg14 harg14 arg15 harg15 arg16 harg16 arg17 harg17 arg18 harg18
  arg19 harg19 (kernelRun0_B.sl.r_9 c arg4 harg4 x3) (kernelRun0_B.sl.r_10 c arg5 harg5 x4) v177 (View.readAt (Elt
  Ideal) arg4.view (Rect.unit (s := S1x2048) ![0, 512] S1x512.size inb_S1x2048_S1x512_0_512).toLoadRect (harg4.unread
  x3)) (View.readAt (Elt Ideal) arg5.view (Rect.unit (s := S1x2048) ![0, 512] S1x512.size
  inb_S1x2048_S1x512_0_512).toLoadRect (harg5.unread x4)) (kernelRun0_B.sl.r_12 c arg4 harg4 x3) (View.readAt (Elt
  Ideal) arg5.view (Rect.unit (s := S1x2048) ![0, 1024] S1x512.size inb_S1x2048_S1x512_0_1024).toLoadRect
  (harg5.unread x4)) (kernelRun0_B.sl.HS0_2 c arg1 harg1 arg6 harg6 arg18 x0 x5) (kernelRun0_B.sl.HS1_2 c arg1 harg1
  arg7 harg7 arg18 x0 x6) i1 i2 i3

/-- Loop 4 of the body at its end. -/
abbrev loop4 : State :=
  end4 c i arg1 harg1 arg2 harg2 arg3 harg3 arg4 harg4 arg5 harg5 arg6 harg6 arg7 harg7 arg8 harg8 arg9 harg9 arg10
  harg10 arg11 harg11 arg12 harg12 arg13 harg13 arg14 harg14 arg15 harg15 arg16 harg16 arg17 harg17 arg18 harg18
  arg19 harg19 (kernelRun0_B.sl.r_9 c arg4 harg4 x3) (kernelRun0_B.sl.r_10 c arg5 harg5 x4) v177 (View.readAt (Elt
  Ideal) arg4.view (Rect.unit (s := S1x2048) ![0, 512] S1x512.size inb_S1x2048_S1x512_0_512).toLoadRect (harg4.unread
  x3)) (View.readAt (Elt Ideal) arg5.view (Rect.unit (s := S1x2048) ![0, 512] S1x512.size
  inb_S1x2048_S1x512_0_512).toLoadRect (harg5.unread x4)) (kernelRun0_B.sl.r_12 c arg4 harg4 x3) (View.readAt (Elt
  Ideal) arg5.view (Rect.unit (s := S1x2048) ![0, 1024] S1x512.size inb_S1x2048_S1x512_0_1024).toLoadRect
  (harg5.unread x4)) (View.readAt (Elt Ideal) arg4.view (Rect.unit (s := S1x2048) ![0, 1536] S1x512.size
  inb_S1x2048_S1x512_0_1536).toLoadRect (harg4.unread x3)) (View.readAt (Elt Ideal) arg5.view (Rect.unit (s :=
  S1x2048) ![0, 1536] S1x512.size inb_S1x2048_S1x512_0_1536).toLoadRect (harg5.unread x4)) (kernelRun0_B.sl.HS0_2 c
  arg1 harg1 arg6 harg6 arg18 x0 x5) (kernelRun0_B.sl.HS1_2 c arg1 harg1 arg7 harg7 arg18 x0 x6) i1 i2 i3 i4

/-- All the stores made to the first array. -/
abbrev storesR : Stores :=
  ((loop4 c i arg1 harg1 arg2 harg2 arg3 harg3 arg4 harg4 arg5 harg5 arg6 harg6 arg7 harg7 arg8 harg8 arg9 harg9
  arg10 harg10 arg11 harg11 arg12 harg12 arg13 harg13 arg14 harg14 arg15 harg15 arg16 harg16 arg17 harg17 arg18
  harg18 arg19 harg19 x0 x3 x4 x5 x6 v177 i1 i2 i3 i4).2.1 ++ ((loop3 c i arg1 harg1 arg2 harg2 arg3 harg3 arg4 harg4
  arg5 harg5 arg6 harg6 arg7 harg7 arg8 harg8 arg9 harg9 arg10 harg10 arg11 harg11 arg12 harg12 arg13 harg13 arg14
  harg14 arg15 harg15 arg16 harg16 arg17 harg17 arg18 harg18 arg19 harg19 x0 x3 x4 x5 x6 v177 i1 i2 i3).2.1 ++
  ((loop2 c i arg1 harg1 arg2 harg2 arg3 harg3 arg4 harg4 arg5 harg5 arg6 harg6 arg7 harg7 arg8 harg8 arg9 harg9
  arg10 harg10 arg11 harg11 arg12 harg12 arg13 harg13 arg14 harg14 arg15 harg15 arg16 harg16 arg17 harg17 arg18
  harg18 arg19 harg19 x0 x3 x4 x5 x6 v177 i1 i2).2.1 ++ ((loop1 c i arg1 harg1 arg2 harg2 arg3 harg3 arg4 harg4 arg5
  harg5 arg6 harg6 arg7 harg7 arg8 harg8 arg9 harg9 arg10 harg10 arg11 harg11 arg12 harg12 arg13 harg13 arg14 harg14
  arg15 harg15 arg16 harg16 arg17 harg17 arg18 harg18 arg19 harg19 x0 x3 x4 x5 x6 v177 i1).2.1 ++
  (kernelRun0_B.sl.HS0_2 c arg1 harg1 arg6 harg6 arg18 x0 x5)))))

/-- All the stores made to the second array. -/
abbrev storesI : Stores :=
  ((loop4 c i arg1 harg1 arg2 harg2 arg3 harg3 arg4 harg4 arg5 harg5 arg6 harg6 arg7 harg7 arg8 harg8 arg9 harg9
  arg10 harg10 arg11 harg11 arg12 harg12 arg13 harg13 arg14 harg14 arg15 harg15 arg16 harg16 arg17 harg17 arg18
  harg18 arg19 harg19 x0 x3 x4 x5 x6 v177 i1 i2 i3 i4).2.2 ++ ((loop3 c i arg1 harg1 arg2 harg2 arg3 harg3 arg4 harg4
  arg5 harg5 arg6 harg6 arg7 harg7 arg8 harg8 arg9 harg9 arg10 harg10 arg11 harg11 arg12 harg12 arg13 harg13 arg14
  harg14 arg15 harg15 arg16 harg16 arg17 harg17 arg18 harg18 arg19 harg19 x0 x3 x4 x5 x6 v177 i1 i2 i3).2.2 ++
  ((loop2 c i arg1 harg1 arg2 harg2 arg3 harg3 arg4 harg4 arg5 harg5 arg6 harg6 arg7 harg7 arg8 harg8 arg9 harg9
  arg10 harg10 arg11 harg11 arg12 harg12 arg13 harg13 arg14 harg14 arg15 harg15 arg16 harg16 arg17 harg17 arg18
  harg18 arg19 harg19 x0 x3 x4 x5 x6 v177 i1 i2).2.2 ++ ((loop1 c i arg1 harg1 arg2 harg2 arg3 harg3 arg4 harg4 arg5
  harg5 arg6 harg6 arg7 harg7 arg8 harg8 arg9 harg9 arg10 harg10 arg11 harg11 arg12 harg12 arg13 harg13 arg14 harg14
  arg15 harg15 arg16 harg16 arg17 harg17 arg18 harg18 arg19 harg19 x0 x3 x4 x5 x6 v177 i1).2.2 ++
  (kernelRun0_B.sl.HS1_2 c arg1 harg1 arg7 harg7 arg18 x0 x6)))))

variable
  (hs1 : ∀ b q, (i1.1 (ix2 b q), i1.2 (ix2 b q)) = kept b (colOf 0 chunk1 q))
  (hs2 : ∀ b q, (i2.1 (ix2 b q), i2.2 (ix2 b q)) = kept b (colOf 512 chunk2 q))
  (hs3 : ∀ b q, (i3.1 (ix2 b q), i3.2 (ix2 b q)) = kept b (colOf 1024 chunk3 q))
  (hs4 : ∀ b q, (i4.1 (ix2 b q), i4.2 (ix2 b q)) = kept b (colOf 1536 chunk4 q))

include hs1 hs2 hs3 hs4

/-- The states by time in the two arrays, and the last ones as the loops carry them. -/
theorem states_eq :
    (∀ (t : Fin 128) b n, (held (storesR c i arg1 harg1 arg2 harg2 arg3 harg3 arg4 harg4 arg5 harg5 arg6 harg6 arg7
    harg7 arg8 harg8 arg9 harg9 arg10 harg10 arg11 harg11 arg12 harg12 arg13 harg13 arg14 harg14 arg15 harg15 arg16
    harg16 arg17 harg17 arg18 harg18 arg19 harg19 x0 x3 x4 x5 x6 v177 i1 i2 i3 i4) (ix2 (rowOf t.val t.isLt b) n),
    held (storesI c i arg1 harg1 arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17
    arg18 harg18 arg19 harg19 x0 x3 x4 x5 x6 v177 i1 i2 i3 i4) (ix2 (rowOf t.val t.isLt b) n)) = blockState x0 x3 x4
    x5 x6 kept b n (t.val + 1))
    ∧ (∀ b q, ((loop1 c i arg1 harg1 arg2 harg2 arg3 harg3 arg4 harg4 arg5 harg5 arg6 harg6 arg7 harg7 arg8 harg8
    arg9 harg9 arg10 harg10 arg11 harg11 arg12 harg12 arg13 harg13 arg14 harg14 arg15 harg15 arg16 harg16 arg17
    harg17 arg18 harg18 arg19 harg19 x0 x3 x4 x5 x6 v177 i1).1.1 (ix2 b q), (loop1 c i arg1 harg1 arg2 harg2 arg3
    harg3 arg4 harg4 arg5 harg5 arg6 harg6 arg7 harg7 arg8 harg8 arg9 harg9 arg10 harg10 arg11 harg11 arg12 harg12
    arg13 harg13 arg14 harg14 arg15 harg15 arg16 harg16 arg17 harg17 arg18 harg18 arg19 harg19 x0 x3 x4 x5 x6 v177
    i1).1.2 (ix2 b q)) = blockState x0 x3 x4 x5 x6 kept b (colOf 0 chunk1 q) 128)
    ∧ (∀ b q, ((loop2 c i arg1 harg1 arg2 harg2 arg3 harg3 arg4 harg4 arg5 harg5 arg6 harg6 arg7 harg7 arg8 harg8
    arg9 harg9 arg10 harg10 arg11 harg11 arg12 harg12 arg13 harg13 arg14 harg14 arg15 harg15 arg16 harg16 arg17
    harg17 arg18 harg18 arg19 harg19 x0 x3 x4 x5 x6 v177 i1 i2).1.1 (ix2 b q), (loop2 c i arg1 harg1 arg2 harg2 arg3
    harg3 arg4 harg4 arg5 harg5 arg6 harg6 arg7 harg7 arg8 harg8 arg9 harg9 arg10 harg10 arg11 harg11 arg12 harg12
    arg13 harg13 arg14 harg14 arg15 harg15 arg16 harg16 arg17 harg17 arg18 harg18 arg19 harg19 x0 x3 x4 x5 x6 v177 i1
    i2).1.2 (ix2 b q)) = blockState x0 x3 x4 x5 x6 kept b (colOf 512 chunk2 q) 128)
    ∧ (∀ b q, ((loop3 c i arg1 harg1 arg2 harg2 arg3 harg3 arg4 harg4 arg5 harg5 arg6 harg6 arg7 harg7 arg8 harg8
    arg9 harg9 arg10 harg10 arg11 harg11 arg12 harg12 arg13 harg13 arg14 harg14 arg15 harg15 arg16 harg16 arg17
    harg17 arg18 harg18 arg19 harg19 x0 x3 x4 x5 x6 v177 i1 i2 i3).1.1 (ix2 b q), (loop3 c i arg1 harg1 arg2 harg2
    arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 arg19 harg19 x0 x3 x4 x5 x6
    v177 i1 i2 i3).1.2 (ix2 b q)) = blockState x0 x3 x4 x5 x6 kept b (colOf 1024 chunk3 q) 128)
    ∧ (∀ b q, ((loop4 c i arg1 harg1 arg2 harg2 arg3 harg3 arg4 harg4 arg5 harg5 arg6 harg6 arg7 harg7 arg8 harg8
    arg9 harg9 arg10 harg10 arg11 harg11 arg12 harg12 arg13 harg13 arg14 harg14 arg15 harg15 arg16 harg16 arg17
    harg17 arg18 harg18 arg19 harg19 x0 x3 x4 x5 x6 v177 i1 i2 i3 i4).1.1 (ix2 b q), (loop4 c i arg1 harg1 arg2 harg2
    arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 arg19 harg19 x0 x3 x4 x5 x6
    v177 i1 i2 i3 i4).1.2 (ix2 b q)) = blockState x0 x3 x4 x5 x6 kept b (colOf 1536 chunk4 q) 128) := by
  have key : ∀ b n, S5Chain.states (fun n => x3 (ix2 0 n)) (fun n => x4 (ix2 0 n))
      (held (kernelRun0_B.sl.HS0_2 c arg1 harg1 arg6 harg6 arg18 x0 x5))
      (held (kernelRun0_B.sl.HS1_2 c arg1 harg1 arg7 harg7 arg18 x0 x6)) kept b n
        = blockState x0 x3 x4 x5 x6 kept b n := by
    intro b n
    funext k
    unfold S5Chain.states blockState state
    rw [inputs_eq _ x0 (fun h k m => x5 (ix3 h k m)) (held_re c arg1 harg1 arg6 harg6 arg18 x0 x5),
      inputs_eq _ x0 (fun h k m => x6 (ix3 h k m)) (held_im c arg1 harg1 arg18 x0 arg7 harg7 x6)]
  have h := loops c i arg1 harg1 arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17
    arg18 harg18 arg19 harg19 (kernelRun0_B.sl.r_9 c arg4 harg4 x3) (kernelRun0_B.sl.r_10 c arg5 harg5 x4) v177
    (View.readAt (Elt Ideal) arg4.view (Rect.unit (s := S1x2048) ![0, 512] S1x512.size
    inb_S1x2048_S1x512_0_512).toLoadRect (harg4.unread x3)) (View.readAt (Elt Ideal) arg5.view (Rect.unit (s :=
    S1x2048) ![0, 512] S1x512.size inb_S1x2048_S1x512_0_512).toLoadRect (harg5.unread x4)) (kernelRun0_B.sl.r_12 c
    arg4 harg4 x3) (View.readAt (Elt Ideal) arg5.view (Rect.unit (s := S1x2048) ![0, 1024] S1x512.size
    inb_S1x2048_S1x512_0_1024).toLoadRect (harg5.unread x4)) (View.readAt (Elt Ideal) arg4.view (Rect.unit (s :=
    S1x2048) ![0, 1536] S1x512.size inb_S1x2048_S1x512_0_1536).toLoadRect (harg4.unread x3)) (View.readAt (Elt Ideal)
    arg5.view (Rect.unit (s := S1x2048) ![0, 1536] S1x512.size inb_S1x2048_S1x512_0_1536).toLoadRect (harg5.unread
    x4)) (kernelRun0_B.sl.HS0_2 c arg1 harg1 arg6 harg6 arg18 x0 x5) (kernelRun0_B.sl.HS1_2 c arg1 harg1 arg7 harg7
    arg18 x0 x6) i1 i2 i3 i4 (fun n => x3 (ix2 0 n)) (fun n => x4 (ix2 0 n)) kept
    (fun b q => (row45 _ b q).trans (read_row arg4 harg4 x3 0 _ _ _ rfl q))
    (fun b q => (row46 _ b q).trans (read_row arg5 harg5 x4 0 _ _ _ rfl q)) hs1
    (fun b q => read_row arg4 harg4 x3 512 _ _ _ rfl q) (fun b q => read_row arg5 harg5 x4 512 _ _ _ rfl q) hs2
    (fun b q => (row61 _ b q).trans (read_row arg4 harg4 x3 1024 _ _ _ rfl q))
    (fun b q => read_row arg5 harg5 x4 1024 _ _ _ rfl q) hs3
    (fun b q => read_row arg4 harg4 x3 1536 _ _ _ rfl q) (fun b q => read_row arg5 harg5 x4 1536 _ _ _ rfl q) hs4
  simp only [key] at h
  exact ⟨fun t b n => h.1 t.val t.isLt b n, h.2⟩

omit hs1 hs2 hs3 hs4

/-- The output rows, as the body computes them. -/
abbrev rowsOut : FVec Ideal S1024x512 .f32 :=
  k0_pay80
    (k0_pay77 (kernelRun0_B.sl.r_5 c arg1 harg1 arg18 x0) (arg16.view.readCov (storesR c i arg1 harg1 arg2 harg2 arg3
    harg3 arg4 harg4 arg5 harg5 arg6 harg6 arg7 harg7 arg8 harg8 arg9 harg9 arg10 harg10 arg11 harg11 arg12 harg12
    arg13 harg13 arg14 harg14 arg15 harg15 arg16 harg16 arg17 harg17 arg18 harg18 arg19 harg19 x0 x3 x4 x5 x6 v177 i1
    i2 i3 i4) (Rect.unit (s := S1024x2048) ![0, 0] S1024x1024.size inb_S1024x2048_S1024x1024_0_0).toLoadRect)
    (View.readAt (Elt Ideal) arg8.view (Rect.unit (s := S2x1024x256) ![0, 0, 0] S1x1024x256.size
    inb_S2x1024x256_S1x1024x256_0_0_0).toLoadRect (harg8.unread x7)) (arg17.view.readCov (storesI c i arg1 harg1 arg2
    harg2 arg3 harg3 arg4 harg4 arg5 harg5 arg6 harg6 arg7 harg7 arg8 harg8 arg9 harg9 arg10 harg10 arg11 harg11
    arg12 harg12 arg13 harg13 arg14 harg14 arg15 harg15 arg16 harg16 arg17 harg17 arg18 harg18 arg19 harg19 x0 x3 x4
    x5 x6 v177 i1 i2 i3 i4) (Rect.unit (s := S1024x2048) ![0, 0] S1024x1024.size
    inb_S1024x2048_S1024x1024_0_0).toLoadRect) (View.readAt (Elt Ideal) arg9.view (Rect.unit (s := S2x1024x256) ![0,
    0, 0] S1x1024x256.size inb_S2x1024x256_S1x1024x256_0_0_0).toLoadRect (harg9.unread x8)) (arg16.view.readCov
    (storesR c i arg1 harg1 arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18
    harg18 arg19 harg19 x0 x3 x4 x5 x6 v177 i1 i2 i3 i4) (Rect.unit (s := S1024x2048) ![0, 1024] S1024x1024.size
    inb_S1024x2048_S1024x1024_0_1024).toLoadRect) (View.readAt (Elt Ideal) arg8.view (Rect.unit (s := S2x1024x256)
    ![1, 0, 0] S1x1024x256.size inb_S2x1024x256_S1x1024x256_1_0_0).toLoadRect (harg8.unread x7)) (arg17.view.readCov
    (storesI c i arg1 harg1 arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18
    harg18 arg19 harg19 x0 x3 x4 x5 x6 v177 i1 i2 i3 i4) (Rect.unit (s := S1024x2048) ![0, 1024] S1024x1024.size
    inb_S1024x2048_S1024x1024_0_1024).toLoadRect) (View.readAt (Elt Ideal) arg9.view (Rect.unit (s := S2x1024x256)
    ![1, 0, 0] S1x1024x256.size inb_S2x1024x256_S1x1024x256_1_0_0).toLoadRect (harg9.unread x8)) (View.readAt (Elt
    Ideal) arg10.view (Rect.unit (s := S1x512) ![0, 0] S1x512.size inb_S1x512_S1x512_0_0).toLoadRect (harg10.unread
    x9)))
    (k0_pay78 (kernelRun0_B.sl.r_5 c arg1 harg1 arg18 x0) (arg16.view.readCov (storesR c i arg1 harg1 arg2 harg2 arg3
    harg3 arg4 harg4 arg5 harg5 arg6 harg6 arg7 harg7 arg8 harg8 arg9 harg9 arg10 harg10 arg11 harg11 arg12 harg12
    arg13 harg13 arg14 harg14 arg15 harg15 arg16 harg16 arg17 harg17 arg18 harg18 arg19 harg19 x0 x3 x4 x5 x6 v177 i1
    i2 i3 i4) (Rect.unit (s := S1024x2048) ![0, 0] S1024x1024.size inb_S1024x2048_S1024x1024_0_0).toLoadRect)
    (View.readAt (Elt Ideal) arg8.view (Rect.unit (s := S2x1024x256) ![0, 0, 0] S1x1024x256.size
    inb_S2x1024x256_S1x1024x256_0_0_0).toLoadRect (harg8.unread x7)) (arg17.view.readCov (storesI c i arg1 harg1 arg2
    harg2 arg3 harg3 arg4 harg4 arg5 harg5 arg6 harg6 arg7 harg7 arg8 harg8 arg9 harg9 arg10 harg10 arg11 harg11
    arg12 harg12 arg13 harg13 arg14 harg14 arg15 harg15 arg16 harg16 arg17 harg17 arg18 harg18 arg19 harg19 x0 x3 x4
    x5 x6 v177 i1 i2 i3 i4) (Rect.unit (s := S1024x2048) ![0, 0] S1024x1024.size
    inb_S1024x2048_S1024x1024_0_0).toLoadRect) (View.readAt (Elt Ideal) arg9.view (Rect.unit (s := S2x1024x256) ![0,
    0, 0] S1x1024x256.size inb_S2x1024x256_S1x1024x256_0_0_0).toLoadRect (harg9.unread x8)) (arg16.view.readCov
    (storesR c i arg1 harg1 arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18
    harg18 arg19 harg19 x0 x3 x4 x5 x6 v177 i1 i2 i3 i4) (Rect.unit (s := S1024x2048) ![0, 1024] S1024x1024.size
    inb_S1024x2048_S1024x1024_0_1024).toLoadRect) (View.readAt (Elt Ideal) arg8.view (Rect.unit (s := S2x1024x256)
    ![1, 0, 0] S1x1024x256.size inb_S2x1024x256_S1x1024x256_1_0_0).toLoadRect (harg8.unread x7)) (arg17.view.readCov
    (storesI c i arg1 harg1 arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18
    harg18 arg19 harg19 x0 x3 x4 x5 x6 v177 i1 i2 i3 i4) (Rect.unit (s := S1024x2048) ![0, 1024] S1024x1024.size
    inb_S1024x2048_S1024x1024_0_1024).toLoadRect) (View.readAt (Elt Ideal) arg9.view (Rect.unit (s := S2x1024x256)
    ![1, 0, 0] S1x1024x256.size inb_S2x1024x256_S1x1024x256_1_0_0).toLoadRect (harg9.unread x8)) (View.readAt (Elt
    Ideal) arg10.view (Rect.unit (s := S1x512) ![0, 0] S1x512.size inb_S1x512_S1x512_0_0).toLoadRect (harg10.unread
    x9)))
    (k0_pay79 (kernelRun0_B.sl.r_5 c arg1 harg1 arg18 x0) (arg16.view.readCov (storesR c i arg1 harg1 arg2 harg2 arg3
    harg3 arg4 harg4 arg5 harg5 arg6 harg6 arg7 harg7 arg8 harg8 arg9 harg9 arg10 harg10 arg11 harg11 arg12 harg12
    arg13 harg13 arg14 harg14 arg15 harg15 arg16 harg16 arg17 harg17 arg18 harg18 arg19 harg19 x0 x3 x4 x5 x6 v177 i1
    i2 i3 i4) (Rect.unit (s := S1024x2048) ![0, 0] S1024x1024.size inb_S1024x2048_S1024x1024_0_0).toLoadRect)
    (View.readAt (Elt Ideal) arg8.view (Rect.unit (s := S2x1024x256) ![0, 0, 0] S1x1024x256.size
    inb_S2x1024x256_S1x1024x256_0_0_0).toLoadRect (harg8.unread x7)) (arg17.view.readCov (storesI c i arg1 harg1 arg2
    harg2 arg3 harg3 arg4 harg4 arg5 harg5 arg6 harg6 arg7 harg7 arg8 harg8 arg9 harg9 arg10 harg10 arg11 harg11
    arg12 harg12 arg13 harg13 arg14 harg14 arg15 harg15 arg16 harg16 arg17 harg17 arg18 harg18 arg19 harg19 x0 x3 x4
    x5 x6 v177 i1 i2 i3 i4) (Rect.unit (s := S1024x2048) ![0, 0] S1024x1024.size
    inb_S1024x2048_S1024x1024_0_0).toLoadRect) (View.readAt (Elt Ideal) arg9.view (Rect.unit (s := S2x1024x256) ![0,
    0, 0] S1x1024x256.size inb_S2x1024x256_S1x1024x256_0_0_0).toLoadRect (harg9.unread x8)) (arg16.view.readCov
    (storesR c i arg1 harg1 arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18
    harg18 arg19 harg19 x0 x3 x4 x5 x6 v177 i1 i2 i3 i4) (Rect.unit (s := S1024x2048) ![0, 1024] S1024x1024.size
    inb_S1024x2048_S1024x1024_0_1024).toLoadRect) (View.readAt (Elt Ideal) arg8.view (Rect.unit (s := S2x1024x256)
    ![1, 0, 0] S1x1024x256.size inb_S2x1024x256_S1x1024x256_1_0_0).toLoadRect (harg8.unread x7)) (arg17.view.readCov
    (storesI c i arg1 harg1 arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18
    harg18 arg19 harg19 x0 x3 x4 x5 x6 v177 i1 i2 i3 i4) (Rect.unit (s := S1024x2048) ![0, 1024] S1024x1024.size
    inb_S1024x2048_S1024x1024_0_1024).toLoadRect) (View.readAt (Elt Ideal) arg9.view (Rect.unit (s := S2x1024x256)
    ![1, 0, 0] S1x1024x256.size inb_S2x1024x256_S1x1024x256_1_0_0).toLoadRect (harg9.unread x8)) (View.readAt (Elt
    Ideal) arg10.view (Rect.unit (s := S1x512) ![0, 0] S1x512.size inb_S1x512_S1x512_0_0).toLoadRect (harg10.unread
    x9)))
    (View.readAt (Elt Ideal) arg11.view (Rect.unit (s := S512x512) ![0, 0] S512x512.size
    inb_S512x512_S512x512_0_0).toLoadRect (harg11.unread x10)) (View.readAt (Elt Ideal) arg12.view (Rect.unit (s :=
    S1x512) ![0, 0] S1x512.size inb_S1x512_S1x512_0_0).toLoadRect (harg12.unread x11))

/-- A half of the columns of a scratch array, read back. -/
theorem read_cols_half (v : View sig .tc .vmem S1024x2048 .f32) (L : Stores) (h : Fin 2) (off : Fin 2 → ℕ)
    (inb : ∀ a, off a + S1024x1024.size a ≤ S1024x2048.size a) (hoff : off = ![0, 1024 * h.val]) (r m : Fin 1024) :
    v.readCov L (Rect.unit (s := S1024x2048) off S1024x1024.size inb).toLoadRect (ix2 r m : S1024x1024.Idx)
      = held L (ix2 r (stat h m)) := by
  rw [View.readCov_eq_canon']
  exact congrArg (View.canon L) (place h off inb hoff r m)

/-- A half of a stacked readout matrix, read whole. -/
theorem read_out (a : Memref sig .tc .vmem S2x1024x256 .bf16) (ha : a.IsWhole) (x : Vec Ideal S2x1024x256 .bf16)
    (h : Fin 2) (off : Fin 3 → ℕ) (inb : ∀ a, off a + S1x1024x256.size a ≤ S2x1024x256.size a)
    (hoff : off = ![h.val, 0, 0]) (m : Fin 1024) (k : Fin 256) :
    View.readAt (Elt Ideal) a.view (Rect.unit (s := S2x1024x256) off S1x1024x256.size inb).toLoadRect (ha.unread x)
      (ix3 0 m k : S1x1024x256.Idx) = x (ix3 h m k) := by
  subst hoff
  rw [View.readAt_apply, ha.read_unread]
  refine congrArg x (funext fun a => Fin.ext ?_)
  fin_cases a
  · show h.val + 1 * 0 = h.val; omega
  · show 0 + 1 * m.val = m.val; omega
  · show 0 + 1 * k.val = k.val; omega

/-- A whole row, and a whole square matrix, read. -/
theorem read_row512 (a : Memref sig .tc .vmem S1x512 .f32) (ha : a.IsWhole) (x : Vec Ideal S1x512 .f32)
    (inb : ∀ a, (![0, 0] : Fin 2 → ℕ) a + S1x512.size a ≤ S1x512.size a) (j : Fin 512) :
    View.readAt (Elt Ideal) a.view (Rect.unit (s := S1x512) ![0, 0] S1x512.size inb).toLoadRect (ha.unread x)
      (ix2 0 j : S1x512.Idx) = x (ix2 0 j) := by
  rw [View.readAt_apply, ha.read_unread]
  refine congrArg x (funext fun a => Fin.ext ?_)
  fin_cases a
  · show 0 + 1 * 0 = 0; omega
  · show 0 + 1 * j.val = j.val; omega

theorem read_square (a : Memref sig .tc .vmem S512x512 .bf16) (ha : a.IsWhole) (x : Vec Ideal S512x512 .bf16)
    (inb : ∀ a, (![0, 0] : Fin 2 → ℕ) a + S512x512.size a ≤ S512x512.size a) (j k : Fin 512) :
    View.readAt (Elt Ideal) a.view (Rect.unit (s := S512x512) ![0, 0] S512x512.size inb).toLoadRect (ha.unread x)
      (ix2 j k : S512x512.Idx) = x (ix2 j k) := by
  rw [View.readAt_apply, ha.read_unread]
  refine congrArg x (funext fun a => Fin.ext ?_)
  fin_cases a
  · show 0 + 1 * j.val = j.val; omega
  · show 0 + 1 * k.val = k.val; omega

include hs1 hs2 hs3 hs4

/-- The output row of time `t` and batch row `b`. -/
theorem rowsOut_apply (t : Fin 128) (b : Fin 8) (o : Fin 512) :
    rowsOut c i arg1 harg1 arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18
    harg18 arg19 harg19 x0 x3 x4 x5 x6 x7 x8 x9 x10 x11 v177 i1 i2 i3 i4 (ix2 (rowOf t.val t.isLt b) o)
      = blockOut x0 x3 x4 x5 x6 x7 x8 x9 x10 x11 kept b t o := by
  have h := (states_eq c i arg1 harg1 arg2 harg2 arg3 harg3 arg4 harg4 arg5 harg5 arg6 harg6 arg7 harg7 arg8 harg8
    arg9 harg9 arg10 harg10 arg11 harg11 arg12 harg12 arg13 harg13 arg14 harg14 arg15 harg15 arg16 harg16 arg17
    harg17 arg18 harg18 arg19 harg19 x0 x3 x4 x5 x6 v177 i1 i2 i3 i4 kept hs1 hs2 hs3 hs4).1 t b
  have h1 := fun n => congrArg Prod.fst (h n)
  have h2 := fun n => congrArg Prod.snd (h n)
  refine (branch_apply _ _ _ _ _ _ _ _ _ _ (fun h m k => x7 (ix3 h m k)) (fun h m k => x8 (ix3 h m k)) _
    (fun n => blockState x0 x3 x4 x5 x6 kept b n (t.val + 1))
    (fun m => (read_cols_half _ _ 0 _ _ rfl _ m).trans (h1 _))
    (fun m => (read_cols_half _ _ 0 _ _ rfl _ m).trans (h2 _))
    (fun m => (read_cols_half _ _ 1 _ _ rfl _ m).trans (h1 _))
    (fun m => (read_cols_half _ _ 1 _ _ rfl _ m).trans (h2 _))
    (fun m k => read_out arg8 harg8 x7 0 _ _ rfl m k) (fun m k => read_out arg9 harg9 x8 0 _ _ rfl m k)
    (fun m k => read_out arg8 harg8 x7 1 _ _ rfl m k) (fun m k => read_out arg9 harg9 x8 1 _ _ rfl m k) _ _ o).trans ?_
  unfold blockOut
  have e : ∀ j, kernelRun0_B.sl.r_5 (F := Ideal) c arg1 harg1 arg18 x0 (ix2 (rowOf t.val t.isLt b) j) = chans x0 t b j := by
    intro j
    rw [rows_eq, timeOf_rowOf, batchOf_rowOf]
    rfl
  exact branch_congr _ _ _ o (fun j => read_row512 arg10 harg10 x9 _ j) (fun j k => read_square arg11 harg11 x10 _ j k)
    (fun k => read_row512 arg12 harg12 x11 _ k) e

end

end Cert.S5Body

end
-- ==== Proof.S5Kept.lean ====
/-
  The states kept between grid points, in chunks of 512, and the output block assembled from its four slabs.
-/
module

public import proofs.«01_k».proof.Proof.S5Body

@[expose] public section

noncomputable section

namespace Cert.S5Kept

open Cert.KernelIdeal Cert.KernelIdeal.Gen Idealize.ShloMosaic Idealize.ShloMosaic.TcCoe Idealize.SL.Sem
open Cert.S5Trip Cert.S5States Cert.S5Layer Cert.S5Shuffle Cert.S5Out

/-- Kept states, as a pair of arrays. -/
def pairs (x y : S8x2048.Idx → EReal) (b : Fin 8) (n : Fin 2048) : EReal × EReal := (x (ix2 b n), y (ix2 b n))

/-- What each loop starts from is the chunk it was given. -/
theorem init1 (u v : Vec Ideal S8x512 .f32) (b : Fin 8) (q : Fin 512) :
    ((k0_pay47 u, k0_pay48 v).1 (ix2 b q), (k0_pay47 u, k0_pay48 v).2 (ix2 b q)) = (u (ix2 b q), v (ix2 b q)) := by
  pointwise [k0_pay47, k0_pay48]

theorem init2 (u v : Vec Ideal S8x512 .f32) (b : Fin 8) (q : Fin 512) :
    ((k0_pay55 u, k0_pay56 v).1 (ix2 b q), (k0_pay55 u, k0_pay56 v).2 (ix2 b q)) = (u (ix2 b q), v (ix2 b q)) := by
  pointwise [k0_pay55, k0_pay56]

theorem init3 (u v : Vec Ideal S8x512 .f32) (b : Fin 8) (q : Fin 512) :
    ((k0_pay63 u, k0_pay64 v).1 (ix2 b q), (k0_pay63 u, k0_pay64 v).2 (ix2 b q)) = (u (ix2 b q), v (ix2 b q)) := by
  pointwise [k0_pay63, k0_pay64]

theorem init4 (u v : Vec Ideal S8x512 .f32) (b : Fin 8) (q : Fin 512) :
    ((k0_pay71 u, k0_pay72 v).1 (ix2 b q), (k0_pay71 u, k0_pay72 v).2 (ix2 b q)) = (u (ix2 b q), v (ix2 b q)) := by
  pointwise [k0_pay71, k0_pay72]

/-- A chunk read from an array of kept states. -/
theorem read_chunk (a : Memref sig .tc .vmem S8x2048 .f32) (ha : a.IsWhole) (x : Vec Ideal S8x2048 .f32) (o : ℕ)
    (ho : o + 512 ≤ 2048) (off : Fin 2 → ℕ) (inb : ∀ a, off a + S8x512.size a ≤ S8x2048.size a) (hoff : off = ![0, o])
    (b : Fin 8) (q : Fin 512) :
    View.readAt (Elt Ideal) a.view (Rect.unit (s := S8x2048) off S8x512.size inb).toLoadRect (ha.unread x)
      (ix2 b q : S8x512.Idx) = x (ix2 b (colOf o ho q)) := by
  rw [View.readAt_apply, ha.read_unread]
  exact congrArg x (chunk_place o ho off inb hoff b q)

/-- A chunk read from the stores made to it. -/
theorem read_stores (v : View sig .tc .vmem S8x2048 .f32) (L : List (View.Piece (Elt Ideal) S8x2048 .f32)) (o : ℕ)
    (ho : o + 512 ≤ 2048) (off : Fin 2 → ℕ) (inb : ∀ a, off a + S8x512.size a ≤ S8x2048.size a) (hoff : off = ![0, o])
    (b : Fin 8) (q : Fin 512) :
    v.readCov L (Rect.unit (s := S8x2048) off S8x512.size inb).toLoadRect (ix2 b q : S8x512.Idx)
      = View.canon L (ix2 b (colOf o ho q) : S8x2048.Idx) := by
  rw [View.readCov_eq_canon']
  exact congrArg (View.canon L) (chunk_place o ho off inb hoff b q)

/-- A chunk stored does not touch the chunks after it. -/
theorem skip (L L' : List (View.Piece (Elt Ideal) S8x2048 .f32)) (w : FVec Ideal S8x512 .f32) (o p : ℕ)
    (ho : o + 512 ≤ 2048) (hp : p + 512 ≤ o) (off : Fin 2 → ℕ) (inb : ∀ a, off a + S8x512.size a ≤ S8x2048.size a)
    (hoff : off = ![0, p])
    (hL : L = (⟨Rect.unit (s := S8x2048) off S8x512.size inb, w⟩ : View.Piece (Elt Ideal) S8x2048 .f32) :: L')
    (b : Fin 8) (q : Fin 512) :
    View.canon L (ix2 b (colOf o ho q) : S8x2048.Idx) = View.canon L' (ix2 b (colOf o ho q) : S8x2048.Idx) := by
  subst hL
  refine View.canon_cons_of_not_mem _ _ fun hm => ?_
  obtain ⟨x, hx⟩ := LoadRect.exists_idx_of_mem _ hm
  obtain ⟨b', q', rfl⟩ : ∃ (b : Fin 8) (q : Fin 512), x = (ix2 b q : S8x512.Idx) := ⟨x 0, x 1, eq_ix2 x⟩
  have e : (ix2 b' (colOf p (by omega) q') : S8x2048.Idx) = ix2 b (colOf o ho q) :=
    (chunk_place p (by omega) off inb hoff b' q').symm.trans hx
  have e1 : p + q'.val = o + q.val := congrArg Fin.val (congrFun e 1)
  have := q'.isLt
  omega

/-- The whole array of first states, copied. -/
theorem copied (a : Memref sig .tc .vmem S8x2048 .f32) (ha : a.IsWhole) (x : Vec Ideal S8x2048 .f32)
    (L : List (View.Piece (Elt Ideal) S8x2048 .f32)) (w : FVec Ideal S8x2048 .f32)
    (inb : ∀ a, (![0, 0] : Fin 2 → ℕ) a + S8x2048.size a ≤ S8x2048.size a)
    (hw : ∀ b n, w (ix2 b n) = View.readAt (Elt Ideal) a.view
      (Rect.unit (s := S8x2048) ![0, 0] S8x2048.size inb).toLoadRect (ha.unread x) (ix2 b n : S8x2048.Idx))
    (hL : L = [⟨Rect.unit (s := S8x2048) ![0, 0] S8x2048.size inb, w⟩]) (b : Fin 8) (n : Fin 2048) :
    View.canon L (ix2 b n : S8x2048.Idx) = x (ix2 b n) := by
  subst hL
  have e : (Rect.unit (s := S8x2048) ![0, 0] S8x2048.size inb).emb (ix2 b n : S8x2048.Idx) = (ix2 b n : S8x2048.Idx) := by
    refine funext fun a => Fin.ext ?_
    fin_cases a
    · show 0 + 1 * b.val = b.val; omega
    · show 0 + 1 * n.val = n.val; omega
  have q := View.canon_cons_emb (Val := Elt Ideal) (e := .f32) (Rect.unit (s := S8x2048) ![0, 0] S8x2048.size inb) w []
    (ix2 b n : S8x2048.Idx)
  refine (congrArg _ e.symm).trans (q.trans ((hw b n).trans ?_))
  rw [View.readAt_apply, ha.read_unread]
  exact congrArg x e

theorem pay4_apply (u : Vec Ideal S8x2048 .f32) (b : Fin 8) (n : Fin 2048) : k0_pay4 u (ix2 b n) = u (ix2 b n) := by
  pointwise [k0_pay4]

theorem pay5_apply (u : Vec Ideal S8x2048 .f32) (b : Fin 8) (n : Fin 2048) : k0_pay5 u (ix2 b n) = u (ix2 b n) := by
  pointwise [k0_pay5]

/-- The four slabs the body stores hold the output rows. -/
theorem held_out (a b c : FVec Ideal S1024x512 .f32) (W : Vec Ideal S512x512 .bf16) (g : Vec Ideal S1x512 .f32)
    (L : List (View.Piece (Elt Ideal) S4x1024x128 .f32))
    (inb0 : ∀ a, (![0, 0, 0] : Fin 3 → ℕ) a + S1x1024x128.size a ≤ S4x1024x128.size a)
    (inb1 : ∀ a, (![1, 0, 0] : Fin 3 → ℕ) a + S1x1024x128.size a ≤ S4x1024x128.size a)
    (inb2 : ∀ a, (![2, 0, 0] : Fin 3 → ℕ) a + S1x1024x128.size a ≤ S4x1024x128.size a)
    (inb3 : ∀ a, (![3, 0, 0] : Fin 3 → ℕ) a + S1x1024x128.size a ≤ S4x1024x128.size a)
    (hL : L = [⟨Rect.unit (s := S4x1024x128) ![3, 0, 0] S1x1024x128.size inb3, k0_pay84 (k0_pay80 a b c W g)⟩,
      ⟨Rect.unit (s := S4x1024x128) ![2, 0, 0] S1x1024x128.size inb2, k0_pay83 a b c W g⟩,
      ⟨Rect.unit (s := S4x1024x128) ![1, 0, 0] S1x1024x128.size inb1, k0_pay82 a b c W g⟩,
      ⟨Rect.unit (s := S4x1024x128) ![0, 0, 0] S1x1024x128.size inb0, k0_pay81 a b c W g⟩])
    (s : Fin 4) (r : Fin 1024) (l : Fin 128) :
    View.canon L (ix3 s r l : S4x1024x128.Idx) = k0_pay80 a b c W g (ix2 r (chanS s l)) := by
  refine held_rows _ L ![k0_pay81 a b c W g, k0_pay82 a b c W g, k0_pay83 a b c W g, k0_pay84 (k0_pay80 a b c W g)] ?_
    inb0 inb1 inb2 inb3 hL s r l
  intro s
  fin_cases s
  · exact slab0 a b c W g
  · exact slab1 a b c W g
  · exact slab2 a b c W g
  · exact slab3 _

end Cert.S5Kept

end
-- ==== Proof.S5BlockA.lean ====
/-
  The body at the first grid point, where the kept states are the initial ones it copies first: what it leaves in its three outputs.
-/
module

public import proofs.«01_k».proof.Proof.S5Kept

@[expose] public section

noncomputable section

namespace Cert.S5BlockA

open Cert.KernelIdeal Cert.KernelIdeal.Gen Idealize.ShloMosaic Idealize.ShloMosaic.TcCoe Idealize.SL.Sem
open Cert.S5Trip Cert.S5States Cert.S5Layer Cert.S5Shuffle Cert.S5Out Cert.S5Body Cert.S5Kept

section

variable
  (c : Dev nD) (i : grid0.Coords) (arg1 : Memref sig .tc .vmem S128x4096 .f32)
  (harg1 : arg1.IsWhole) (arg2 : Memref sig .tc .vmem S8x2048 .f32) (harg2 : arg2.IsWhole)
  (arg3 : Memref sig .tc .vmem S8x2048 .f32) (harg3 : arg3.IsWhole) (arg4 : Memref sig .tc .vmem S1x2048 .f32)
  (harg4 : arg4.IsWhole) (arg5 : Memref sig .tc .vmem S1x2048 .f32) (harg5 : arg5.IsWhole)
  (arg6 : Memref sig .tc .vmem S2x256x1024 .bf16) (harg6 : arg6.IsWhole)
  (arg7 : Memref sig .tc .vmem S2x256x1024 .bf16) (harg7 : arg7.IsWhole)
  (arg8 : Memref sig .tc .vmem S2x1024x256 .bf16) (harg8 : arg8.IsWhole)
  (arg9 : Memref sig .tc .vmem S2x1024x256 .bf16) (harg9 : arg9.IsWhole) (arg10 : Memref sig .tc .vmem S1x512 .f32)
  (harg10 : arg10.IsWhole) (arg11 : Memref sig .tc .vmem S512x512 .bf16) (harg11 : arg11.IsWhole)
  (arg12 : Memref sig .tc .vmem S1x512 .f32) (harg12 : arg12.IsWhole) (arg13 : Memref sig .tc .vmem S128x4096 .bf16)
  (harg13 : arg13.IsWhole) (arg14 : Memref sig .tc .vmem S8x2048 .f32) (harg14 : arg14.IsWhole)
  (arg15 : Memref sig .tc .vmem S8x2048 .f32) (harg15 : arg15.IsWhole) (arg16 : Memref sig .tc .vmem S1024x2048 .f32)
  (harg16 : arg16.IsWhole) (arg17 : Memref sig .tc .vmem S1024x2048 .f32) (harg17 : arg17.IsWhole)
  (arg18 : Memref sig .tc .vmem S4x1024x128 .f32) (harg18 : arg18.IsWhole)
  (arg19 : Memref sig .tc .vmem S4x1024x128 .f32) (harg19 : arg19.IsWhole)
  (x0 : Vec Ideal S128x4096 .f32) (x1 x2 : Vec Ideal S8x2048 .f32) (x3 x4 : Vec Ideal S1x2048 .f32)
  (x5 x6 : Vec Ideal S2x256x1024 .bf16) (x7 x8 : Vec Ideal S2x1024x256 .bf16) (x9 : Vec Ideal S1x512 .f32)
  (x10 : Vec Ideal S512x512 .bf16) (x11 : Vec Ideal S1x512 .f32)

/-- What loop 1 starts from. -/
abbrev start1 : FVec Ideal S8x512 .f32 × FVec Ideal S8x512 .f32 :=
  (k0_pay47 (kernelRun0_A.sl.v177 c arg2 harg2 arg14 x1), k0_pay48 (kernelRun0_A.sl.v179 c arg3 harg3 arg15 x2))

/-- What loop 2 starts from. -/
abbrev start2 : FVec Ideal S8x512 .f32 × FVec Ideal S8x512 .f32 :=
  (k0_pay55 (kernelRun0_A.sl.v193 c i arg1 harg1 arg2 harg2 arg3 harg3 arg4 harg4 arg5 harg5 arg6 harg6 arg7 harg7
  arg8 harg8 arg9 harg9 arg10 harg10 arg11 harg11 arg12 harg12 arg13 harg13 arg14 harg14 arg15 harg15 arg16 harg16
  arg17 harg17 arg18 harg18 arg19 harg19 x0 x1 x2 x3 x4 x5 x6), k0_pay56 (kernelRun0_A.sl.v195 c i arg1 harg1 arg2
  harg2 arg3 harg3 arg4 harg4 arg5 harg5 arg6 harg6 arg7 harg7 arg8 harg8 arg9 harg9 arg10 harg10 arg11 harg11 arg12
  harg12 arg13 harg13 arg14 harg14 arg15 harg15 arg16 harg16 arg17 harg17 arg18 harg18 arg19 harg19 x0 x1 x2 x3 x4 x5
  x6))

/-- What loop 3 starts from. -/
abbrev start3 : FVec Ideal S8x512 .f32 × FVec Ideal S8x512 .f32 :=
  (k0_pay63 (kernelRun0_A.sl.v209 c i arg1 harg1 arg2 harg2 arg3 harg3 arg4 harg4 arg5 harg5 arg6 harg6 arg7 harg7
  arg8 harg8 arg9 harg9 arg10 harg10 arg11 harg11 arg12 harg12 arg13 harg13 arg14 harg14 arg15 harg15 arg16 harg16
  arg17 harg17 arg18 harg18 arg19 harg19 x0 x1 x2 x3 x4 x5 x6), k0_pay64 (kernelRun0_A.sl.v211 c i arg1 harg1 arg2
  harg2 arg3 harg3 arg4 harg4 arg5 harg5 arg6 harg6 arg7 harg7 arg8 harg8 arg9 harg9 arg10 harg10 arg11 harg11 arg12
  harg12 arg13 harg13 arg14 harg14 arg15 harg15 arg16 harg16 arg17 harg17 arg18 harg18 arg19 harg19 x0 x1 x2 x3 x4 x5
  x6))

/-- What loop 4 starts from. -/
abbrev start4 : FVec Ideal S8x512 .f32 × FVec Ideal S8x512 .f32 :=
  (k0_pay71 (kernelRun0_A.sl.v225 c i arg1 harg1 arg2 harg2 arg3 harg3 arg4 harg4 arg5 harg5 arg6 harg6 arg7 harg7
  arg8 harg8 arg9 harg9 arg10 harg10 arg11 harg11 arg12 harg12 arg13 harg13 arg14 harg14 arg15 harg15 arg16 harg16
  arg17 harg17 arg18 harg18 arg19 harg19 x0 x1 x2 x3 x4 x5 x6), k0_pay72 (kernelRun0_A.sl.v227 c i arg1 harg1 arg2
  harg2 arg3 harg3 arg4 harg4 arg5 harg5 arg6 harg6 arg7 harg7 arg8 harg8 arg9 harg9 arg10 harg10 arg11 harg11 arg12
  harg12 arg13 harg13 arg14 harg14 arg15 harg15 arg16 harg16 arg17 harg17 arg18 harg18 arg19 harg19 x0 x1 x2 x3 x4 x5
  x6))

theorem copy13 (b : Fin 8) (n : Fin 2048) :
    View.canon (kernelRun0_A.sl.H13_1 c arg2 harg2 x1) (ix2 b n : S8x2048.Idx) = x1 (ix2 b n) :=
  copied arg2 harg2 x1 _ _ inb_S8x2048_S8x2048_0_0 (fun b n => pay4_apply _ b n) rfl b n

theorem kept177 (b : Fin 8) (q : Fin 512) :
    kernelRun0_A.sl.v177 c arg2 harg2 arg14 x1 (ix2 b q) = x1 (ix2 b (colOf 0 chunk1 q)) :=
  (read_stores arg14.view _ 0 chunk1 _ _ rfl b q).trans (copy13 c arg2 harg2 x1 b _)

theorem kept193 (b : Fin 8) (q : Fin 512) :
    kernelRun0_A.sl.v193 c i arg1 harg1 arg2 harg2 arg3 harg3 arg4 harg4 arg5 harg5 arg6 harg6 arg7 harg7 arg8 harg8
    arg9 harg9 arg10 harg10 arg11 harg11 arg12 harg12 arg13 harg13 arg14 harg14 arg15 harg15 arg16 harg16 arg17
    harg17 arg18 harg18 arg19 harg19 x0 x1 x2 x3 x4 x5 x6 (ix2 b q) = x1 (ix2 b (colOf 512 chunk2 q)) :=
  (read_stores arg14.view _ 512 chunk2 _ _ rfl b q).trans
    ((skip _ _ _ 512 0 chunk2 (by decide) _ _ rfl rfl b q).trans
      (copy13 c arg2 harg2 x1 b _))

theorem kept209 (b : Fin 8) (q : Fin 512) :
    kernelRun0_A.sl.v209 c i arg1 harg1 arg2 harg2 arg3 harg3 arg4 harg4 arg5 harg5 arg6 harg6 arg7 harg7 arg8 harg8
    arg9 harg9 arg10 harg10 arg11 harg11 arg12 harg12 arg13 harg13 arg14 harg14 arg15 harg15 arg16 harg16 arg17
    harg17 arg18 harg18 arg19 harg19 x0 x1 x2 x3 x4 x5 x6 (ix2 b q) = x1 (ix2 b (colOf 1024 chunk3 q)) :=
  (read_stores arg14.view _ 1024 chunk3 _ _ rfl b q).trans
    ((skip _ _ _ 1024 512 chunk3 (by decide) _ _ rfl rfl b q).trans
    ((skip _ _ _ 1024 0 chunk3 (by decide) _ _ rfl rfl b q).trans
      (copy13 c arg2 harg2 x1 b _)))

theorem kept225 (b : Fin 8) (q : Fin 512) :
    kernelRun0_A.sl.v225 c i arg1 harg1 arg2 harg2 arg3 harg3 arg4 harg4 arg5 harg5 arg6 harg6 arg7 harg7 arg8 harg8
    arg9 harg9 arg10 harg10 arg11 harg11 arg12 harg12 arg13 harg13 arg14 harg14 arg15 harg15 arg16 harg16 arg17
    harg17 arg18 harg18 arg19 harg19 x0 x1 x2 x3 x4 x5 x6 (ix2 b q) = x1 (ix2 b (colOf 1536 chunk4 q)) :=
  (read_stores arg14.view _ 1536 chunk4 _ _ rfl b q).trans
    ((skip _ _ _ 1536 1024 chunk4 (by decide) _ _ rfl rfl b q).trans
    ((skip _ _ _ 1536 512 chunk4 (by decide) _ _ rfl rfl b q).trans
    ((skip _ _ _ 1536 0 chunk4 (by decide) _ _ rfl rfl b q).trans
      (copy13 c arg2 harg2 x1 b _))))

theorem copy14 (b : Fin 8) (n : Fin 2048) :
    View.canon (kernelRun0_A.sl.H14_1 c arg3 harg3 x2) (ix2 b n : S8x2048.Idx) = x2 (ix2 b n) :=
  copied arg3 harg3 x2 _ _ inb_S8x2048_S8x2048_0_0 (fun b n => pay5_apply _ b n) rfl b n

theorem kept179 (b : Fin 8) (q : Fin 512) :
    kernelRun0_A.sl.v179 c arg3 harg3 arg15 x2 (ix2 b q) = x2 (ix2 b (colOf 0 chunk1 q)) :=
  (read_stores arg15.view _ 0 chunk1 _ _ rfl b q).trans (copy14 c arg3 harg3 x2 b _)

theorem kept195 (b : Fin 8) (q : Fin 512) :
    kernelRun0_A.sl.v195 c i arg1 harg1 arg2 harg2 arg3 harg3 arg4 harg4 arg5 harg5 arg6 harg6 arg7 harg7 arg8 harg8
    arg9 harg9 arg10 harg10 arg11 harg11 arg12 harg12 arg13 harg13 arg14 harg14 arg15 harg15 arg16 harg16 arg17
    harg17 arg18 harg18 arg19 harg19 x0 x1 x2 x3 x4 x5 x6 (ix2 b q) = x2 (ix2 b (colOf 512 chunk2 q)) :=
  (read_stores arg15.view _ 512 chunk2 _ _ rfl b q).trans
    ((skip _ _ _ 512 0 chunk2 (by decide) _ _ rfl rfl b q).trans
      (copy14 c arg3 harg3 x2 b _))

theorem kept211 (b : Fin 8) (q : Fin 512) :
    kernelRun0_A.sl.v211 c i arg1 harg1 arg2 harg2 arg3 harg3 arg4 harg4 arg5 harg5 arg6 harg6 arg7 harg7 arg8 harg8
    arg9 harg9 arg10 harg10 arg11 harg11 arg12 harg12 arg13 harg13 arg14 harg14 arg15 harg15 arg16 harg16 arg17
    harg17 arg18 harg18 arg19 harg19 x0 x1 x2 x3 x4 x5 x6 (ix2 b q) = x2 (ix2 b (colOf 1024 chunk3 q)) :=
  (read_stores arg15.view _ 1024 chunk3 _ _ rfl b q).trans
    ((skip _ _ _ 1024 512 chunk3 (by decide) _ _ rfl rfl b q).trans
    ((skip _ _ _ 1024 0 chunk3 (by decide) _ _ rfl rfl b q).trans
      (copy14 c arg3 harg3 x2 b _)))

theorem kept227 (b : Fin 8) (q : Fin 512) :
    kernelRun0_A.sl.v227 c i arg1 harg1 arg2 harg2 arg3 harg3 arg4 harg4 arg5 harg5 arg6 harg6 arg7 harg7 arg8 harg8
    arg9 harg9 arg10 harg10 arg11 harg11 arg12 harg12 arg13 harg13 arg14 harg14 arg15 harg15 arg16 harg16 arg17
    harg17 arg18 harg18 arg19 harg19 x0 x1 x2 x3 x4 x5 x6 (ix2 b q) = x2 (ix2 b (colOf 1536 chunk4 q)) :=
  (read_stores arg15.view _ 1536 chunk4 _ _ rfl b q).trans
    ((skip _ _ _ 1536 1024 chunk4 (by decide) _ _ rfl rfl b q).trans
    ((skip _ _ _ 1536 512 chunk4 (by decide) _ _ rfl rfl b q).trans
    ((skip _ _ _ 1536 0 chunk4 (by decide) _ _ rfl rfl b q).trans
      (copy14 c arg3 harg3 x2 b _))))

theorem starts1 (b : Fin 8) (q : Fin 512) :
    ((start1 c arg2 harg2 arg3 harg3 arg14 arg15 x1 x2).1 (ix2 b q), (start1 c arg2 harg2 arg3 harg3 arg14 arg15 x1
    x2).2 (ix2 b q))
      = pairs x1 x2 b (colOf 0 chunk1 q) :=
  (init1 _ _ b q).trans
    (Prod.ext (kept177 c arg2 harg2 arg14 x1 b q) (kept179 c arg3 harg3 arg15 x2 b q))

theorem starts2 (b : Fin 8) (q : Fin 512) :
    ((start2 c i arg1 harg1 arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18
    harg18 arg19 harg19 x0 x1 x2 x3 x4 x5 x6).1 (ix2 b q), (start2 c i arg1 harg1 arg2 harg2 arg3 harg3 arg4 harg4
    arg5 harg5 arg6 harg6 arg7 harg7 arg8 harg8 arg9 harg9 arg10 harg10 arg11 harg11 arg12 harg12 arg13 harg13 arg14
    harg14 arg15 harg15 arg16 harg16 arg17 harg17 arg18 harg18 arg19 harg19 x0 x1 x2 x3 x4 x5 x6).2 (ix2 b q))
      = pairs x1 x2 b (colOf 512 chunk2 q) :=
  (init2 _ _ b q).trans
    (Prod.ext
      (kept193 c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18
      harg18 arg19 harg19 x0 x1 x2 x3 x4 x5 x6 b q)
      (kept195 c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18
      harg18 arg19 harg19 x0 x1 x2 x3 x4 x5 x6 b q))

theorem starts3 (b : Fin 8) (q : Fin 512) :
    ((start3 c i arg1 harg1 arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18
    harg18 arg19 harg19 x0 x1 x2 x3 x4 x5 x6).1 (ix2 b q), (start3 c i arg1 harg1 arg2 harg2 arg3 harg3 arg4 harg4
    arg5 harg5 arg6 harg6 arg7 harg7 arg8 harg8 arg9 harg9 arg10 harg10 arg11 harg11 arg12 harg12 arg13 harg13 arg14
    harg14 arg15 harg15 arg16 harg16 arg17 harg17 arg18 harg18 arg19 harg19 x0 x1 x2 x3 x4 x5 x6).2 (ix2 b q))
      = pairs x1 x2 b (colOf 1024 chunk3 q) :=
  (init3 _ _ b q).trans
    (Prod.ext
      (kept209 c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18
      harg18 arg19 harg19 x0 x1 x2 x3 x4 x5 x6 b q)
      (kept211 c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18
      harg18 arg19 harg19 x0 x1 x2 x3 x4 x5 x6 b q))

theorem starts4 (b : Fin 8) (q : Fin 512) :
    ((start4 c i arg1 harg1 arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18
    harg18 arg19 harg19 x0 x1 x2 x3 x4 x5 x6).1 (ix2 b q), (start4 c i arg1 harg1 arg2 harg2 arg3 harg3 arg4 harg4
    arg5 harg5 arg6 harg6 arg7 harg7 arg8 harg8 arg9 harg9 arg10 harg10 arg11 harg11 arg12 harg12 arg13 harg13 arg14
    harg14 arg15 harg15 arg16 harg16 arg17 harg17 arg18 harg18 arg19 harg19 x0 x1 x2 x3 x4 x5 x6).2 (ix2 b q))
      = pairs x1 x2 b (colOf 1536 chunk4 q) :=
  (init4 _ _ b q).trans
    (Prod.ext
      (kept225 c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18
      harg18 arg19 harg19 x0 x1 x2 x3 x4 x5 x6 b q)
      (kept227 c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18
      harg18 arg19 harg19 x0 x1 x2 x3 x4 x5 x6 b q))

/-- The output rows of this case. -/
abbrev rowsHere : FVec Ideal S1024x512 .f32 :=
  rowsOut c i arg1 harg1 arg2 harg2 arg3 harg3 arg4 harg4 arg5 harg5 arg6 harg6 arg7 harg7 arg8 harg8 arg9 harg9
  arg10 harg10 arg11 harg11 arg12 harg12 arg13 harg13 arg14 harg14 arg15 harg15 arg16 harg16 arg17 harg17 arg18
  harg18 arg19 harg19 x0 x3 x4 x5 x6 x7 x8 x9 x10 x11 (kernelRun0_A.sl.v177 c arg2 harg2 arg14 x1) (start1 c arg2
  harg2 arg3 harg3 arg14 arg15 x1 x2) (start2 c i arg1 harg1 arg2 harg2 arg3 harg3 arg4 harg4 arg5 harg5 arg6 harg6
  arg7 harg7 arg8 harg8 arg9 harg9 arg10 harg10 arg11 harg11 arg12 harg12 arg13 harg13 arg14 harg14 arg15 harg15
  arg16 harg16 arg17 harg17 arg18 harg18 arg19 harg19 x0 x1 x2 x3 x4 x5 x6) (start3 c i arg1 harg1 arg2 harg2 arg3
  harg3 arg4 harg4 arg5 harg5 arg6 harg6 arg7 harg7 arg8 harg8 arg9 harg9 arg10 harg10 arg11 harg11 arg12 harg12
  arg13 harg13 arg14 harg14 arg15 harg15 arg16 harg16 arg17 harg17 arg18 harg18 arg19 harg19 x0 x1 x2 x3 x4 x5 x6)
  (start4 c i arg1 harg1 arg2 harg2 arg3 harg3 arg4 harg4 arg5 harg5 arg6 harg6 arg7 harg7 arg8 harg8 arg9 harg9
  arg10 harg10 arg11 harg11 arg12 harg12 arg13 harg13 arg14 harg14 arg15 harg15 arg16 harg16 arg17 harg17 arg18
  harg18 arg19 harg19 x0 x1 x2 x3 x4 x5 x6)

/-- The slabs stored hold the output rows. -/
theorem slabs_hold (s : Fin 4) (r : Fin 1024) (l : Fin 128) :
    View.canon (kernelRun0_A.sl.HS3_4 c i arg1 harg1 arg2 harg2 arg3 harg3 arg4 harg4 arg5 harg5 arg6 harg6 arg7
    harg7 arg8 harg8 arg9 harg9 arg10 harg10 arg11 harg11 arg12 harg12 arg13 harg13 arg14 harg14 arg15 harg15 arg16
    harg16 arg17 harg17 arg18 harg18 arg19 harg19 x0 x1 x2 x3 x4 x5 x6 x7 x8 x9 x10 x11) (ix3 s r l :
    S4x1024x128.Idx)
      = (rowsHere c i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17
      arg18 harg18 arg19 harg19 x0 x1 x2 x3 x4 x5 x6 x7 x8 x9 x10 x11) (ix2 r (chanS s l)) :=
  held_out _ _ _ _ _ _ _ _ _ _ rfl s r l

/-- The block's 32 stores are tiles of the output rows. -/
theorem tiles (hc0 : cond0_0 i) :
    View.PiecesOf (Val := Elt Ideal) (e := .bf16)
      (sheet (rowsHere c i arg1 harg1 arg2 harg2 arg3 harg3 arg4 harg4 arg5 harg5 arg6 harg6 arg7 harg7 arg8 harg8
      arg9 harg9 arg10 harg10 arg11 harg11 arg12 harg12 arg13 harg13 arg14 harg14 arg15 harg15 arg16 harg16 arg17
      harg17 arg18 harg18 arg19 harg19 x0 x1 x2 x3 x4 x5 x6 x7 x8 x9 x10 x11))
      (kernelRun0_A (F := Ideal) c i arg1 harg1 arg2 harg2 arg3 harg3 arg4 harg4 arg5 harg5 arg6 harg6 arg7 harg7
      arg8 harg8 arg9 harg9 arg10 harg10 arg11 harg11 arg12 harg12 arg13 harg13 arg14 harg14 arg15 harg15 arg16
      harg16 arg17 harg17 arg18 harg18 arg19 harg19 hc0 x0 x1 x2 x3 x4 x5 x6 x7 x8 x9 x10 x11).1 := by
  unfold kernelRun0_A
  dsimp only
  have h := slabs_hold c i arg1 harg1 arg2 harg2 arg3 harg3 arg4 harg4 arg5 harg5 arg6 harg6 arg7 harg7 arg8 harg8
    arg9 harg9 arg10 harg10 arg11 harg11 arg12 harg12 arg13 harg13 arg14 harg14 arg15 harg15 arg16 harg16 arg17
    harg17 arg18 harg18 arg19 harg19 x0 x1 x2 x3 x4 x5 x6 x7 x8 x9 x10 x11
  exact ⟨
    tile_ok arg19.view _ _ h _ 3 7 3968 _ rfl rfl,
    tile_ok arg19.view _ _ h _ 2 7 3840 _ rfl rfl,
    tile_ok arg19.view _ _ h _ 1 7 3712 _ rfl rfl,
    tile_ok arg19.view _ _ h _ 0 7 3584 _ rfl rfl,
    tile_ok arg19.view _ _ h _ 3 6 3456 _ rfl rfl,
    tile_ok arg19.view _ _ h _ 2 6 3328 _ rfl rfl,
    tile_ok arg19.view _ _ h _ 1 6 3200 _ rfl rfl,
    tile_ok arg19.view _ _ h _ 0 6 3072 _ rfl rfl,
    tile_ok arg19.view _ _ h _ 3 5 2944 _ rfl rfl,
    tile_ok arg19.view _ _ h _ 2 5 2816 _ rfl rfl,
    tile_ok arg19.view _ _ h _ 1 5 2688 _ rfl rfl,
    tile_ok arg19.view _ _ h _ 0 5 2560 _ rfl rfl,
    tile_ok arg19.view _ _ h _ 3 4 2432 _ rfl rfl,
    tile_ok arg19.view _ _ h _ 2 4 2304 _ rfl rfl,
    tile_ok arg19.view _ _ h _ 1 4 2176 _ rfl rfl,
    tile_ok arg19.view _ _ h _ 0 4 2048 _ rfl rfl,
    tile_ok arg19.view _ _ h _ 3 3 1920 _ rfl rfl,
    tile_ok arg19.view _ _ h _ 2 3 1792 _ rfl rfl,
    tile_ok arg19.view _ _ h _ 1 3 1664 _ rfl rfl,
    tile_ok arg19.view _ _ h _ 0 3 1536 _ rfl rfl,
    tile_ok arg19.view _ _ h _ 3 2 1408 _ rfl rfl,
    tile_ok arg19.view _ _ h _ 2 2 1280 _ rfl rfl,
    tile_ok arg19.view _ _ h _ 1 2 1152 _ rfl rfl,
    tile_ok arg19.view _ _ h _ 0 2 1024 _ rfl rfl,
    tile_ok arg19.view _ _ h _ 3 1 896 _ rfl rfl,
    tile_ok arg19.view _ _ h _ 2 1 768 _ rfl rfl,
    tile_ok arg19.view _ _ h _ 1 1 640 _ rfl rfl,
    tile_ok arg19.view _ _ h _ 0 1 512 _ rfl rfl,
    tile_ok arg19.view _ _ h _ 3 0 384 _ rfl rfl,
    tile_ok arg19.view _ _ h _ 2 0 256 _ rfl rfl,
    tile_ok arg19.view _ _ h _ 1 0 128 _ rfl rfl,
    tile_ok arg19.view _ _ h _ 0 0 0 _ rfl rfl, trivial⟩

/-- The output block, row by row. -/
theorem out12 (hc0 : cond0_0 i) (t : Fin 128) (b : Fin 8) (o : Fin 512) :
    out0_A_12 (F := Ideal) c i arg1 harg1 arg2 harg2 arg3 harg3 arg4 harg4 arg5 harg5 arg6 harg6 arg7 harg7 arg8
    harg8 arg9 harg9 arg10 harg10 arg11 harg11 arg12 harg12 arg13 harg13 arg14 harg14 arg15 harg15 arg16 harg16 arg17
    harg17 arg18 harg18 arg19 harg19 hc0 x0 x1 x2 x3 x4 x5 x6 x7 x8 x9 x10 x11 (ix2 t (colB b o))
      = blockOut x0 x3 x4 x5 x6 x7 x8 x9 x10 x11 (pairs x1 x2) b t o := by
  unfold out0_A_12
  have hcov := cover0_A_12 (F := Ideal) c i arg1 harg1 arg2 harg2 arg3 harg3 arg4 harg4 arg5 harg5 arg6 harg6 arg7
    harg7 arg8 harg8 arg9 harg9 arg10 harg10 arg11 harg11 arg12 harg12 arg13 harg13 arg14 harg14 arg15 harg15 arg16
    harg16 arg17 harg17 arg18 harg18 arg19 harg19 hc0 x0 x1 x2 x3 x4 x5 x6 x7 x8 x9 x10 x11
  refine (congrFun (View.read_writes_eq_canon VO0_12 _ _ hcov) _).trans ?_
  refine (View.canon_apply_of_pieces (Val := Elt Ideal) (e := .bf16) (sheet (rowsHere c i arg1 harg1 arg2 harg2
    arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 arg19 harg19 x0 x1 x2 x3 x4
    x5 x6 x7 x8 x9 x10 x11)) _ (View.PiecesOf.mem (tiles c i arg1 harg1 arg2 harg2 arg3 harg3 arg4 harg4 arg5 harg5
    arg6 harg6 arg7 harg7 arg8 harg8 arg9 harg9 arg10 harg10 arg11 harg11 arg12 harg12 arg13 harg13 arg14 harg14
    arg15 harg15 arg16 harg16 arg17 harg17 arg18 harg18 arg19 harg19 x0 x1 x2 x3 x4 x5 x6 x7 x8 x9 x10 x11 hc0)) _
    (hcov _)).trans ?_
  rw [sheet_apply]
  exact rowsOut_apply c i arg1 harg1 arg2 harg2 arg3 harg3 arg4 harg4 arg5 harg5 arg6 harg6 arg7 harg7 arg8 harg8
    arg9 harg9 arg10 harg10 arg11 harg11 arg12 harg12 arg13 harg13 arg14 harg14 arg15 harg15 arg16 harg16 arg17
    harg17 arg18 harg18 arg19 harg19 x0 x3 x4 x5 x6 x7 x8 x9 x10 x11 (kernelRun0_A.sl.v177 c arg2 harg2 arg14 x1)
    (start1 c arg2 harg2 arg3 harg3 arg14 arg15 x1 x2) (start2 c i arg1 harg1 arg2 harg2 arg3 harg3 arg4 harg4 arg5
    harg5 arg6 harg6 arg7 harg7 arg8 harg8 arg9 harg9 arg10 harg10 arg11 harg11 arg12 harg12 arg13 harg13 arg14
    harg14 arg15 harg15 arg16 harg16 arg17 harg17 arg18 harg18 arg19 harg19 x0 x1 x2 x3 x4 x5 x6) (start3 c i arg1
    harg1 arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19 x0
    x1 x2 x3 x4 x5 x6) (start4 c i arg1 harg1 arg2 harg2 arg3 harg3 arg4 harg4 arg5 harg5 arg6 harg6 arg7 harg7 arg8
    harg8 arg9 harg9 arg10 harg10 arg11 harg11 arg12 harg12 arg13 harg13 arg14 harg14 arg15 harg15 arg16 harg16 arg17
    harg17 arg18 harg18 arg19 harg19 x0 x1 x2 x3 x4 x5 x6) (pairs x1 x2) (starts1 c arg2 harg2 arg3 harg3 arg14 arg15
    x1 x2) (starts2 c i arg1 harg1 arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17
    arg18 harg18 arg19 harg19 x0 x1 x2 x3 x4 x5 x6) (starts3 c i arg1 harg1 arg2 harg2 arg3 harg3 arg4 harg4 arg5
    harg5 arg6 harg6 arg7 harg7 arg8 harg8 arg9 harg9 arg10 harg10 arg11 harg11 arg12 harg12 arg13 harg13 arg14
    harg14 arg15 harg15 arg16 harg16 arg17 harg17 arg18 harg18 arg19 harg19 x0 x1 x2 x3 x4 x5 x6) (starts4 c i arg1
    harg1 arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19 x0
    x1 x2 x3 x4 x5 x6) t b o

/-- The real parts of the states kept. -/
theorem out13 (hc0 : cond0_0 i) (b : Fin 8) (n : Fin 2048) :
    out0_A_13 (F := Ideal) c i arg1 harg1 arg2 harg2 arg3 harg3 arg4 harg4 arg5 harg5 arg6 harg6 arg7 harg7 arg8
    harg8 arg9 harg9 arg10 harg10 arg11 harg11 arg12 harg12 arg13 harg13 arg14 harg14 arg15 harg15 arg16 harg16 arg17
    harg17 arg18 harg18 arg19 harg19 hc0 x0 x1 x2 x3 x4 x5 x6 x7 x8 x9 x10 x11 (ix2 b n)
      = (blockState x0 x3 x4 x5 x6 (pairs x1 x2) b n 128).1 := by
  unfold out0_A_13
  have hcov := cover0_A_13 (F := Ideal) c i arg1 harg1 arg2 harg2 arg3 harg3 arg4 harg4 arg5 harg5 arg6 harg6 arg7
    harg7 arg8 harg8 arg9 harg9 arg10 harg10 arg11 harg11 arg12 harg12 arg13 harg13 arg14 harg14 arg15 harg15 arg16
    harg16 arg17 harg17 arg18 harg18 arg19 harg19 hc0 x0 x1 x2 x3 x4 x5 x6 x7 x8 x9 x10 x11
  refine (congrFun (View.read_writes_eq_canon VO0_13 _ _ hcov) _).trans ?_
  have h := (states_eq c i arg1 harg1 arg2 harg2 arg3 harg3 arg4 harg4 arg5 harg5 arg6 harg6 arg7 harg7 arg8 harg8
    arg9 harg9 arg10 harg10 arg11 harg11 arg12 harg12 arg13 harg13 arg14 harg14 arg15 harg15 arg16 harg16 arg17
    harg17 arg18 harg18 arg19 harg19 x0 x3 x4 x5 x6 (kernelRun0_A.sl.v177 c arg2 harg2 arg14 x1) (start1 c arg2 harg2
    arg3 harg3 arg14 arg15 x1 x2) (start2 c i arg1 harg1 arg2 harg2 arg3 harg3 arg4 harg4 arg5 harg5 arg6 harg6 arg7
    harg7 arg8 harg8 arg9 harg9 arg10 harg10 arg11 harg11 arg12 harg12 arg13 harg13 arg14 harg14 arg15 harg15 arg16
    harg16 arg17 harg17 arg18 harg18 arg19 harg19 x0 x1 x2 x3 x4 x5 x6) (start3 c i arg1 harg1 arg2 harg2 arg3 harg3
    arg4 harg4 arg5 harg5 arg6 harg6 arg7 harg7 arg8 harg8 arg9 harg9 arg10 harg10 arg11 harg11 arg12 harg12 arg13
    harg13 arg14 harg14 arg15 harg15 arg16 harg16 arg17 harg17 arg18 harg18 arg19 harg19 x0 x1 x2 x3 x4 x5 x6)
    (start4 c i arg1 harg1 arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18
    harg18 arg19 harg19 x0 x1 x2 x3 x4 x5 x6) (pairs x1 x2) (starts1 c arg2 harg2 arg3 harg3 arg14 arg15 x1 x2)
    (starts2 c i arg1 harg1 arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18
    harg18 arg19 harg19 x0 x1 x2 x3 x4 x5 x6) (starts3 c i arg1 harg1 arg2 harg2 arg3 harg3 arg4 harg4 arg5 harg5
    arg6 harg6 arg7 harg7 arg8 harg8 arg9 harg9 arg10 harg10 arg11 harg11 arg12 harg12 arg13 harg13 arg14 harg14
    arg15 harg15 arg16 harg16 arg17 harg17 arg18 harg18 arg19 harg19 x0 x1 x2 x3 x4 x5 x6) (starts4 c i arg1 harg1
    arg2 harg2 arg3 harg3 arg4 harg4 arg5 harg5 arg6 harg6 arg7 harg7 arg8 harg8 arg9 harg9 arg10 harg10 arg11 harg11
    arg12 harg12 arg13 harg13 arg14 harg14 arg15 harg15 arg16 harg16 arg17 harg17 arg18 harg18 arg19 harg19 x0 x1 x2
    x3 x4 x5 x6)).2
  unfold kernelRun0_A
  dsimp only
  exact held_chunks (fun b n => (blockState x0 x3 x4 x5 x6 (pairs x1 x2) b n 128).1) _ _ _ _ _ _ _ _ _ _
    (fun b q => congrArg Prod.fst (h.1 b q)) (fun b q => congrArg Prod.fst (h.2.1 b q))
    (fun b q => congrArg Prod.fst (h.2.2.1 b q)) (fun b q => congrArg Prod.fst (h.2.2.2 b q)) rfl b n

/-- The imaginary parts of the states kept. -/
theorem out14 (hc0 : cond0_0 i) (b : Fin 8) (n : Fin 2048) :
    out0_A_14 (F := Ideal) c i arg1 harg1 arg2 harg2 arg3 harg3 arg4 harg4 arg5 harg5 arg6 harg6 arg7 harg7 arg8
    harg8 arg9 harg9 arg10 harg10 arg11 harg11 arg12 harg12 arg13 harg13 arg14 harg14 arg15 harg15 arg16 harg16 arg17
    harg17 arg18 harg18 arg19 harg19 hc0 x0 x1 x2 x3 x4 x5 x6 x7 x8 x9 x10 x11 (ix2 b n)
      = (blockState x0 x3 x4 x5 x6 (pairs x1 x2) b n 128).2 := by
  unfold out0_A_14
  have hcov := cover0_A_14 (F := Ideal) c i arg1 harg1 arg2 harg2 arg3 harg3 arg4 harg4 arg5 harg5 arg6 harg6 arg7
    harg7 arg8 harg8 arg9 harg9 arg10 harg10 arg11 harg11 arg12 harg12 arg13 harg13 arg14 harg14 arg15 harg15 arg16
    harg16 arg17 harg17 arg18 harg18 arg19 harg19 hc0 x0 x1 x2 x3 x4 x5 x6 x7 x8 x9 x10 x11
  refine (congrFun (View.read_writes_eq_canon VO0_14 _ _ hcov) _).trans ?_
  have h := (states_eq c i arg1 harg1 arg2 harg2 arg3 harg3 arg4 harg4 arg5 harg5 arg6 harg6 arg7 harg7 arg8 harg8
    arg9 harg9 arg10 harg10 arg11 harg11 arg12 harg12 arg13 harg13 arg14 harg14 arg15 harg15 arg16 harg16 arg17
    harg17 arg18 harg18 arg19 harg19 x0 x3 x4 x5 x6 (kernelRun0_A.sl.v177 c arg2 harg2 arg14 x1) (start1 c arg2 harg2
    arg3 harg3 arg14 arg15 x1 x2) (start2 c i arg1 harg1 arg2 harg2 arg3 harg3 arg4 harg4 arg5 harg5 arg6 harg6 arg7
    harg7 arg8 harg8 arg9 harg9 arg10 harg10 arg11 harg11 arg12 harg12 arg13 harg13 arg14 harg14 arg15 harg15 arg16
    harg16 arg17 harg17 arg18 harg18 arg19 harg19 x0 x1 x2 x3 x4 x5 x6) (start3 c i arg1 harg1 arg2 harg2 arg3 harg3
    arg4 harg4 arg5 harg5 arg6 harg6 arg7 harg7 arg8 harg8 arg9 harg9 arg10 harg10 arg11 harg11 arg12 harg12 arg13
    harg13 arg14 harg14 arg15 harg15 arg16 harg16 arg17 harg17 arg18 harg18 arg19 harg19 x0 x1 x2 x3 x4 x5 x6)
    (start4 c i arg1 harg1 arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18
    harg18 arg19 harg19 x0 x1 x2 x3 x4 x5 x6) (pairs x1 x2) (starts1 c arg2 harg2 arg3 harg3 arg14 arg15 x1 x2)
    (starts2 c i arg1 harg1 arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18
    harg18 arg19 harg19 x0 x1 x2 x3 x4 x5 x6) (starts3 c i arg1 harg1 arg2 harg2 arg3 harg3 arg4 harg4 arg5 harg5
    arg6 harg6 arg7 harg7 arg8 harg8 arg9 harg9 arg10 harg10 arg11 harg11 arg12 harg12 arg13 harg13 arg14 harg14
    arg15 harg15 arg16 harg16 arg17 harg17 arg18 harg18 arg19 harg19 x0 x1 x2 x3 x4 x5 x6) (starts4 c i arg1 harg1
    arg2 harg2 arg3 harg3 arg4 harg4 arg5 harg5 arg6 harg6 arg7 harg7 arg8 harg8 arg9 harg9 arg10 harg10 arg11 harg11
    arg12 harg12 arg13 harg13 arg14 harg14 arg15 harg15 arg16 harg16 arg17 harg17 arg18 harg18 arg19 harg19 x0 x1 x2
    x3 x4 x5 x6)).2
  unfold kernelRun0_A
  dsimp only
  exact held_chunks (fun b n => (blockState x0 x3 x4 x5 x6 (pairs x1 x2) b n 128).2) _ _ _ _ _ _ _ _ _ _
    (fun b q => congrArg Prod.snd (h.1 b q)) (fun b q => congrArg Prod.snd (h.2.1 b q))
    (fun b q => congrArg Prod.snd (h.2.2.1 b q)) (fun b q => congrArg Prod.snd (h.2.2.2 b q)) rfl b n

end

end Cert.S5BlockA

end
-- ==== Proof.S5BlockB.lean ====
/-
  The body at a later grid point, where the kept states are those of the point before: what it leaves in its three outputs.
-/
module

public import proofs.«01_k».proof.Proof.S5Kept

@[expose] public section

noncomputable section

namespace Cert.S5BlockB

open Cert.KernelIdeal Cert.KernelIdeal.Gen Idealize.ShloMosaic Idealize.ShloMosaic.TcCoe Idealize.SL.Sem
open Cert.S5Trip Cert.S5States Cert.S5Layer Cert.S5Shuffle Cert.S5Out Cert.S5Body Cert.S5Kept

section

variable
  (c : Dev nD) (i : grid0.Coords) (arg1 : Memref sig .tc .vmem S128x4096 .f32)
  (harg1 : arg1.IsWhole) (arg2 : Memref sig .tc .vmem S8x2048 .f32) (harg2 : arg2.IsWhole)
  (arg3 : Memref sig .tc .vmem S8x2048 .f32) (harg3 : arg3.IsWhole) (arg4 : Memref sig .tc .vmem S1x2048 .f32)
  (harg4 : arg4.IsWhole) (arg5 : Memref sig .tc .vmem S1x2048 .f32) (harg5 : arg5.IsWhole)
  (arg6 : Memref sig .tc .vmem S2x256x1024 .bf16) (harg6 : arg6.IsWhole)
  (arg7 : Memref sig .tc .vmem S2x256x1024 .bf16) (harg7 : arg7.IsWhole)
  (arg8 : Memref sig .tc .vmem S2x1024x256 .bf16) (harg8 : arg8.IsWhole)
  (arg9 : Memref sig .tc .vmem S2x1024x256 .bf16) (harg9 : arg9.IsWhole) (arg10 : Memref sig .tc .vmem S1x512 .f32)
  (harg10 : arg10.IsWhole) (arg11 : Memref sig .tc .vmem S512x512 .bf16) (harg11 : arg11.IsWhole)
  (arg12 : Memref sig .tc .vmem S1x512 .f32) (harg12 : arg12.IsWhole) (arg13 : Memref sig .tc .vmem S128x4096 .bf16)
  (harg13 : arg13.IsWhole) (arg14 : Memref sig .tc .vmem S8x2048 .f32) (harg14 : arg14.IsWhole)
  (arg15 : Memref sig .tc .vmem S8x2048 .f32) (harg15 : arg15.IsWhole) (arg16 : Memref sig .tc .vmem S1024x2048 .f32)
  (harg16 : arg16.IsWhole) (arg17 : Memref sig .tc .vmem S1024x2048 .f32) (harg17 : arg17.IsWhole)
  (arg18 : Memref sig .tc .vmem S4x1024x128 .f32) (harg18 : arg18.IsWhole)
  (arg19 : Memref sig .tc .vmem S4x1024x128 .f32) (harg19 : arg19.IsWhole)
  (x0 : Vec Ideal S128x4096 .f32) (x1 x2 : Vec Ideal S8x2048 .f32) (x3 x4 : Vec Ideal S1x2048 .f32)
  (x5 x6 : Vec Ideal S2x256x1024 .bf16) (x7 x8 : Vec Ideal S2x1024x256 .bf16) (x9 : Vec Ideal S1x512 .f32)
  (x10 : Vec Ideal S512x512 .bf16) (x11 : Vec Ideal S1x512 .f32) (xo13 xo14 : Vec Ideal S8x2048 .f32)

/-- What loop 1 starts from. -/
abbrev start1 : FVec Ideal S8x512 .f32 × FVec Ideal S8x512 .f32 :=
  (k0_pay47 (kernelRun0_B.sl.r_11 c arg14 harg14 xo13), k0_pay48 (View.readAt (Elt Ideal) arg15.view (Rect.unit (s :=
  S8x2048) ![0, 0] S8x512.size inb_S8x2048_S8x512_0_0).toLoadRect (harg15.unread xo14)))

/-- What loop 2 starts from. -/
abbrev start2 : FVec Ideal S8x512 .f32 × FVec Ideal S8x512 .f32 :=
  (k0_pay55 (kernelRun0_B.sl.v193 c arg14 harg14 xo13), k0_pay56 (kernelRun0_B.sl.v195 c arg15 harg15 xo14))

/-- What loop 3 starts from. -/
abbrev start3 : FVec Ideal S8x512 .f32 × FVec Ideal S8x512 .f32 :=
  (k0_pay63 (kernelRun0_B.sl.v209 c arg14 harg14 xo13), k0_pay64 (kernelRun0_B.sl.v211 c arg15 harg15 xo14))

/-- What loop 4 starts from. -/
abbrev start4 : FVec Ideal S8x512 .f32 × FVec Ideal S8x512 .f32 :=
  (k0_pay71 (kernelRun0_B.sl.v225 c arg14 harg14 xo13), k0_pay72 (kernelRun0_B.sl.v227 c arg15 harg15 xo14))

theorem starts1 (b : Fin 8) (q : Fin 512) :
    ((start1 c arg14 harg14 arg15 harg15 xo13 xo14).1 (ix2 b q), (start1 c arg14 harg14 arg15 harg15 xo13 xo14).2
    (ix2 b q))
      = pairs xo13 xo14 b (colOf 0 chunk1 q) :=
  (init1 _ _ b q).trans
    (Prod.ext (read_chunk arg14 harg14 xo13 0 chunk1 _ _ rfl b q) (read_chunk arg15 harg15 xo14 0 chunk1 _ _ rfl b q))

theorem starts2 (b : Fin 8) (q : Fin 512) :
    ((start2 c arg14 harg14 arg15 harg15 xo13 xo14).1 (ix2 b q), (start2 c arg14 harg14 arg15 harg15 xo13 xo14).2
    (ix2 b q))
      = pairs xo13 xo14 b (colOf 512 chunk2 q) :=
  (init2 _ _ b q).trans
    (Prod.ext (read_chunk arg14 harg14 xo13 512 chunk2 _ _ rfl b q) (read_chunk arg15 harg15 xo14 512 chunk2 _ _ rfl b q))

theorem starts3 (b : Fin 8) (q : Fin 512) :
    ((start3 c arg14 harg14 arg15 harg15 xo13 xo14).1 (ix2 b q), (start3 c arg14 harg14 arg15 harg15 xo13 xo14).2
    (ix2 b q))
      = pairs xo13 xo14 b (colOf 1024 chunk3 q) :=
  (init3 _ _ b q).trans
    (Prod.ext (read_chunk arg14 harg14 xo13 1024 chunk3 _ _ rfl b q) (read_chunk arg15 harg15 xo14 1024 chunk3 _ _ rfl b q))

theorem starts4 (b : Fin 8) (q : Fin 512) :
    ((start4 c arg14 harg14 arg15 harg15 xo13 xo14).1 (ix2 b q), (start4 c arg14 harg14 arg15 harg15 xo13 xo14).2
    (ix2 b q))
      = pairs xo13 xo14 b (colOf 1536 chunk4 q) :=
  (init4 _ _ b q).trans
    (Prod.ext (read_chunk arg14 harg14 xo13 1536 chunk4 _ _ rfl b q) (read_chunk arg15 harg15 xo14 1536 chunk4 _ _ rfl b q))

/-- The output rows of this case. -/
abbrev rowsHere : FVec Ideal S1024x512 .f32 :=
  rowsOut c i arg1 harg1 arg2 harg2 arg3 harg3 arg4 harg4 arg5 harg5 arg6 harg6 arg7 harg7 arg8 harg8 arg9 harg9
  arg10 harg10 arg11 harg11 arg12 harg12 arg13 harg13 arg14 harg14 arg15 harg15 arg16 harg16 arg17 harg17 arg18
  harg18 arg19 harg19 x0 x3 x4 x5 x6 x7 x8 x9 x10 x11 (kernelRun0_B.sl.r_11 c arg14 harg14 xo13) (start1 c arg14
  harg14 arg15 harg15 xo13 xo14) (start2 c arg14 harg14 arg15 harg15 xo13 xo14) (start3 c arg14 harg14 arg15 harg15
  xo13 xo14) (start4 c arg14 harg14 arg15 harg15 xo13 xo14)

/-- The slabs stored hold the output rows. -/
theorem slabs_hold (s : Fin 4) (r : Fin 1024) (l : Fin 128) :
    View.canon (kernelRun0_B.sl.HS3_4 c i arg1 harg1 arg2 harg2 arg3 harg3 arg4 harg4 arg5 harg5 arg6 harg6 arg7
    harg7 arg8 harg8 arg9 harg9 arg10 harg10 arg11 harg11 arg12 harg12 arg13 harg13 arg14 harg14 arg15 harg15 arg16
    harg16 arg17 harg17 arg18 harg18 arg19 harg19 x0 x3 x4 x5 x6 x7 x8 x9 x10 x11 xo13 xo14) (ix3 s r l :
    S4x1024x128.Idx)
      = (rowsHere c i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17
      arg18 harg18 arg19 harg19 x0 x3 x4 x5 x6 x7 x8 x9 x10 x11 xo13 xo14) (ix2 r (chanS s l)) :=
  held_out _ _ _ _ _ _ _ _ _ _ rfl s r l

/-- The block's 32 stores are tiles of the output rows. -/
theorem tiles (hc0 : ¬ cond0_0 i) :
    View.PiecesOf (Val := Elt Ideal) (e := .bf16)
      (sheet (rowsHere c i arg1 harg1 arg2 harg2 arg3 harg3 arg4 harg4 arg5 harg5 arg6 harg6 arg7 harg7 arg8 harg8
      arg9 harg9 arg10 harg10 arg11 harg11 arg12 harg12 arg13 harg13 arg14 harg14 arg15 harg15 arg16 harg16 arg17
      harg17 arg18 harg18 arg19 harg19 x0 x3 x4 x5 x6 x7 x8 x9 x10 x11 xo13 xo14))
      (kernelRun0_B (F := Ideal) c i arg1 harg1 arg2 harg2 arg3 harg3 arg4 harg4 arg5 harg5 arg6 harg6 arg7 harg7
      arg8 harg8 arg9 harg9 arg10 harg10 arg11 harg11 arg12 harg12 arg13 harg13 arg14 harg14 arg15 harg15 arg16
      harg16 arg17 harg17 arg18 harg18 arg19 harg19 hc0 x0 x1 x2 x3 x4 x5 x6 x7 x8 x9 x10 x11 xo13 xo14).1 := by
  unfold kernelRun0_B
  dsimp only
  have h := slabs_hold c i arg1 harg1 arg2 harg2 arg3 harg3 arg4 harg4 arg5 harg5 arg6 harg6 arg7 harg7 arg8 harg8
    arg9 harg9 arg10 harg10 arg11 harg11 arg12 harg12 arg13 harg13 arg14 harg14 arg15 harg15 arg16 harg16 arg17
    harg17 arg18 harg18 arg19 harg19 x0 x3 x4 x5 x6 x7 x8 x9 x10 x11 xo13 xo14
  exact ⟨
    tile_ok arg19.view _ _ h _ 3 7 3968 _ rfl rfl,
    tile_ok arg19.view _ _ h _ 2 7 3840 _ rfl rfl,
    tile_ok arg19.view _ _ h _ 1 7 3712 _ rfl rfl,
    tile_ok arg19.view _ _ h _ 0 7 3584 _ rfl rfl,
    tile_ok arg19.view _ _ h _ 3 6 3456 _ rfl rfl,
    tile_ok arg19.view _ _ h _ 2 6 3328 _ rfl rfl,
    tile_ok arg19.view _ _ h _ 1 6 3200 _ rfl rfl,
    tile_ok arg19.view _ _ h _ 0 6 3072 _ rfl rfl,
    tile_ok arg19.view _ _ h _ 3 5 2944 _ rfl rfl,
    tile_ok arg19.view _ _ h _ 2 5 2816 _ rfl rfl,
    tile_ok arg19.view _ _ h _ 1 5 2688 _ rfl rfl,
    tile_ok arg19.view _ _ h _ 0 5 2560 _ rfl rfl,
    tile_ok arg19.view _ _ h _ 3 4 2432 _ rfl rfl,
    tile_ok arg19.view _ _ h _ 2 4 2304 _ rfl rfl,
    tile_ok arg19.view _ _ h _ 1 4 2176 _ rfl rfl,
    tile_ok arg19.view _ _ h _ 0 4 2048 _ rfl rfl,
    tile_ok arg19.view _ _ h _ 3 3 1920 _ rfl rfl,
    tile_ok arg19.view _ _ h _ 2 3 1792 _ rfl rfl,
    tile_ok arg19.view _ _ h _ 1 3 1664 _ rfl rfl,
    tile_ok arg19.view _ _ h _ 0 3 1536 _ rfl rfl,
    tile_ok arg19.view _ _ h _ 3 2 1408 _ rfl rfl,
    tile_ok arg19.view _ _ h _ 2 2 1280 _ rfl rfl,
    tile_ok arg19.view _ _ h _ 1 2 1152 _ rfl rfl,
    tile_ok arg19.view _ _ h _ 0 2 1024 _ rfl rfl,
    tile_ok arg19.view _ _ h _ 3 1 896 _ rfl rfl,
    tile_ok arg19.view _ _ h _ 2 1 768 _ rfl rfl,
    tile_ok arg19.view _ _ h _ 1 1 640 _ rfl rfl,
    tile_ok arg19.view _ _ h _ 0 1 512 _ rfl rfl,
    tile_ok arg19.view _ _ h _ 3 0 384 _ rfl rfl,
    tile_ok arg19.view _ _ h _ 2 0 256 _ rfl rfl,
    tile_ok arg19.view _ _ h _ 1 0 128 _ rfl rfl,
    tile_ok arg19.view _ _ h _ 0 0 0 _ rfl rfl, trivial⟩

/-- The output block, row by row. -/
theorem out12 (hc0 : ¬ cond0_0 i) (t : Fin 128) (b : Fin 8) (o : Fin 512) :
    out0_B_12 (F := Ideal) c i arg1 harg1 arg2 harg2 arg3 harg3 arg4 harg4 arg5 harg5 arg6 harg6 arg7 harg7 arg8
    harg8 arg9 harg9 arg10 harg10 arg11 harg11 arg12 harg12 arg13 harg13 arg14 harg14 arg15 harg15 arg16 harg16 arg17
    harg17 arg18 harg18 arg19 harg19 hc0 x0 x1 x2 x3 x4 x5 x6 x7 x8 x9 x10 x11 xo13 xo14 (ix2 t (colB b o))
      = blockOut x0 x3 x4 x5 x6 x7 x8 x9 x10 x11 (pairs xo13 xo14) b t o := by
  unfold out0_B_12
  have hcov := cover0_B_12 (F := Ideal) c i arg1 harg1 arg2 harg2 arg3 harg3 arg4 harg4 arg5 harg5 arg6 harg6 arg7
    harg7 arg8 harg8 arg9 harg9 arg10 harg10 arg11 harg11 arg12 harg12 arg13 harg13 arg14 harg14 arg15 harg15 arg16
    harg16 arg17 harg17 arg18 harg18 arg19 harg19 hc0 x0 x1 x2 x3 x4 x5 x6 x7 x8 x9 x10 x11 xo13 xo14
  refine (congrFun (View.read_writes_eq_canon VO0_12 _ _ hcov) _).trans ?_
  refine (View.canon_apply_of_pieces (Val := Elt Ideal) (e := .bf16) (sheet (rowsHere c i arg1 harg1 arg2 harg2
    arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 arg19 harg19 x0 x3 x4 x5 x6
    x7 x8 x9 x10 x11 xo13 xo14)) _ (View.PiecesOf.mem (tiles c i arg1 harg1 arg2 harg2 arg3 harg3 arg4 harg4 arg5
    harg5 arg6 harg6 arg7 harg7 arg8 harg8 arg9 harg9 arg10 harg10 arg11 harg11 arg12 harg12 arg13 harg13 arg14
    harg14 arg15 harg15 arg16 harg16 arg17 harg17 arg18 harg18 arg19 harg19 x0 x1 x2 x3 x4 x5 x6 x7 x8 x9 x10 x11
    xo13 xo14 hc0)) _ (hcov _)).trans ?_
  rw [sheet_apply]
  exact rowsOut_apply c i arg1 harg1 arg2 harg2 arg3 harg3 arg4 harg4 arg5 harg5 arg6 harg6 arg7 harg7 arg8 harg8
    arg9 harg9 arg10 harg10 arg11 harg11 arg12 harg12 arg13 harg13 arg14 harg14 arg15 harg15 arg16 harg16 arg17
    harg17 arg18 harg18 arg19 harg19 x0 x3 x4 x5 x6 x7 x8 x9 x10 x11 (kernelRun0_B.sl.r_11 c arg14 harg14 xo13)
    (start1 c arg14 harg14 arg15 harg15 xo13 xo14) (start2 c arg14 harg14 arg15 harg15 xo13 xo14) (start3 c arg14
    harg14 arg15 harg15 xo13 xo14) (start4 c arg14 harg14 arg15 harg15 xo13 xo14) (pairs xo13 xo14) (starts1 c arg14
    harg14 arg15 harg15 xo13 xo14) (starts2 c arg14 harg14 arg15 harg15 xo13 xo14) (starts3 c arg14 harg14 arg15
    harg15 xo13 xo14) (starts4 c arg14 harg14 arg15 harg15 xo13 xo14) t b o

/-- The real parts of the states kept. -/
theorem out13 (hc0 : ¬ cond0_0 i) (b : Fin 8) (n : Fin 2048) :
    out0_B_13 (F := Ideal) c i arg1 harg1 arg2 harg2 arg3 harg3 arg4 harg4 arg5 harg5 arg6 harg6 arg7 harg7 arg8
    harg8 arg9 harg9 arg10 harg10 arg11 harg11 arg12 harg12 arg13 harg13 arg14 harg14 arg15 harg15 arg16 harg16 arg17
    harg17 arg18 harg18 arg19 harg19 hc0 x0 x1 x2 x3 x4 x5 x6 x7 x8 x9 x10 x11 xo13 xo14 (ix2 b n)
      = (blockState x0 x3 x4 x5 x6 (pairs xo13 xo14) b n 128).1 := by
  unfold out0_B_13
  have hcov := cover0_B_13 (F := Ideal) c i arg1 harg1 arg2 harg2 arg3 harg3 arg4 harg4 arg5 harg5 arg6 harg6 arg7
    harg7 arg8 harg8 arg9 harg9 arg10 harg10 arg11 harg11 arg12 harg12 arg13 harg13 arg14 harg14 arg15 harg15 arg16
    harg16 arg17 harg17 arg18 harg18 arg19 harg19 hc0 x0 x1 x2 x3 x4 x5 x6 x7 x8 x9 x10 x11 xo13 xo14
  refine (congrFun (View.read_writes_eq_canon VO0_13 _ _ hcov) _).trans ?_
  have h := (states_eq c i arg1 harg1 arg2 harg2 arg3 harg3 arg4 harg4 arg5 harg5 arg6 harg6 arg7 harg7 arg8 harg8
    arg9 harg9 arg10 harg10 arg11 harg11 arg12 harg12 arg13 harg13 arg14 harg14 arg15 harg15 arg16 harg16 arg17
    harg17 arg18 harg18 arg19 harg19 x0 x3 x4 x5 x6 (kernelRun0_B.sl.r_11 c arg14 harg14 xo13) (start1 c arg14 harg14
    arg15 harg15 xo13 xo14) (start2 c arg14 harg14 arg15 harg15 xo13 xo14) (start3 c arg14 harg14 arg15 harg15 xo13
    xo14) (start4 c arg14 harg14 arg15 harg15 xo13 xo14) (pairs xo13 xo14) (starts1 c arg14 harg14 arg15 harg15 xo13
    xo14) (starts2 c arg14 harg14 arg15 harg15 xo13 xo14) (starts3 c arg14 harg14 arg15 harg15 xo13 xo14) (starts4 c
    arg14 harg14 arg15 harg15 xo13 xo14)).2
  unfold kernelRun0_B
  dsimp only
  exact held_chunks (fun b n => (blockState x0 x3 x4 x5 x6 (pairs xo13 xo14) b n 128).1) _ _ _ _ _ _ _ _ _ _
    (fun b q => congrArg Prod.fst (h.1 b q)) (fun b q => congrArg Prod.fst (h.2.1 b q))
    (fun b q => congrArg Prod.fst (h.2.2.1 b q)) (fun b q => congrArg Prod.fst (h.2.2.2 b q)) rfl b n

/-- The imaginary parts of the states kept. -/
theorem out14 (hc0 : ¬ cond0_0 i) (b : Fin 8) (n : Fin 2048) :
    out0_B_14 (F := Ideal) c i arg1 harg1 arg2 harg2 arg3 harg3 arg4 harg4 arg5 harg5 arg6 harg6 arg7 harg7 arg8
    harg8 arg9 harg9 arg10 harg10 arg11 harg11 arg12 harg12 arg13 harg13 arg14 harg14 arg15 harg15 arg16 harg16 arg17
    harg17 arg18 harg18 arg19 harg19 hc0 x0 x1 x2 x3 x4 x5 x6 x7 x8 x9 x10 x11 xo13 xo14 (ix2 b n)
      = (blockState x0 x3 x4 x5 x6 (pairs xo13 xo14) b n 128).2 := by
  unfold out0_B_14
  have hcov := cover0_B_14 (F := Ideal) c i arg1 harg1 arg2 harg2 arg3 harg3 arg4 harg4 arg5 harg5 arg6 harg6 arg7
    harg7 arg8 harg8 arg9 harg9 arg10 harg10 arg11 harg11 arg12 harg12 arg13 harg13 arg14 harg14 arg15 harg15 arg16
    harg16 arg17 harg17 arg18 harg18 arg19 harg19 hc0 x0 x1 x2 x3 x4 x5 x6 x7 x8 x9 x10 x11 xo13 xo14
  refine (congrFun (View.read_writes_eq_canon VO0_14 _ _ hcov) _).trans ?_
  have h := (states_eq c i arg1 harg1 arg2 harg2 arg3 harg3 arg4 harg4 arg5 harg5 arg6 harg6 arg7 harg7 arg8 harg8
    arg9 harg9 arg10 harg10 arg11 harg11 arg12 harg12 arg13 harg13 arg14 harg14 arg15 harg15 arg16 harg16 arg17
    harg17 arg18 harg18 arg19 harg19 x0 x3 x4 x5 x6 (kernelRun0_B.sl.r_11 c arg14 harg14 xo13) (start1 c arg14 harg14
    arg15 harg15 xo13 xo14) (start2 c arg14 harg14 arg15 harg15 xo13 xo14) (start3 c arg14 harg14 arg15 harg15 xo13
    xo14) (start4 c arg14 harg14 arg15 harg15 xo13 xo14) (pairs xo13 xo14) (starts1 c arg14 harg14 arg15 harg15 xo13
    xo14) (starts2 c arg14 harg14 arg15 harg15 xo13 xo14) (starts3 c arg14 harg14 arg15 harg15 xo13 xo14) (starts4 c
    arg14 harg14 arg15 harg15 xo13 xo14)).2
  unfold kernelRun0_B
  dsimp only
  exact held_chunks (fun b n => (blockState x0 x3 x4 x5 x6 (pairs xo13 xo14) b n 128).2) _ _ _ _ _ _ _ _ _ _
    (fun b q => congrArg Prod.snd (h.1 b q)) (fun b q => congrArg Prod.snd (h.2.1 b q))
    (fun b q => congrArg Prod.snd (h.2.2.1 b q)) (fun b q => congrArg Prod.snd (h.2.2.2 b q)) rfl b n

end

end Cert.S5BlockB

end
-- ==== Proof.S5Windows.lean ====
/-
  What the S5 kernel's windows hold at a grid point: 128 times of the input, and the other arrays whole.
-/
module

public import proofs.«01_k».proof.Proof.Gen.KernelIdeal.Frame
public import Idealize.ShloMosaic.Lib.Pointwise
public import Idealize.ShloMosaic.Lib.Pipeline.Value

@[expose] public section

noncomputable section

namespace Cert.S5Windows

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-! ### The blocks at a grid point -/

theorem point_lt (t : Fin cfg0.N) : t.val < 32 := lt_of_lt_of_eq t.isLt N_0

/-- Point `t`'s block of times starts at `128 t` in the input and in the output. -/
theorem moving : ∀ t : Fin cfg0.N, win0_0.index t 0 = t.val ∧ win0_0.index t 1 = 0
    ∧ win0_12.index t 0 = t.val ∧ win0_12.index t 1 = 0 :=
  (by decide +kernel : ∀ t : Fin grid0.N, win0_0.index t 0 = t.val ∧ win0_0.index t 1 = 0
    ∧ win0_12.index t 0 = t.val ∧ win0_12.index t 1 = 0)

theorem fixed1 : ∀ t : Fin cfg0.N, win0_1.index t 0 = 0 ∧ win0_1.index t 1 = 0 :=
  (by decide +kernel : ∀ t : Fin grid0.N, win0_1.index t 0 = 0 ∧ win0_1.index t 1 = 0)

theorem fixed2 : ∀ t : Fin cfg0.N, win0_2.index t 0 = 0 ∧ win0_2.index t 1 = 0 :=
  (by decide +kernel : ∀ t : Fin grid0.N, win0_2.index t 0 = 0 ∧ win0_2.index t 1 = 0)

theorem fixed3 : ∀ t : Fin cfg0.N, win0_3.index t 0 = 0 ∧ win0_3.index t 1 = 0 :=
  (by decide +kernel : ∀ t : Fin grid0.N, win0_3.index t 0 = 0 ∧ win0_3.index t 1 = 0)

theorem fixed4 : ∀ t : Fin cfg0.N, win0_4.index t 0 = 0 ∧ win0_4.index t 1 = 0 :=
  (by decide +kernel : ∀ t : Fin grid0.N, win0_4.index t 0 = 0 ∧ win0_4.index t 1 = 0)

theorem fixed5 : ∀ t : Fin cfg0.N, win0_5.index t 0 = 0 ∧ win0_5.index t 1 = 0 ∧ win0_5.index t 2 = 0 :=
  (by decide +kernel : ∀ t : Fin grid0.N, win0_5.index t 0 = 0 ∧ win0_5.index t 1 = 0 ∧ win0_5.index t 2 = 0)

theorem fixed6 : ∀ t : Fin cfg0.N, win0_6.index t 0 = 0 ∧ win0_6.index t 1 = 0 ∧ win0_6.index t 2 = 0 :=
  (by decide +kernel : ∀ t : Fin grid0.N, win0_6.index t 0 = 0 ∧ win0_6.index t 1 = 0 ∧ win0_6.index t 2 = 0)

theorem fixed7 : ∀ t : Fin cfg0.N, win0_7.index t 0 = 0 ∧ win0_7.index t 1 = 0 ∧ win0_7.index t 2 = 0 :=
  (by decide +kernel : ∀ t : Fin grid0.N, win0_7.index t 0 = 0 ∧ win0_7.index t 1 = 0 ∧ win0_7.index t 2 = 0)

theorem fixed8 : ∀ t : Fin cfg0.N, win0_8.index t 0 = 0 ∧ win0_8.index t 1 = 0 ∧ win0_8.index t 2 = 0 :=
  (by decide +kernel : ∀ t : Fin grid0.N, win0_8.index t 0 = 0 ∧ win0_8.index t 1 = 0 ∧ win0_8.index t 2 = 0)

theorem fixed9 : ∀ t : Fin cfg0.N, win0_9.index t 0 = 0 ∧ win0_9.index t 1 = 0 :=
  (by decide +kernel : ∀ t : Fin grid0.N, win0_9.index t 0 = 0 ∧ win0_9.index t 1 = 0)

theorem fixed10 : ∀ t : Fin cfg0.N, win0_10.index t 0 = 0 ∧ win0_10.index t 1 = 0 :=
  (by decide +kernel : ∀ t : Fin grid0.N, win0_10.index t 0 = 0 ∧ win0_10.index t 1 = 0)

theorem fixed11 : ∀ t : Fin cfg0.N, win0_11.index t 0 = 0 ∧ win0_11.index t 1 = 0 :=
  (by decide +kernel : ∀ t : Fin grid0.N, win0_11.index t 0 = 0 ∧ win0_11.index t 1 = 0)

theorem fixed13 : ∀ t : Fin cfg0.N, win0_13.index t 0 = 0 ∧ win0_13.index t 1 = 0 :=
  (by decide +kernel : ∀ t : Fin grid0.N, win0_13.index t 0 = 0 ∧ win0_13.index t 1 = 0)

theorem fixed14 : ∀ t : Fin cfg0.N, win0_14.index t 0 = 0 ∧ win0_14.index t 1 = 0 :=
  (by decide +kernel : ∀ t : Fin grid0.N, win0_14.index t 0 = 0 ∧ win0_14.index t 1 = 0)

/-- The time of row `s` of point `t`'s block. -/
def timeAt (t : Fin cfg0.N) (s : Fin 128) : Fin 4096 := ⟨128 * t.val + s.val, by have := point_lt t; omega⟩

theorem input_block (c : Dev nD) (t : Fin cfg0.N) (s : Fin 128) (k : Fin 4096) :
    (iblk m c 0 t : Vec Ideal S128x4096 .f32) (ix2 s k) = m ((c : Thread nD τ).loc main_arg0) (ix2 (timeAt t s) k) := by
  obtain ⟨h0, h1, -⟩ := moving t
  show V m c main_arg0 (((cfg0.win 0).blk t).view.emb (ix2 s k)) = _
  rw [V_main_arg0]
  refine congrArg _ (funext fun a => Fin.ext ?_)
  match a with
  | ⟨0, _⟩ => show win0_0.index t 0 * 128 + 1 * s.val = 128 * t.val + s.val; rw [h0]; omega
  | ⟨1, _⟩ => show win0_0.index t 1 * 4096 + 1 * k.val = k.val; rw [h1]; omega

/-! The other windows hold whole arrays. -/

theorem block1 (c : Dev nD) (t : Fin cfg0.N) : (iblk m c 1 t : Vec Ideal S8x2048 .f32) = V m c main_v0 := by
  obtain ⟨h0, h1⟩ := fixed1 t
  refine funext fun (y : S8x2048.Idx) => ?_
  show V m c main_v0 (((cfg0.win 1).blk t).view.emb y) = _
  refine congrArg _ (funext fun a => Fin.ext ?_)
  match a with
  | ⟨0, _⟩ => show win0_1.index t 0 * 8 + 1 * (y 0).val = (y 0).val; rw [h0]; omega
  | ⟨1, _⟩ => show win0_1.index t 1 * 2048 + 1 * (y 1).val = (y 1).val; rw [h1]; omega

theorem block2 (c : Dev nD) (t : Fin cfg0.N) : (iblk m c 2 t : Vec Ideal S8x2048 .f32) = V m c main_v0 := by
  obtain ⟨h0, h1⟩ := fixed2 t
  refine funext fun (y : S8x2048.Idx) => ?_
  show V m c main_v0 (((cfg0.win 2).blk t).view.emb y) = _
  refine congrArg _ (funext fun a => Fin.ext ?_)
  match a with
  | ⟨0, _⟩ => show win0_2.index t 0 * 8 + 1 * (y 0).val = (y 0).val; rw [h0]; omega
  | ⟨1, _⟩ => show win0_2.index t 1 * 2048 + 1 * (y 1).val = (y 1).val; rw [h1]; omega

theorem block3 (c : Dev nD) (t : Fin cfg0.N) : (iblk m c 3 t : Vec Ideal S1x2048 .f32) = V m c main_v49 := by
  obtain ⟨h0, h1⟩ := fixed3 t
  refine funext fun (y : S1x2048.Idx) => ?_
  show V m c main_v49 (((cfg0.win 3).blk t).view.emb y) = _
  refine congrArg _ (funext fun a => Fin.ext ?_)
  match a with
  | ⟨0, _⟩ => show win0_3.index t 0 * 1 + 1 * (y 0).val = (y 0).val; rw [h0]; omega
  | ⟨1, _⟩ => show win0_3.index t 1 * 2048 + 1 * (y 1).val = (y 1).val; rw [h1]; omega

theorem block4 (c : Dev nD) (t : Fin cfg0.N) : (iblk m c 4 t : Vec Ideal S1x2048 .f32) = V m c main_v50 := by
  obtain ⟨h0, h1⟩ := fixed4 t
  refine funext fun (y : S1x2048.Idx) => ?_
  show V m c main_v50 (((cfg0.win 4).blk t).view.emb y) = _
  refine congrArg _ (funext fun a => Fin.ext ?_)
  match a with
  | ⟨0, _⟩ => show win0_4.index t 0 * 1 + 1 * (y 0).val = (y 0).val; rw [h0]; omega
  | ⟨1, _⟩ => show win0_4.index t 1 * 2048 + 1 * (y 1).val = (y 1).val; rw [h1]; omega

theorem block5 (c : Dev nD) (t : Fin cfg0.N) : (iblk m c 5 t : Vec Ideal S2x256x1024 .bf16) = V m c main_v63 := by
  obtain ⟨h0, h1, h2⟩ := fixed5 t
  refine funext fun (y : S2x256x1024.Idx) => ?_
  show V m c main_v63 (((cfg0.win 5).blk t).view.emb y) = _
  refine congrArg _ (funext fun a => Fin.ext ?_)
  match a with
  | ⟨0, _⟩ => show win0_5.index t 0 * 2 + 1 * (y 0).val = (y 0).val; rw [h0]; omega
  | ⟨1, _⟩ => show win0_5.index t 1 * 256 + 1 * (y 1).val = (y 1).val; rw [h1]; omega
  | ⟨2, _⟩ => show win0_5.index t 2 * 1024 + 1 * (y 2).val = (y 2).val; rw [h2]; omega

theorem block6 (c : Dev nD) (t : Fin cfg0.N) : (iblk m c 6 t : Vec Ideal S2x256x1024 .bf16) = V m c main_v76 := by
  obtain ⟨h0, h1, h2⟩ := fixed6 t
  refine funext fun (y : S2x256x1024.Idx) => ?_
  show V m c main_v76 (((cfg0.win 6).blk t).view.emb y) = _
  refine congrArg _ (funext fun a => Fin.ext ?_)
  match a with
  | ⟨0, _⟩ => show win0_6.index t 0 * 2 + 1 * (y 0).val = (y 0).val; rw [h0]; omega
  | ⟨1, _⟩ => show win0_6.index t 1 * 256 + 1 * (y 1).val = (y 1).val; rw [h1]; omega
  | ⟨2, _⟩ => show win0_6.index t 2 * 1024 + 1 * (y 2).val = (y 2).val; rw [h2]; omega

theorem block7 (c : Dev nD) (t : Fin cfg0.N) : (iblk m c 7 t : Vec Ideal S2x1024x256 .bf16) = V m c main_v89 := by
  obtain ⟨h0, h1, h2⟩ := fixed7 t
  refine funext fun (y : S2x1024x256.Idx) => ?_
  show V m c main_v89 (((cfg0.win 7).blk t).view.emb y) = _
  refine congrArg _ (funext fun a => Fin.ext ?_)
  match a with
  | ⟨0, _⟩ => show win0_7.index t 0 * 2 + 1 * (y 0).val = (y 0).val; rw [h0]; omega
  | ⟨1, _⟩ => show win0_7.index t 1 * 1024 + 1 * (y 1).val = (y 1).val; rw [h1]; omega
  | ⟨2, _⟩ => show win0_7.index t 2 * 256 + 1 * (y 2).val = (y 2).val; rw [h2]; omega

theorem block8 (c : Dev nD) (t : Fin cfg0.N) : (iblk m c 8 t : Vec Ideal S2x1024x256 .bf16) = V m c main_v102 := by
  obtain ⟨h0, h1, h2⟩ := fixed8 t
  refine funext fun (y : S2x1024x256.Idx) => ?_
  show V m c main_v102 (((cfg0.win 8).blk t).view.emb y) = _
  refine congrArg _ (funext fun a => Fin.ext ?_)
  match a with
  | ⟨0, _⟩ => show win0_8.index t 0 * 2 + 1 * (y 0).val = (y 0).val; rw [h0]; omega
  | ⟨1, _⟩ => show win0_8.index t 1 * 1024 + 1 * (y 1).val = (y 1).val; rw [h1]; omega
  | ⟨2, _⟩ => show win0_8.index t 2 * 256 + 1 * (y 2).val = (y 2).val; rw [h2]; omega

theorem block9 (c : Dev nD) (t : Fin cfg0.N) : (iblk m c 9 t : Vec Ideal S1x512 .f32) = V m c main_v103 := by
  obtain ⟨h0, h1⟩ := fixed9 t
  refine funext fun (y : S1x512.Idx) => ?_
  show V m c main_v103 (((cfg0.win 9).blk t).view.emb y) = _
  refine congrArg _ (funext fun a => Fin.ext ?_)
  match a with
  | ⟨0, _⟩ => show win0_9.index t 0 * 1 + 1 * (y 0).val = (y 0).val; rw [h0]; omega
  | ⟨1, _⟩ => show win0_9.index t 1 * 512 + 1 * (y 1).val = (y 1).val; rw [h1]; omega

theorem block10 (c : Dev nD) (t : Fin cfg0.N) : (iblk m c 10 t : Vec Ideal S512x512 .bf16) = V m c main_v104 := by
  obtain ⟨h0, h1⟩ := fixed10 t
  refine funext fun (y : S512x512.Idx) => ?_
  show V m c main_v104 (((cfg0.win 10).blk t).view.emb y) = _
  refine congrArg _ (funext fun a => Fin.ext ?_)
  match a with
  | ⟨0, _⟩ => show win0_10.index t 0 * 512 + 1 * (y 0).val = (y 0).val; rw [h0]; omega
  | ⟨1, _⟩ => show win0_10.index t 1 * 512 + 1 * (y 1).val = (y 1).val; rw [h1]; omega

theorem block11 (c : Dev nD) (t : Fin cfg0.N) : (iblk m c 11 t : Vec Ideal S1x512 .f32) = V m c main_v105 := by
  obtain ⟨h0, h1⟩ := fixed11 t
  refine funext fun (y : S1x512.Idx) => ?_
  show V m c main_v105 (((cfg0.win 11).blk t).view.emb y) = _
  refine congrArg _ (funext fun a => Fin.ext ?_)
  match a with
  | ⟨0, _⟩ => show win0_11.index t 0 * 1 + 1 * (y 0).val = (y 0).val; rw [h0]; omega
  | ⟨1, _⟩ => show win0_11.index t 1 * 512 + 1 * (y 1).val = (y 1).val; rw [h1]; omega

end Cert.S5Windows

end
-- ==== Proof.S5Array.lean ====
/-
  The arrays the S5 kernel leaves, from the matrices the host hands it: the states run through the grid's 32 blocks of 128
  times, and each block of the output is the branch's output on the states of its times.
-/
module

public import proofs.«01_k».proof.Proof.S5BlockA
public import proofs.«01_k».proof.Proof.S5BlockB
public import proofs.«01_k».proof.Proof.S5Windows
public import Idealize.ShloMosaic.Lib.Pipeline.Value

@[expose] public section

noncomputable section

namespace Cert.S5Array

open Cert.KernelIdeal Cert.KernelIdeal.Gen Idealize.ShloMosaic Idealize.ShloMosaic.TcCoe Idealize.SL.Sem
open Idealize.ShloMosaic.Pipeline (Dat)
open Cert.S5Spec Cert.S5Layer Cert.S5Shuffle Cert.S5Feed Cert.S5Body Cert.S5Kept Cert.S5Windows

variable (m : (ℓ : Loc nD τ sig) → Buf (Elt Ideal) ℓ)

/-! ### A point's three values -/

theorem pointA13 (c : Dev nD) (t : Fin cfg0.N) (h0 : t.val % 32 = 0) (b : Fin 8) (k : Fin 2048) :
    (outsAt0 m c t.val t.isLt).2.1 (ix2 b k)
      = (blockState (iblk m c 0 t) (iblk m c 3 t) (iblk m c 4 t) (iblk m c 5 t) (iblk m c 6 t)
        (pairs (iblk m c 1 t) (iblk m c 2 t)) b k 128).1 := by
  rw [outsAt0_A m c t h0]
  dsimp only
  exact S5BlockA.out13 (x1 := iblk m c 1 t) (x2 := iblk m c 2 t) (hc0 := (hcond0_0 t).mpr h0) (b := b) (n := k) ..

theorem pointA14 (c : Dev nD) (t : Fin cfg0.N) (h0 : t.val % 32 = 0) (b : Fin 8) (k : Fin 2048) :
    (outsAt0 m c t.val t.isLt).2.2 (ix2 b k)
      = (blockState (iblk m c 0 t) (iblk m c 3 t) (iblk m c 4 t) (iblk m c 5 t) (iblk m c 6 t)
        (pairs (iblk m c 1 t) (iblk m c 2 t)) b k 128).2 := by
  rw [outsAt0_A m c t h0]
  dsimp only
  exact S5BlockA.out14 (x1 := iblk m c 1 t) (x2 := iblk m c 2 t) (hc0 := (hcond0_0 t).mpr h0) (b := b) (n := k) ..

theorem pairsA (c : Dev nD) (t : Fin cfg0.N) (h0 : t.val % 32 = 0) (b : Fin 8) (k : Fin 2048) :
    pairs (outsAt0 m c t.val t.isLt).2.1 (outsAt0 m c t.val t.isLt).2.2 b k
      = blockState (iblk m c 0 t) (iblk m c 3 t) (iblk m c 4 t) (iblk m c 5 t) (iblk m c 6 t)
        (pairs (iblk m c 1 t) (iblk m c 2 t)) b k 128 :=
  Prod.ext (pointA13 m c t h0 b k) (pointA14 m c t h0 b k)

theorem pointA12 (c : Dev nD) (t : Fin cfg0.N) (h0 : t.val % 32 = 0) (s : Fin 128) (b : Fin 8) (o : Fin 512) :
    (outsAt0 m c t.val t.isLt).1 (ix2 s (colB b o))
      = blockOut (iblk m c 0 t) (iblk m c 3 t) (iblk m c 4 t) (iblk m c 5 t) (iblk m c 6 t) (iblk m c 7 t) (iblk m c 8 t)
        (iblk m c 9 t) (iblk m c 10 t) (iblk m c 11 t)
        (pairs (iblk m c 1 t) (iblk m c 2 t)) b s o := by
  rw [outsAt0_A m c t h0]
  dsimp only
  exact S5BlockA.out12 (x1 := iblk m c 1 t) (x2 := iblk m c 2 t) (hc0 := (hcond0_0 t).mpr h0) (t := s) (b := b) (o := o) ..

theorem pointB13 (c : Dev nD) (t : Fin cfg0.N) (h0 : ¬t.val % 32 = 0) (b : Fin 8) (k : Fin 2048) :
    (outsAt0 m c t.val t.isLt).2.1 (ix2 b k)
      = (blockState (iblk m c 0 t) (iblk m c 3 t) (iblk m c 4 t) (iblk m c 5 t) (iblk m c 6 t)
        (pairs (outsAt0 m c (t.val - 1) (Nat.lt_of_le_of_lt (Nat.sub_le _ _) t.isLt)).2.1
        (outsAt0 m c (t.val - 1) (Nat.lt_of_le_of_lt (Nat.sub_le _ _) t.isLt)).2.2) b k 128).1 := by
  rw [outsAt0_B m c t h0]
  dsimp only
  exact S5BlockB.out13 (x1 := iblk m c 1 t) (x2 := iblk m c 2 t) (hc0 := fun h => h0 ((hcond0_0 t).mp h)) (b := b) (n := k) ..

theorem pointB14 (c : Dev nD) (t : Fin cfg0.N) (h0 : ¬t.val % 32 = 0) (b : Fin 8) (k : Fin 2048) :
    (outsAt0 m c t.val t.isLt).2.2 (ix2 b k)
      = (blockState (iblk m c 0 t) (iblk m c 3 t) (iblk m c 4 t) (iblk m c 5 t) (iblk m c 6 t)
        (pairs (outsAt0 m c (t.val - 1) (Nat.lt_of_le_of_lt (Nat.sub_le _ _) t.isLt)).2.1
        (outsAt0 m c (t.val - 1) (Nat.lt_of_le_of_lt (Nat.sub_le _ _) t.isLt)).2.2) b k 128).2 := by
  rw [outsAt0_B m c t h0]
  dsimp only
  exact S5BlockB.out14 (x1 := iblk m c 1 t) (x2 := iblk m c 2 t) (hc0 := fun h => h0 ((hcond0_0 t).mp h)) (b := b) (n := k) ..

theorem pairsB (c : Dev nD) (t : Fin cfg0.N) (h0 : ¬t.val % 32 = 0) (b : Fin 8) (k : Fin 2048) :
    pairs (outsAt0 m c t.val t.isLt).2.1 (outsAt0 m c t.val t.isLt).2.2 b k
      = blockState (iblk m c 0 t) (iblk m c 3 t) (iblk m c 4 t) (iblk m c 5 t) (iblk m c 6 t)
        (pairs (outsAt0 m c (t.val - 1) (Nat.lt_of_le_of_lt (Nat.sub_le _ _) t.isLt)).2.1
        (outsAt0 m c (t.val - 1) (Nat.lt_of_le_of_lt (Nat.sub_le _ _) t.isLt)).2.2) b k 128 :=
  Prod.ext (pointB13 m c t h0 b k) (pointB14 m c t h0 b k)

theorem pointB12 (c : Dev nD) (t : Fin cfg0.N) (h0 : ¬t.val % 32 = 0) (s : Fin 128) (b : Fin 8) (o : Fin 512) :
    (outsAt0 m c t.val t.isLt).1 (ix2 s (colB b o))
      = blockOut (iblk m c 0 t) (iblk m c 3 t) (iblk m c 4 t) (iblk m c 5 t) (iblk m c 6 t) (iblk m c 7 t) (iblk m c 8 t)
        (iblk m c 9 t) (iblk m c 10 t) (iblk m c 11 t)
        (pairs (outsAt0 m c (t.val - 1) (Nat.lt_of_le_of_lt (Nat.sub_le _ _) t.isLt)).2.1
        (outsAt0 m c (t.val - 1) (Nat.lt_of_le_of_lt (Nat.sub_le _ _) t.isLt)).2.2) b s o := by
  rw [outsAt0_B m c t h0]
  dsimp only
  exact S5BlockB.out12 (x1 := iblk m c 1 t) (x2 := iblk m c 2 t) (hc0 := fun h => h0 ((hcond0_0 t).mp h)) (t := s) (b := b) (o := o) ..

/-! ### The states through all the times -/

/-- The channels of batch row `b` by time, over the whole input. -/
def inputAt (u : Vec Ideal S4096x4096 .f32) (b : Fin 8) (T : ℕ) (j : Fin 512) : EReal :=
  if h : T < 4096 then u (ix2 ⟨T, h⟩ (colB b j)) else 0

/-- The states after `T` times. -/
def total (c : Dev nD) (b : Fin 8) : Fin 2048 → ℕ → EReal × EReal :=
  state (fun n => V m c main_v49 (ix2 0 n : S1x2048.Idx)) (fun n => V m c main_v50 (ix2 0 n : S1x2048.Idx))
    (fun h k n => V m c main_v63 (ix3 h k n : S2x256x1024.Idx)) (fun h k n => V m c main_v76 (ix3 h k n : S2x256x1024.Idx))
    (inputAt (m ((c : Thread nD τ).loc main_arg0)) b)
    (fun n => (V m c main_v0 (ix2 b n : S8x2048.Idx), V m c main_v0 (ix2 b n : S8x2048.Idx)))

/-- The output at one time, from the states after it. -/
def output (c : Dev nD) (T : ℕ) (b : Fin 8) (o : Fin 512) : EReal :=
  branch (fun h n k => V m c main_v89 (ix3 h n k : S2x1024x256.Idx)) (fun h n k => V m c main_v102 (ix3 h n k : S2x1024x256.Idx))
    (fun j => V m c main_v103 (ix2 0 j : S1x512.Idx)) (fun j k => V m c main_v104 (ix2 j k : S512x512.Idx))
    (fun k => V m c main_v105 (ix2 0 k : S1x512.Idx)) (fun n => total m c b n (T + 1))
    (inputAt (m ((c : Thread nD τ).loc main_arg0)) b T) o

theorem inputAt_block (c : Dev nD) (t : Fin cfg0.N) (b : Fin 8) (s : Fin 128) :
    chans (iblk m c 0 t) s b = inputAt (m ((c : Thread nD τ).loc main_arg0)) b (128 * t.val + s.val) := by
  funext j
  have h : 128 * t.val + s.val < 4096 := (timeAt t s).isLt
  unfold inputAt
  rw [dif_pos h]
  exact input_block m c t s (colB b j)

/-- A block's states continue the states before it. -/
theorem blockState_eq (c : Dev nD) (t : Fin cfg0.N) (kept : Fin 8 → Fin 2048 → EReal × EReal)
    (hk : ∀ b n, kept b n = total m c b n (128 * t.val)) (b : Fin 8) (n : Fin 2048) (q : ℕ) (hq : q ≤ 128) :
    blockState (iblk m c 0 t) (iblk m c 3 t) (iblk m c 4 t) (iblk m c 5 t) (iblk m c 6 t) kept b n q
      = total m c b n (128 * t.val + q) := by
  rw [block3, block4, block5, block6]
  unfold blockState
  rw [show kept b = fun n => total m c b n (128 * t.val) from funext (hk b)]
  unfold total state
  rw [scan_add]
  have e : ∀ s < 128, chansAt (iblk m c 0 t) b s = inputAt (m ((c : Thread nD τ).loc main_arg0)) b (128 * t.val + s) := by
    intro s hs
    funext j
    unfold chansAt
    rw [dif_pos hs, inputAt_block m c t b ⟨s, hs⟩]
  exact scan_congr _ _ _ 128 (fun s hs => congrArg (fun u => feed _ u n) (e s hs))
    (fun s hs => congrArg (fun u => feed _ u n) (e s hs)) q hq

/-- A block's output rows. -/
theorem blockOut_eq (c : Dev nD) (t : Fin cfg0.N) (kept : Fin 8 → Fin 2048 → EReal × EReal)
    (hk : ∀ b n, kept b n = total m c b n (128 * t.val)) (b : Fin 8) (s : Fin 128) (o : Fin 512) :
    blockOut (iblk m c 0 t) (iblk m c 3 t) (iblk m c 4 t) (iblk m c 5 t) (iblk m c 6 t) (iblk m c 7 t) (iblk m c 8 t)
      (iblk m c 9 t) (iblk m c 10 t) (iblk m c 11 t) kept b s o = output m c (128 * t.val + s.val) b o := by
  have e : (fun n => blockState (iblk m c 0 t) (iblk m c 3 t) (iblk m c 4 t) (iblk m c 5 t) (iblk m c 6 t) kept b n
      (s.val + 1)) = fun n => total m c b n (128 * t.val + s.val + 1) :=
    funext fun n => blockState_eq m c t kept hk b n (s.val + 1) (by omega)
  unfold blockOut output
  rw [e, inputAt_block m c t b s, block7, block8, block9, block10, block11]

/-- What the first point is given. -/
theorem first_kept (c : Dev nD) (t : Fin cfg0.N) (h : t.val % 32 = 0) (b : Fin 8) (n : Fin 2048) :
    pairs (iblk m c 1 t) (iblk m c 2 t) b n = total m c b n (128 * t.val) := by
  have ht := point_lt t
  rw [show t.val = 0 by omega, block1, block2]
  rfl

/-- After point `n` the kept states are those after `128 (n + 1)` times. -/
theorem kept_at (c : Dev nD) (n : ℕ) : ∀ (t : Fin cfg0.N), t.val = n → ∀ (b : Fin 8) (k : Fin 2048),
    pairs (outsAt0 m c t.val t.isLt).2.1 (outsAt0 m c t.val t.isLt).2.2 b k = total m c b k (128 * (t.val + 1)) := by
  induction n with
  | zero =>
    intro t ht b k
    have h0 : t.val % 32 = 0 := by omega
    exact (pairsA m c t h0 b k).trans (blockState_eq m c t _ (first_kept m c t h0) b k 128 le_rfl)
  | succ n ih =>
    intro t ht b k
    have hN := point_lt t
    have hB : ¬t.val % 32 = 0 := by omega
    have hk := ih ⟨t.val - 1, Nat.lt_of_le_of_lt (Nat.sub_le _ _) t.isLt⟩ (show t.val - 1 = n by omega)
    dsimp only at hk
    rw [show t.val - 1 + 1 = t.val by omega] at hk
    exact (pairsB m c t hB b k).trans (blockState_eq m c t _ hk b k 128 le_rfl)

theorem kept_eq (c : Dev nD) (n : ℕ) (h : n < cfg0.N) (b : Fin 8) (k : Fin 2048) :
    pairs (outsAt0 m c n h).2.1 (outsAt0 m c n h).2.2 b k = total m c b k (128 * (n + 1)) :=
  kept_at m c n ⟨n, h⟩ rfl b k

/-- Point `t`'s output block. -/
theorem out_eq (c : Dev nD) (t : Fin cfg0.N) (s : Fin 128) (b : Fin 8) (o : Fin 512) :
    (outsAt0 m c t.val t.isLt).1 (ix2 s (colB b o)) = output m c (128 * t.val + s.val) b o := by
  have ht := point_lt t
  by_cases h : t.val % 32 = 0
  · exact (pointA12 m c t h s b o).trans (blockOut_eq m c t _ (first_kept m c t h) b s o)
  · refine (pointB12 m c t h s b o).trans (blockOut_eq m c t _ (fun b k => ?_) b s o)
    rw [kept_eq, show t.val - 1 + 1 = t.val by omega]

/-! ### The result arrays -/

/-- The batch row of a column. -/
def rowB (n : Fin 4096) : Fin 8 := ⟨n.val / 512, by omega⟩
/-- Its channel. -/
def chanB (n : Fin 4096) : Fin 512 := ⟨n.val % 512, by omega⟩

theorem colB_rowB (n : Fin 4096) : colB (rowB n) (chanB n) = n :=
  Fin.ext (show 512 * (n.val / 512) + n.val % 512 = n.val by omega)

theorem rowB_colB (b : Fin 8) (j : Fin 512) : rowB (colB b j) = b :=
  Fin.ext (show (512 * b.val + j.val) / 512 = b.val by omega)

theorem chanB_colB (b : Fin 8) (j : Fin 512) : chanB (colB b j) = j :=
  Fin.ext (show (512 * b.val + j.val) % 512 = j.val by omega)

/-- The output array. -/
def outArr (c : Dev nD) : Buf (Elt Ideal) ((c : Thread nD τ).loc main_v106_0) :=
  fun (i : S4096x4096.Idx) => output m c (i 0).val (rowB (i 1)) (chanB (i 1))

/-- The last states: real and imaginary parts. -/
def reArr (c : Dev nD) : Buf (Elt Ideal) ((c : Thread nD τ).loc main_v106_1) :=
  fun (i : S8x2048.Idx) => (total m c (i 0) (i 1) 4096).1
def imArr (c : Dev nD) : Buf (Elt Ideal) ((c : Thread nD τ).loc main_v106_2) :=
  fun (i : S8x2048.Idx) => (total m c (i 0) (i 1) 4096).2

theorem out_place (t : Fin cfg0.N) (s : Fin 128) (k : Fin 4096) :
    ((cfg0.win 12).blk t).view.emb (ix2 s k : S128x4096.Idx) = (ix2 (timeAt t s) k : S4096x4096.Idx) := by
  obtain ⟨-, -, h0, h1⟩ := moving t
  refine funext fun a => Fin.ext ?_
  match a with
  | ⟨0, _⟩ => show win0_12.index t 0 * 128 + 1 * s.val = 128 * t.val + s.val; rw [h0]; omega
  | ⟨1, _⟩ => show win0_12.index t 1 * 4096 + 1 * k.val = k.val; rw [h1]; omega

theorem flushed_out (c : Dev nD) (t : Fin cfg0.N) :
    (dats m 0 c).flushed 12 t = ((cfg0.win 12).blk t).view.read (Elt Ideal) (outArr m c) := by
  show (cfg0.win 12).cut (grid0.coords t) ((dats m 0 c).after 12 t) = _
  rw [after0_12]
  refine funext fun (y : S128x4096.Idx) => ?_
  obtain ⟨s, k, rfl⟩ : ∃ (s : Fin 128) (k : Fin 4096), y = ix2 s k := ⟨y 0, y 1, eq_ix2 y⟩
  show (outsAt0 m c t.val t.isLt).1 (ix2 s k) = outArr m c (((cfg0.win 12).blk t).view.emb (ix2 s k : S128x4096.Idx))
  rw [out_place t s k]
  have e := out_eq m c t s (rowB k) (chanB k)
  rw [colB_rowB] at e
  exact e

theorem final_out (c : Dev nD) : (dats m 0 c).arrAt 12 cfg0.N = outArr m c :=
  (dats m 0 c).arrAt_eq_of_cover 12 (outArr m c) (fun t _ => flushed_out m c t) fun i => by
    obtain ⟨R, k, rfl⟩ : ∃ (R : Fin 4096) (k : Fin 4096), i = ix2 R k := ⟨i 0, i 1, eq_ix2 i⟩
    refine ⟨⟨R.val / 128, lt_of_lt_of_eq (by omega) N_0.symm⟩, flush0_12 _, ?_⟩
    have e := out_place ⟨R.val / 128, lt_of_lt_of_eq (by omega) N_0.symm⟩ ⟨R.val % 128, by omega⟩ k
    have hR : timeAt ⟨R.val / 128, lt_of_lt_of_eq (by omega) N_0.symm⟩ ⟨R.val % 128, by omega⟩ = R :=
      Fin.ext (by show 128 * (R.val / 128) + R.val % 128 = R.val; omega)
    rw [hR] at e
    rw [← e]
    exact View.emb_mem_set _ _

theorem place13 (t : Fin cfg0.N) (b : Fin 8) (k : Fin 2048) :
    ((cfg0.win 13).blk t).view.emb (ix2 b k : S8x2048.Idx) = (ix2 b k : S8x2048.Idx) := by
  obtain ⟨h0, h1⟩ := fixed13 t
  refine funext fun a => Fin.ext ?_
  match a with
  | ⟨0, _⟩ => show win0_13.index t 0 * 8 + 1 * b.val = b.val; rw [h0]; omega
  | ⟨1, _⟩ => show win0_13.index t 1 * 2048 + 1 * k.val = k.val; rw [h1]; omega

theorem flushed13 (c : Dev nD) (t : Fin cfg0.N) (hf : (cfg0.win 13).flush t = true) :
    (dats m 0 c).flushed 13 t = ((cfg0.win 13).blk t).view.read (Elt Ideal) (reArr m c) := by
  have ht := point_lt t
  have h3 : t.val = 31 := by have := (flush0_13 t).mp hf; omega
  show (cfg0.win 13).cut (grid0.coords t) ((dats m 0 c).after 13 t) = _
  rw [after0_13]
  refine funext fun (y : S8x2048.Idx) => ?_
  obtain ⟨b, k, rfl⟩ : ∃ (b : Fin 8) (k : Fin 2048), y = ix2 b k := ⟨y 0, y 1, eq_ix2 y⟩
  show (outsAt0 m c t.val t.isLt).2.1 (ix2 b k) = reArr m c (((cfg0.win 13).blk t).view.emb (ix2 b k : S8x2048.Idx))
  rw [place13 t b k]
  have e := kept_eq m c t.val t.isLt b k
  rw [show 128 * (t.val + 1) = 4096 by omega] at e
  exact congrArg Prod.fst e

theorem final13 (c : Dev nD) : (dats m 0 c).arrAt 13 cfg0.N = reArr m c :=
  (dats m 0 c).arrAt_eq_of_cover 13 (reArr m c) (flushed13 m c) fun i => by
    obtain ⟨b, k, rfl⟩ : ∃ (b : Fin 8) (k : Fin 2048), i = ix2 b k := ⟨i 0, i 1, eq_ix2 i⟩
    refine ⟨⟨31, lt_of_lt_of_eq (by omega) N_0.symm⟩, (flush0_13 _).mpr rfl, ?_⟩
    exact Finset.mem_map.mpr ⟨(ix2 b k : S8x2048.Idx), Finset.mem_univ _, place13 _ b k⟩

theorem place14 (t : Fin cfg0.N) (b : Fin 8) (k : Fin 2048) :
    ((cfg0.win 14).blk t).view.emb (ix2 b k : S8x2048.Idx) = (ix2 b k : S8x2048.Idx) := by
  obtain ⟨h0, h1⟩ := fixed14 t
  refine funext fun a => Fin.ext ?_
  match a with
  | ⟨0, _⟩ => show win0_14.index t 0 * 8 + 1 * b.val = b.val; rw [h0]; omega
  | ⟨1, _⟩ => show win0_14.index t 1 * 2048 + 1 * k.val = k.val; rw [h1]; omega

theorem flushed14 (c : Dev nD) (t : Fin cfg0.N) (hf : (cfg0.win 14).flush t = true) :
    (dats m 0 c).flushed 14 t = ((cfg0.win 14).blk t).view.read (Elt Ideal) (imArr m c) := by
  have ht := point_lt t
  have h3 : t.val = 31 := by have := (flush0_14 t).mp hf; omega
  show (cfg0.win 14).cut (grid0.coords t) ((dats m 0 c).after 14 t) = _
  rw [after0_14]
  refine funext fun (y : S8x2048.Idx) => ?_
  obtain ⟨b, k, rfl⟩ : ∃ (b : Fin 8) (k : Fin 2048), y = ix2 b k := ⟨y 0, y 1, eq_ix2 y⟩
  show (outsAt0 m c t.val t.isLt).2.2 (ix2 b k) = imArr m c (((cfg0.win 14).blk t).view.emb (ix2 b k : S8x2048.Idx))
  rw [place14 t b k]
  have e := kept_eq m c t.val t.isLt b k
  rw [show 128 * (t.val + 1) = 4096 by omega] at e
  exact congrArg Prod.snd e

theorem final14 (c : Dev nD) : (dats m 0 c).arrAt 14 cfg0.N = imArr m c :=
  (dats m 0 c).arrAt_eq_of_cover 14 (imArr m c) (flushed14 m c) fun i => by
    obtain ⟨b, k, rfl⟩ : ∃ (b : Fin 8) (k : Fin 2048), i = ix2 b k := ⟨i 0, i 1, eq_ix2 i⟩
    refine ⟨⟨31, lt_of_lt_of_eq (by omega) N_0.symm⟩, (flush0_14 _).mpr rfl, ?_⟩
    exact Finset.mem_map.mpr ⟨(ix2 b k : S8x2048.Idx), Finset.mem_univ _, place14 _ b k⟩

/-- The run: the three arrays, and the arguments unchanged. -/
theorem run (ρ : Dev nD → PrngReg) : θ_run defs (onTc (τ := τ) (main (F := Ideal))) ⟨m, fun _ => 0, ρ⟩ fun r => ∀ c : Dev nD,
      r.2.mem ((c : Thread nD τ).loc main_v106_0) = outArr m c
      ∧ r.2.mem ((c : Thread nD τ).loc main_v106_1) = reArr m c
      ∧ r.2.mem ((c : Thread nD τ).loc main_v106_2) = imArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun _ h c => ⟨((h.2 c).1 12).trans (final_out m c), ((h.2 c).1 13).trans (final13 m c),
    ((h.2 c).1 14).trans (final14 m c), h.1 c⟩)
    (θ_run_and (unchanged m ρ) (run_main m ρ))

end Cert.S5Array

end
-- ==== Proof.S5Model.lean ====
/-
  The S5 branch as it is defined: 32 groups of 64 complex states, each group reading 16 channels and writing 16.
  The weights laid out by halves, zero away from a group's own block, give the same sums.
-/
module

public import proofs.«01_k».proof.Proof.S5Layer
public import Mathlib.Algebra.BigOperators.Fin

@[expose] public section

noncomputable section

namespace Cert.S5Model

open Idealize.ShloMosaic Cert.S5Spec Cert.S5Layer

/-- The branch's parameters. -/
structure Params where
  lre : Fin 32 → Fin 64 → EReal
  lim : Fin 32 → Fin 64 → EReal
  ldt : Fin 32 → EReal
  bre : Fin 32 → Fin 64 → Fin 16 → EReal
  bim : Fin 32 → Fin 64 → Fin 16 → EReal
  cre : Fin 32 → Fin 16 → Fin 64 → EReal
  cim : Fin 32 → Fin 16 → Fin 64 → EReal
  d : Fin 512 → EReal
  W : Fin 512 → Fin 512 → EReal
  bg : Fin 512 → EReal

variable (P : Params)

/-! ### The discretised recurrence -/

/-- The transition `exp (λ Δ)`: its real and imaginary parts. -/
def aRe (g : Fin 32) (p : Fin 64) : EReal := Ideal.exp (P.lre g p * Ideal.exp (P.ldt g)) * Ideal.cos (P.lim g p * Ideal.exp (P.ldt g))
def aIm (g : Fin 32) (p : Fin 64) : EReal := Ideal.exp (P.lre g p * Ideal.exp (P.ldt g)) * Ideal.sin (P.lim g p * Ideal.exp (P.ldt g))

/-- The input's factor `(exp (λ Δ) − 1) / λ`. -/
def dRe (g : Fin 32) (p : Fin 64) : EReal :=
  Ideal.div ((aRe P g p - 1) * P.lre g p + aIm P g p * P.lim g p) (P.lre g p * P.lre g p + P.lim g p * P.lim g p)
def dIm (g : Fin 32) (p : Fin 64) : EReal :=
  Ideal.div (aIm P g p * P.lre g p - (aRe P g p - 1) * P.lim g p) (P.lre g p * P.lre g p + P.lim g p * P.lim g p)

/-- The input weights. -/
def bbRe (g : Fin 32) (p : Fin 64) (i : Fin 16) : EReal := dRe P g p * P.bre g p i - dIm P g p * P.bim g p i
def bbIm (g : Fin 32) (p : Fin 64) (i : Fin 16) : EReal := dRe P g p * P.bim g p i + dIm P g p * P.bre g p i

/-- Channel `i` of group `g`. -/
def chanG (g : Fin 32) (i : Fin 16) : Fin 512 := ⟨16 * g.val + i.val, by omega⟩

/-- A group's input. -/
def drive (b : Fin 32 → Fin 64 → Fin 16 → EReal) (u : Fin 512 → EReal) (g : Fin 32) (p : Fin 64) : EReal :=
  ∑ i : Fin 16, b g p i * u (chanG g i)

/-- State `p` of group `g` after `k` steps from zero. -/
def hist (u : ℕ → Fin 512 → EReal) (g : Fin 32) (p : Fin 64) (k : ℕ) : EReal × EReal :=
  scan (aRe P g p) (aIm P g p) (fun t => drive (bbRe P) (u t) g p) (fun t => drive (bbIm P) (u t) g p) (0, 0) k

/-- The group of a channel, and its number in the group. -/
def grpC (o : Fin 512) : Fin 32 := ⟨o.val / 16, by omega⟩
def posC (o : Fin 512) : Fin 16 := ⟨o.val % 16, by omega⟩
/-- The group of a state, and its number in the group. -/
def grpS (n : Fin 2048) : Fin 32 := ⟨n.val / 64, by omega⟩
def posS (n : Fin 2048) : Fin 64 := ⟨n.val % 64, by omega⟩

/-- What channel `o` reads off the states, with the skip. -/
def look (s : Fin 32 → Fin 64 → EReal × EReal) (u : Fin 512 → EReal) (o : Fin 512) : EReal :=
  (∑ p : Fin 64, P.cre (grpC o) (posC o) p * (s (grpC o) p).1 - ∑ p : Fin 64, P.cim (grpC o) (posC o) p * (s (grpC o) p).2)
    + P.d o * u o

/-- The branch's output. -/
def out (s : Fin 32 → Fin 64 → EReal × EReal) (u : Fin 512 → EReal) (o : Fin 512) : EReal :=
  glu P.W P.bg (fun j => gelu (look P s u j)) o

/-! ### The weights by halves -/

/-- One on the diagonal. -/
def eye (a b : Fin 32) : EReal := if a = b then 1 else 0

/-- The input weights, zero between different groups. -/
def wide (b : Fin 32 → Fin 64 → Fin 16 → EReal) (h : Fin 2) (k : Fin 256) (m : Fin 1024) : EReal :=
  b (grpC (chan h k)) (posS (stat h m)) (posC (chan h k)) * eye (grpC (chan h k)) (grpS (stat h m))

/-- The output weights, zero between different groups. -/
def tall (c : Fin 32 → Fin 16 → Fin 64 → EReal) (h : Fin 2) (m : Fin 1024) (k : Fin 256) : EReal :=
  c (grpS (stat h m)) (posC (chan h k)) (posS (stat h m)) * eye (grpS (stat h m)) (grpC (chan h k))

theorem stat_low (n : Fin 2048) : stat (half n) (low n) = n :=
  Fin.ext (show 1024 * (n.val / 1024) + n.val % 1024 = n.val by omega)

theorem chan_lowC (o : Fin 512) : chan (halfC o) (lowC o) = o :=
  Fin.ext (show 256 * (o.val / 256) + o.val % 256 = o.val by omega)

/-- A half's sum over its 256 channels is the group's sum over its 16. -/
theorem feed_wide (b : Fin 32 → Fin 64 → Fin 16 → EReal) (u : Fin 512 → EReal) (n : Fin 2048) :
    feed (wide b) u n = drive b u (grpS n) (posS n) := by
  unfold feed drive
  symm
  refine Finset.sum_of_injOn (fun i : Fin 16 => (⟨16 * (n.val / 64 % 16) + i.val, by omega⟩ : Fin 256)) ?_ ?_ ?_ ?_
  · intro i _ j _ e
    have := congrArg Fin.val e
    exact Fin.ext (by dsimp only at this; omega)
  · exact fun _ _ => Finset.mem_coe.mpr (Finset.mem_univ _)
  · intro k _ hk
    have hne : grpC (chan (half n) k) ≠ grpS n := by
      intro e
      have e' : (256 * (n.val / 1024) + k.val) / 16 = n.val / 64 := congrArg Fin.val e
      refine hk ⟨⟨k.val % 16, by omega⟩, Finset.mem_coe.mpr (Finset.mem_univ _), Fin.ext ?_⟩
      show 16 * (n.val / 64 % 16) + k.val % 16 = k.val
      omega
    unfold wide eye
    rw [stat_low, if_neg hne, mul_zero, mul_zero]
  · intro i _
    have hc : chan (half n) (⟨16 * (n.val / 64 % 16) + i.val, by omega⟩ : Fin 256) = chanG (grpS n) i :=
      Fin.ext (show 256 * (n.val / 1024) + (16 * (n.val / 64 % 16) + i.val) = 16 * (n.val / 64) + i.val by omega)
    have hg : grpC (chanG (grpS n) i) = grpS n := Fin.ext (show (16 * (n.val / 64) + i.val) / 16 = n.val / 64 by omega)
    have hp : posC (chanG (grpS n) i) = i := Fin.ext (show (16 * (n.val / 64) + i.val) % 16 = i.val by omega)
    unfold wide eye
    rw [stat_low]
    rw [hc, hg, hp, if_pos rfl, mul_one, mul_comm]

/-- A half's sum over its 1024 states is the group's sum over its 64. -/
theorem sum_tall (c : Fin 32 → Fin 16 → Fin 64 → EReal) (z : Fin 2048 → EReal) (o : Fin 512) :
    ∑ m : Fin 1024, z (stat (halfC o) m) * tall c (halfC o) m (lowC o)
      = ∑ p : Fin 64, c (grpC o) (posC o) p * z ⟨64 * (grpC o).val + p.val, by omega⟩ := by
  symm
  refine Finset.sum_of_injOn (fun p : Fin 64 => (⟨64 * (o.val / 16 % 16) + p.val, by omega⟩ : Fin 1024)) ?_ ?_ ?_ ?_
  · intro i _ j _ e
    have := congrArg Fin.val e
    exact Fin.ext (by dsimp only at this; omega)
  · exact fun _ _ => Finset.mem_coe.mpr (Finset.mem_univ _)
  · intro m _ hm
    have hne : grpS (stat (halfC o) m) ≠ grpC o := by
      intro e
      have e' : (1024 * (o.val / 256) + m.val) / 64 = o.val / 16 := congrArg Fin.val e
      refine hm ⟨⟨m.val % 64, by omega⟩, Finset.mem_coe.mpr (Finset.mem_univ _), Fin.ext ?_⟩
      show 64 * (o.val / 16 % 16) + m.val % 64 = m.val
      omega
    unfold tall eye
    rw [chan_lowC, if_neg hne, mul_zero, mul_zero]
  · intro p _
    have hs : stat (halfC o) (⟨64 * (o.val / 16 % 16) + p.val, by omega⟩ : Fin 1024)
        = ⟨64 * (grpC o).val + p.val, by omega⟩ :=
      Fin.ext (show 1024 * (o.val / 256) + (64 * (o.val / 16 % 16) + p.val) = 64 * (o.val / 16) + p.val by omega)
    have hg : grpS ⟨64 * (grpC o).val + p.val, by omega⟩ = grpC o :=
      Fin.ext (show (64 * (o.val / 16) + p.val) / 64 = o.val / 16 by omega)
    have hp : posS ⟨64 * (grpC o).val + p.val, by omega⟩ = p := Fin.ext (show (64 * (o.val / 16) + p.val) % 64 = p.val by omega)
    unfold tall eye
    rw [chan_lowC]
    rw [hs, hg, hp, if_pos rfl, mul_one, mul_comm]

/-- The states by halves are the states by groups. -/
theorem state_wide (u : ℕ → Fin 512 → EReal) (n : Fin 2048) (k : ℕ) :
    state (fun n => aRe P (grpS n) (posS n)) (fun n => aIm P (grpS n) (posS n)) (wide (bbRe P)) (wide (bbIm P)) u
      (fun _ => (0, 0)) n k = hist P u (grpS n) (posS n) k := by
  unfold state hist
  simp only [feed_wide]

/-- The output by halves is the output by groups. -/
theorem branch_tall (s : Fin 2048 → EReal × EReal) (s' : Fin 32 → Fin 64 → EReal × EReal)
    (hs : ∀ n, s n = s' (grpS n) (posS n)) (u : Fin 512 → EReal) (o : Fin 512) :
    branch (tall P.cre) (tall P.cim) P.d P.W P.bg s u o = out P s' u o := by
  have e : ∀ j, readout (tall P.cre) (tall P.cim) P.d s u j = look P s' u j := by
    intro j
    unfold readout look
    have hz : ∀ p : Fin 64, s ⟨64 * (grpC j).val + p.val, by omega⟩ = s' (grpC j) p := by
      intro p
      rw [hs]
      congr 1
      · exact Fin.ext (show (64 * (j.val / 16) + p.val) / 64 = j.val / 16 by omega)
      · exact Fin.ext (show (64 * (j.val / 16) + p.val) % 64 = p.val by omega)
    rw [sum_tall P.cre (fun n => (s n).1), sum_tall P.cim (fun n => (s n).2)]
    simp only [hz]
  unfold branch out
  simp only [e]

end Cert.S5Model

end
-- ==== Proof.S5Host.lean ====
/-
  What the host hands the S5 kernel: the discretised transition, and the weights laid out by halves.
-/
module

public import proofs.«01_k».proof.Proof.Gen.KernelIdeal.Frame
public import proofs.«01_k».proof.Proof.S5Model
public import Idealize.ShloMosaic.Lib.Pointwise

@[expose] public section

noncomputable section

namespace Cert.S5Host

open Cert.KernelIdeal Cert.KernelIdeal.Gen Idealize.ShloMosaic Idealize.ShloMosaic.TcCoe Idealize.SL.Sem
open Cert.S5Layer Cert.S5Model

variable (m : (ℓ : Loc nD τ sig) → Buf (Elt Ideal) ℓ)

/-- The parameters in the argument arrays. -/
def params (c : Dev nD) : Params where
  lre g p := m ((c : Thread nD τ).loc main_arg1) (ix2 g p : S32x64.Idx)
  lim g p := m ((c : Thread nD τ).loc main_arg2) (ix2 g p : S32x64.Idx)
  ldt g := m ((c : Thread nD τ).loc main_arg3) (ix1 g : S32.Idx)
  bre g p i := m ((c : Thread nD τ).loc main_arg4) (ix3 g p i : S32x64x16.Idx)
  bim g p i := m ((c : Thread nD τ).loc main_arg5) (ix3 g p i : S32x64x16.Idx)
  cre g o p := m ((c : Thread nD τ).loc main_arg6) (ix3 g o p : S32x16x64.Idx)
  cim g o p := m ((c : Thread nD τ).loc main_arg7) (ix3 g o p : S32x16x64.Idx)
  d j := m ((c : Thread nD τ).loc main_arg8) (ix1 j : S512.Idx)
  W j k := m ((c : Thread nD τ).loc main_arg9) (ix2 j k : S512x512.Idx)
  bg k := m ((c : Thread nD τ).loc main_arg10) (ix1 k : S512.Idx)

/-- The comparison of two counters, as a number. -/
theorem eye_word (a b : Fin 32) :
    (FloatOps.uitofp .f32 (IntOp.cmpi .eq (IntOp.addi (BitVec.ofNat 32 a.val) 0#32) (BitVec.ofNat 32 b.val)) : Ideal .f32)
      = eye a b := by
  have e : IntOp.cmpi .eq (IntOp.addi (BitVec.ofNat 32 a.val) 0#32) (BitVec.ofNat 32 b.val) = if a = b then 1#1 else 0#1 := by
    revert a b
    decide +kernel
  rw [e]
  unfold eye
  split
  · show ((((1#1 : BitVec 1).toNat : ℕ) : ℝ) : EReal) = 1
    simp
  · show ((((0#1 : BitVec 1).toNat : ℕ) : ℝ) : EReal) = 0
    simp

set_option maxHeartbeats 2000000
set_option maxRecDepth 65536

theorem start (c : Dev nD) (b : Fin 8) (n : Fin 2048) : V m c main_v0 (ix2 b n : S8x2048.Idx) = (0 : EReal) := by
  simp only [V, hostOps0]
  after_results_simp
  pointwise

theorem transition_re (c : Dev nD) (n : Fin 2048) :
    V m c main_v49 (ix2 0 n : S1x2048.Idx) = aRe (params m c) (grpS n) (posS n) := by
  simp only [V, hostOps0]
  after_results_simp
  pointwise
  rfl

theorem transition_im (c : Dev nD) (n : Fin 2048) :
    V m c main_v50 (ix2 0 n : S1x2048.Idx) = aIm (params m c) (grpS n) (posS n) := by
  simp only [V, hostOps0]
  after_results_simp
  pointwise
  rfl

theorem input_re (c : Dev nD) (h : Fin 2) (k : Fin 256) (n : Fin 1024) :
    V m c main_v63 (ix3 h k n : S2x256x1024.Idx) = wide (bbRe (params m c)) h k n := by
  generalize hx : wide (bbRe (params m c)) h k n = x
  simp only [V, hostOps0]
  after_results_simp
  pointwise
  after_results_simp
  pointwise
  have hh2 : h.val < 2 := h.isLt
  by_cases hh : h.val < 1
  · have e1 : chan h k = ⟨k.val, by omega⟩ := Fin.ext (show 256 * h.val + k.val = k.val by omega)
    have e2 : stat h n = ⟨n.val, by omega⟩ := Fin.ext (show 1024 * h.val + n.val = n.val by omega)
    rw [dif_pos hh]
    refine Eq.trans ?_ hx
    simp only [wide, e1, e2, bbRe, dRe, dIm, aRe, aIm, params, grpC, grpS, posC, posS]
    refine congrArg₂ _ ?_ ?_
    · rfl
    · exact eye_word ⟨k.val / 16, by omega⟩ ⟨n.val / 64, by omega⟩
  · have e1 : chan h k = ⟨256 + k.val, by omega⟩ := Fin.ext (show 256 * h.val + k.val = 256 + k.val by omega)
    have e2 : stat h n = ⟨1024 + n.val, by omega⟩ := Fin.ext (show 1024 * h.val + n.val = 1024 + n.val by omega)
    rw [dif_neg hh]
    refine Eq.trans ?_ hx
    simp only [wide, e1, e2, bbRe, dRe, dIm, aRe, aIm, params, grpC, grpS, posC, posS]
    refine congrArg₂ _ ?_ ?_
    · rfl
    · exact eye_word ⟨(256 + k.val) / 16, by omega⟩ ⟨(1024 + n.val) / 64, by omega⟩

theorem input_im (c : Dev nD) (h : Fin 2) (k : Fin 256) (n : Fin 1024) :
    V m c main_v76 (ix3 h k n : S2x256x1024.Idx) = wide (bbIm (params m c)) h k n := by
  generalize hx : wide (bbIm (params m c)) h k n = x
  simp only [V, hostOps0]
  after_results_simp
  pointwise
  after_results_simp
  pointwise
  have hh2 : h.val < 2 := h.isLt
  by_cases hh : h.val < 1
  · have e1 : chan h k = ⟨k.val, by omega⟩ := Fin.ext (show 256 * h.val + k.val = k.val by omega)
    have e2 : stat h n = ⟨n.val, by omega⟩ := Fin.ext (show 1024 * h.val + n.val = n.val by omega)
    rw [dif_pos hh]
    refine Eq.trans ?_ hx
    simp only [wide, e1, e2, bbIm, dRe, dIm, aRe, aIm, params, grpC, grpS, posC, posS]
    refine congrArg₂ _ ?_ ?_
    · rfl
    · exact eye_word ⟨k.val / 16, by omega⟩ ⟨n.val / 64, by omega⟩
  · have e1 : chan h k = ⟨256 + k.val, by omega⟩ := Fin.ext (show 256 * h.val + k.val = 256 + k.val by omega)
    have e2 : stat h n = ⟨1024 + n.val, by omega⟩ := Fin.ext (show 1024 * h.val + n.val = 1024 + n.val by omega)
    rw [dif_neg hh]
    refine Eq.trans ?_ hx
    simp only [wide, e1, e2, bbIm, dRe, dIm, aRe, aIm, params, grpC, grpS, posC, posS]
    refine congrArg₂ _ ?_ ?_
    · rfl
    · exact eye_word ⟨(256 + k.val) / 16, by omega⟩ ⟨(1024 + n.val) / 64, by omega⟩

theorem output_re (c : Dev nD) (h : Fin 2) (n : Fin 1024) (k : Fin 256) :
    V m c main_v89 (ix3 h n k : S2x1024x256.Idx) = tall (params m c).cre h n k := by
  generalize hx : tall (params m c).cre h n k = x
  simp only [V, hostOps0]
  after_results_simp
  pointwise
  after_results_simp
  pointwise
  have hh2 : h.val < 2 := h.isLt
  by_cases hh : h.val < 1
  · have e1 : chan h k = ⟨k.val, by omega⟩ := Fin.ext (show 256 * h.val + k.val = k.val by omega)
    have e2 : stat h n = ⟨n.val, by omega⟩ := Fin.ext (show 1024 * h.val + n.val = n.val by omega)
    rw [dif_pos hh]
    refine Eq.trans ?_ hx
    simp only [tall, e1, e2, params, grpC, grpS, posC, posS]
    refine congrArg₂ _ ?_ ?_
    · rfl
    · exact eye_word ⟨n.val / 64, by omega⟩ ⟨k.val / 16, by omega⟩
  · have e1 : chan h k = ⟨256 + k.val, by omega⟩ := Fin.ext (show 256 * h.val + k.val = 256 + k.val by omega)
    have e2 : stat h n = ⟨1024 + n.val, by omega⟩ := Fin.ext (show 1024 * h.val + n.val = 1024 + n.val by omega)
    rw [dif_neg hh]
    refine Eq.trans ?_ hx
    simp only [tall, e1, e2, params, grpC, grpS, posC, posS]
    refine congrArg₂ _ ?_ ?_
    · rfl
    · exact eye_word ⟨(1024 + n.val) / 64, by omega⟩ ⟨(256 + k.val) / 16, by omega⟩

theorem output_im (c : Dev nD) (h : Fin 2) (n : Fin 1024) (k : Fin 256) :
    V m c main_v102 (ix3 h n k : S2x1024x256.Idx) = tall (params m c).cim h n k := by
  generalize hx : tall (params m c).cim h n k = x
  simp only [V, hostOps0]
  after_results_simp
  pointwise
  after_results_simp
  pointwise
  have hh2 : h.val < 2 := h.isLt
  by_cases hh : h.val < 1
  · have e1 : chan h k = ⟨k.val, by omega⟩ := Fin.ext (show 256 * h.val + k.val = k.val by omega)
    have e2 : stat h n = ⟨n.val, by omega⟩ := Fin.ext (show 1024 * h.val + n.val = n.val by omega)
    rw [dif_pos hh]
    refine Eq.trans ?_ hx
    simp only [tall, e1, e2, params, grpC, grpS, posC, posS]
    refine congrArg₂ _ ?_ ?_
    · rfl
    · exact eye_word ⟨n.val / 64, by omega⟩ ⟨k.val / 16, by omega⟩
  · have e1 : chan h k = ⟨256 + k.val, by omega⟩ := Fin.ext (show 256 * h.val + k.val = 256 + k.val by omega)
    have e2 : stat h n = ⟨1024 + n.val, by omega⟩ := Fin.ext (show 1024 * h.val + n.val = 1024 + n.val by omega)
    rw [dif_neg hh]
    refine Eq.trans ?_ hx
    simp only [tall, e1, e2, params, grpC, grpS, posC, posS]
    refine congrArg₂ _ ?_ ?_
    · rfl
    · exact eye_word ⟨(1024 + n.val) / 64, by omega⟩ ⟨(256 + k.val) / 16, by omega⟩

theorem skip (c : Dev nD) (j : Fin 512) : V m c main_v103 (ix2 0 j : S1x512.Idx) = (params m c).d j := by
  simp only [V, hostOps0]
  after_results_simp
  pointwise
  rfl

theorem weight (c : Dev nD) (j k : Fin 512) : V m c main_v104 (ix2 j k : S512x512.Idx) = (params m c).W j k := by
  simp only [V, hostOps0]
  after_results_simp
  pointwise
  rfl

theorem offset (c : Dev nD) (j : Fin 512) : V m c main_v105 (ix2 0 j : S1x512.Idx) = (params m c).bg j := by
  simp only [V, hostOps0]
  after_results_simp
  pointwise
  rfl

end Cert.S5Host

end
-- ==== Proof.S5Loop.lean ====
/-
  One step of the reference's loop: it reads a row of the two stacked inputs, and writes a row of the two stacked states.
-/
module

public import proofs.«01_k».proof.Proof.Gen.ReferenceIdeal.Run
public import proofs.«01_k».proof.Proof.S5Model
public import Idealize.ShloMosaic.Lib.Pointwise
public import Idealize.ShloMosaic.Lib.WordCmp

@[expose] public section

noncomputable section

namespace Cert.S5Loop

open Cert.ReferenceIdeal Cert.ReferenceIdeal.Gen Cert.ReferenceIdeal.Value Idealize.ShloMosaic Idealize.ShloMosaic.TcCoe
open Idealize.SL.Sem Idealize.ShloMosaic.StableHlo Idealize.ShloMosaic.WordCmp

/-- Row `k` lies in the stack. -/
theorem row_fits (k : ℕ) (hk : k < 4096) : S4096x8x32x64.Slices (![k, 0, 0, 0] : Fin 4 → ℕ) S1x8x32x64 := by
  refine ⟨rfl, fun a => ?_⟩
  match a with
  | ⟨0, _⟩ => show k + 1 ≤ 4096; omega
  | ⟨1, _⟩ => show 0 + 8 ≤ 8; omega
  | ⟨2, _⟩ => show 0 + 32 ≤ 32; omega
  | ⟨3, _⟩ => show 0 + 64 ≤ 64; omega

/-- The counter as an index. -/
theorem row_start (w : IVec S_ 32) (k : ℕ) (hk : k < 4096) (hw : w = fun _ => BitVec.ofNat 32 k) (a : Fin 4) :
    ((![w, constantI S_ 32 0#32, constantI S_ 32 0#32, constantI S_ 32 0#32] : Fin 4 → IVec S_ 32) a
      (Shape.Idx.first h_S_)).toInt = (((![k, 0, 0, 0] : Fin 4 → ℕ) a : ℕ) : ℤ) := by
  subst hw
  match a with
  | ⟨0, _⟩ => exact toInt_ofNat_of_lt (by omega)
  | ⟨1, _⟩ => rfl
  | ⟨2, _⟩ => rfl
  | ⟨3, _⟩ => rfl

theorem row_read (x : Vec Ideal S4096x8x32x64 .f32) (w : IVec S_ 32) (k : ℕ) (hk : k < 4096)
    (hw : w = fun _ => BitVec.ofNat 32 k) (b : Fin 8) (g : Fin 32) (p : Fin 64) :
    shapeCast S8x32x64 (Host.dynamicSlice S1x8x32x64 x (fun a => ((![w, constantI S_ 32 0#32, constantI S_ 32 0#32,
      constantI S_ 32 0#32] : Fin 4 → IVec S_ 32) a (Shape.Idx.first h_S_)).toInt) sliceFits_S4096x8x32x64_S1x8x32x64)
      shapeCasts_S1x8x32x64_S8x32x64 (ix3 b g p) = x (ix4 ⟨k, hk⟩ b g p) := by
  rw [dynamicSlice_eq_extract S1x8x32x64 x _ _ _ (row_fits k hk) (row_start w k hk hw)]
  pointwise

theorem row_write (x : Vec Ideal S4096x8x32x64 .f32) (y : Vec Ideal S8x32x64 .f32) (w : IVec S_ 32) (k : ℕ) (hk : k < 4096)
    (hw : w = fun _ => BitVec.ofNat 32 k) (t : Fin 4096) (b : Fin 8) (g : Fin 32) (p : Fin 64) :
    Host.dynamicUpdateSlice x (broadcastInDim S1x8x32x64 ![1, 2, 3] bcast_S8x32x64_S1x8x32x64_1_2_3 y)
      (fun a => ((![w, constantI S_ 32 0#32, constantI S_ 32 0#32, constantI S_ 32 0#32] : Fin 4 → IVec S_ 32) a
        (Shape.Idx.first h_S_)).toInt) updateFits_S4096x8x32x64_S1x8x32x64 (ix4 t b g p)
      = if t.val = k then y (ix3 b g p) else x (ix4 t b g p) := by
  rw [dynamicUpdateSlice_eq_update x _ _ _ _ (row_fits k hk) (row_start w k hk hw)]
  pointwise
  by_cases h : t.val = k
  · rw [dif_pos (by omega), if_pos h]
  · rw [dif_neg (by omega), if_neg h]

variable (V0 : Valuation τ sig (Elt Ideal))

/-! What the loop carries, read at an index. -/

abbrev feedRe (t : Fin 4096) (b : Fin 8) (g : Fin 32) (p : Fin 64) : EReal :=
  V0 (Proc.devRef .tc main_v50_0) (ix4 t b g p : S4096x8x32x64.Idx)
abbrev feedIm (t : Fin 4096) (b : Fin 8) (g : Fin 32) (p : Fin 64) : EReal :=
  V0 (Proc.devRef .tc main_v50_1) (ix4 t b g p : S4096x8x32x64.Idx)
abbrev transRe (g : Fin 32) (p : Fin 64) : EReal := V0 (Proc.devRef .tc main_v50_2) (ix2 g p : S32x64.Idx)
abbrev transIm (g : Fin 32) (p : Fin 64) : EReal := V0 (Proc.devRef .tc main_v50_3) (ix2 g p : S32x64.Idx)
abbrev lastRe (b : Fin 8) (g : Fin 32) (p : Fin 64) : EReal := V0 (Proc.devRef .tc main_v50_5) (ix3 b g p : S8x32x64.Idx)
abbrev lastIm (b : Fin 8) (g : Fin 32) (p : Fin 64) : EReal := V0 (Proc.devRef .tc main_v50_6) (ix3 b g p : S8x32x64.Idx)
abbrev stackRe (t : Fin 4096) (b : Fin 8) (g : Fin 32) (p : Fin 64) : EReal :=
  V0 (Proc.devRef .tc main_v50_7) (ix4 t b g p : S4096x8x32x64.Idx)
abbrev stackIm (t : Fin 4096) (b : Fin 8) (g : Fin 32) (p : Fin 64) : EReal :=
  V0 (Proc.devRef .tc main_v50_8) (ix4 t b g p : S4096x8x32x64.Idx)

/-- One step of the real parts. -/
theorem step_re (k : ℕ) (hk : k < 4096) (hw : V0 (Proc.devRef .tc main_v50_4) = fun _ => BitVec.ofNat 32 k)
    (b : Fin 8) (g : Fin 32) (p : Fin 64) :
    res_main_while0b_v99 V0 (ix3 b g p : S8x32x64.Idx)
      = transRe V0 g p * lastRe V0 b g p - transIm V0 g p * lastIm V0 b g p + feedRe V0 ⟨k, hk⟩ b g p := by
  unfold res_main_while0b_v99
  refine (congrArg₂ (· + ·) ?_ (row_read (V0 (Proc.devRef .tc main_v50_0)) _ k hk hw b g p) : _ = _)
  show subf _ _ (ix3 b g p) = _
  pointwise

/-- One step of the imaginary parts. -/
theorem step_im (k : ℕ) (hk : k < 4096) (hw : V0 (Proc.devRef .tc main_v50_4) = fun _ => BitVec.ofNat 32 k)
    (b : Fin 8) (g : Fin 32) (p : Fin 64) :
    res_main_while0b_v107 V0 (ix3 b g p : S8x32x64.Idx)
      = transRe V0 g p * lastIm V0 b g p + transIm V0 g p * lastRe V0 b g p + feedIm V0 ⟨k, hk⟩ b g p := by
  unfold res_main_while0b_v107
  refine (congrArg₂ (· + ·) ?_ (row_read (V0 (Proc.devRef .tc main_v50_1)) _ k hk hw b g p) : _ = _)
  show addf _ _ (ix3 b g p) = _
  pointwise

/-- The counter's step. -/
theorem step_count (k : ℕ) (hw : V0 (Proc.devRef .tc main_v50_4) = fun _ => BitVec.ofNat 32 k) :
    STEP V0 (Proc.devRef .tc main_v50_4) = fun _ => BitVec.ofNat 32 (k + 1) := by
  rw [STEP_main_v50_4]
  unfold step_main_v50_4
  rw [hw]
  funext i
  show BitVec.ofNat 32 k + 1#32 = _
  rw [BitVec.ofNat_add]

end Cert.S5Loop

end
-- ==== Proof.S5Reference.lean ====
/-
  What the reference computes: its loop keeps the states after the times so far, and stacks them; its results are the last
  states and the branch's output on the stacked ones.
-/
module

public import proofs.«01_k».proof.Proof.S5Loop
public import proofs.«01_k».proof.Proof.S5Shuffle

@[expose] public section

noncomputable section

namespace Cert.S5Reference

open Cert.ReferenceIdeal Cert.ReferenceIdeal.Gen Cert.ReferenceIdeal.Value Idealize.ShloMosaic Idealize.ShloMosaic.TcCoe
open Idealize.SL.Sem Idealize.ShloMosaic.StableHlo
open Cert.S5Spec Cert.S5Layer Cert.S5Model Cert.S5Shuffle Cert.S5Loop

variable (m : (ℓ : Loc nD τ sig) → Buf (Elt Ideal) ℓ)

/-- The parameters in the argument arrays. -/
def params (c : Dev nD) : Params where
  lre g p := m ((c : Thread nD τ).loc main_arg1) (ix2 g p : S32x64.Idx)
  lim g p := m ((c : Thread nD τ).loc main_arg2) (ix2 g p : S32x64.Idx)
  ldt g := m ((c : Thread nD τ).loc main_arg3) (ix1 g : S32.Idx)
  bre g p i := m ((c : Thread nD τ).loc main_arg4) (ix3 g p i : S32x64x16.Idx)
  bim g p i := m ((c : Thread nD τ).loc main_arg5) (ix3 g p i : S32x64x16.Idx)
  cre g o p := m ((c : Thread nD τ).loc main_arg6) (ix3 g o p : S32x16x64.Idx)
  cim g o p := m ((c : Thread nD τ).loc main_arg7) (ix3 g o p : S32x16x64.Idx)
  d j := m ((c : Thread nD τ).loc main_arg8) (ix1 j : S512.Idx)
  W j k := m ((c : Thread nD τ).loc main_arg9) (ix2 j k : S512x512.Idx)
  bg k := m ((c : Thread nD τ).loc main_arg10) (ix1 k : S512.Idx)

/-- The channels of batch row `b` by time. -/
def inputAt (u : Vec Ideal S4096x4096 .f32) (b : Fin 8) (T : ℕ) (j : Fin 512) : EReal :=
  if h : T < 4096 then u (ix2 ⟨T, h⟩ (colB b j)) else 0

/-- The states after `k` times. -/
abbrev states (c : Dev nD) (b : Fin 8) (g : Fin 32) (p : Fin 64) (k : ℕ) : EReal × EReal :=
  hist (params m c) (inputAt (m ((c : Thread nD τ).loc main_arg0)) b) g p k

set_option maxHeartbeats 2000000
set_option maxRecDepth 65536

/-! ### What the loop starts from -/

theorem entry_re (c : Dev nD) (g : Fin 32) (p : Fin 64) :
    entryContents preI m c (Proc.devRef .tc main_v50_2) (ix2 g p : S32x64.Idx) = aRe (params m c) g p := by
  generalize hx : aRe (params m c) g p = x
  simp only [entryContents, afterL_cons, afterL_nil]
  after_reads_simp
  simp only [id_eq]
  pointwise
  refine Eq.trans ?_ hx
  rfl

theorem entry_im (c : Dev nD) (g : Fin 32) (p : Fin 64) :
    entryContents preI m c (Proc.devRef .tc main_v50_3) (ix2 g p : S32x64.Idx) = aIm (params m c) g p := by
  generalize hx : aIm (params m c) g p = x
  simp only [entryContents, afterL_cons, afterL_nil]
  after_reads_simp
  simp only [id_eq]
  pointwise
  refine Eq.trans ?_ hx
  rfl

theorem entry_drive_re (c : Dev nD) (t : Fin 4096) (b : Fin 8) (g : Fin 32) (p : Fin 64) :
    entryContents preI m c (Proc.devRef .tc main_v50_0) (ix4 t b g p : S4096x8x32x64.Idx)
      = drive (bbRe (params m c)) (inputAt (m ((c : Thread nD τ).loc main_arg0)) b t.val) g p := by
  generalize hx : drive (bbRe (params m c)) (inputAt (m ((c : Thread nD τ).loc main_arg0)) b t.val) g p = x
  simp only [entryContents, afterL_cons, afterL_nil]
  after_reads_simp
  simp only [id_eq]
  pointwise
  refine Eq.trans ?_ hx
  unfold drive
  refine (?_ : @Eq EReal _ _)
  refine Finset.sum_congr rfl fun i _ => ?_
  refine congrArg₂ (fun x y : EReal => x * y) ?_ ?_
  · simp only [bbRe, dRe, dIm, aRe, aIm, params]
  · unfold inputAt
    rw [dif_pos t.isLt]
    refine congrArg (m ((c : Thread nD τ).loc main_arg0)) (congrArg (ix2 t) (Fin.ext ?_))
    show _ = 512 * b.val + (16 * g.val + i.val)
    dsimp only
    omega

theorem entry_drive_im (c : Dev nD) (t : Fin 4096) (b : Fin 8) (g : Fin 32) (p : Fin 64) :
    entryContents preI m c (Proc.devRef .tc main_v50_1) (ix4 t b g p : S4096x8x32x64.Idx)
      = drive (bbIm (params m c)) (inputAt (m ((c : Thread nD τ).loc main_arg0)) b t.val) g p := by
  generalize hx : drive (bbIm (params m c)) (inputAt (m ((c : Thread nD τ).loc main_arg0)) b t.val) g p = x
  simp only [entryContents, afterL_cons, afterL_nil]
  after_reads_simp
  simp only [id_eq]
  pointwise
  refine Eq.trans ?_ hx
  unfold drive
  refine (?_ : @Eq EReal _ _)
  refine Finset.sum_congr rfl fun i _ => ?_
  refine congrArg₂ (fun x y : EReal => x * y) ?_ ?_
  · simp only [bbIm, dRe, dIm, aRe, aIm, params]
  · unfold inputAt
    rw [dif_pos t.isLt]
    refine congrArg (m ((c : Thread nD τ).loc main_arg0)) (congrArg (ix2 t) (Fin.ext ?_))
    show _ = 512 * b.val + (16 * g.val + i.val)
    dsimp only
    omega

theorem entry_count (c : Dev nD) : entryContents preI m c (Proc.devRef .tc main_v50_4) = fun _ => BitVec.ofNat 32 0 := by
  simp only [entryContents, afterL_cons, afterL_nil]
  after_reads_simp
  rfl

theorem entry_last_re (c : Dev nD) (b : Fin 8) (g : Fin 32) (p : Fin 64) : lastRe (entryContents preI m c) b g p = 0 := by
  simp only [lastRe, entryContents, afterL_cons, afterL_nil]
  after_reads_simp
  simp only [id_eq]
  pointwise

theorem entry_last_im (c : Dev nD) (b : Fin 8) (g : Fin 32) (p : Fin 64) : lastIm (entryContents preI m c) b g p = 0 := by
  simp only [lastIm, entryContents, afterL_cons, afterL_nil]
  after_reads_simp
  simp only [id_eq]
  pointwise

/-! ### The loop -/

/-- The contents after `k` trips. -/
def trips (c : Dev nD) (k : ℕ) : Valuation τ sig (Elt Ideal) := STEP^[k] (entryContents preI m c)

theorem trips_succ (c : Dev nD) (k : ℕ) : trips m c (k + 1) = STEP (trips m c k) := Function.iterate_succ_apply' _ _ _

theorem trips_eq (c : Dev nD) (k : ℕ) : STEP^[k] (entryContents preI m c) = trips m c k := rfl

theorem trips_zero (c : Dev nD) : trips m c 0 = entryContents preI m c := rfl

theorem trips_arg0 (c : Dev nD) (k : ℕ) : trips m c k (Proc.devRef .tc main_arg0) = m ((c : Thread nD τ).loc main_arg0) :=
  iter_main_arg0 m c k
theorem trips_arg6 (c : Dev nD) (k : ℕ) : trips m c k (Proc.devRef .tc main_arg6) = m ((c : Thread nD τ).loc main_arg6) :=
  iter_main_arg6 m c k
theorem trips_arg7 (c : Dev nD) (k : ℕ) : trips m c k (Proc.devRef .tc main_arg7) = m ((c : Thread nD τ).loc main_arg7) :=
  iter_main_arg7 m c k
theorem trips_arg8 (c : Dev nD) (k : ℕ) : trips m c k (Proc.devRef .tc main_arg8) = m ((c : Thread nD τ).loc main_arg8) :=
  iter_main_arg8 m c k
theorem trips_arg9 (c : Dev nD) (k : ℕ) : trips m c k (Proc.devRef .tc main_arg9) = m ((c : Thread nD τ).loc main_arg9) :=
  iter_main_arg9 m c k
theorem trips_arg10 (c : Dev nD) (k : ℕ) : trips m c k (Proc.devRef .tc main_arg10) = m ((c : Thread nD τ).loc main_arg10) :=
  iter_main_arg10 m c k

attribute [irreducible] trips

/-- What is unchanged: the stacked inputs and the transition. -/
theorem trips_fixed (c : Dev nD) (k : ℕ) :
    trips m c k (Proc.devRef .tc main_v50_0) = entryContents preI m c (Proc.devRef .tc main_v50_0)
      ∧ trips m c k (Proc.devRef .tc main_v50_1) = entryContents preI m c (Proc.devRef .tc main_v50_1)
      ∧ trips m c k (Proc.devRef .tc main_v50_2) = entryContents preI m c (Proc.devRef .tc main_v50_2)
      ∧ trips m c k (Proc.devRef .tc main_v50_3) = entryContents preI m c (Proc.devRef .tc main_v50_3) := by
  induction k with
  | zero => rw [trips_zero]; exact ⟨rfl, rfl, rfl, rfl⟩
  | succ k ih =>
    rw [trips_succ]
    exact ⟨(STEP_main_v50_0 _).trans ih.1, (STEP_main_v50_1 _).trans ih.2.1, (STEP_main_v50_2 _).trans ih.2.2.1,
      (STEP_main_v50_3 _).trans ih.2.2.2⟩

theorem trips_count (c : Dev nD) (k : ℕ) : trips m c k (Proc.devRef .tc main_v50_4) = fun _ => BitVec.ofNat 32 k := by
  induction k with
  | zero => rw [trips_zero]; exact entry_count m c
  | succ k ih => rw [trips_succ]; exact step_count _ k ih

/-- The step's two values are the recurrence's next state. -/
theorem trips_next (c : Dev nD) (k : ℕ) (hk : k < 4096)
    (hl : ∀ b g p, (lastRe (trips m c k) b g p, lastIm (trips m c k) b g p) = states m c b g p k)
    (b : Fin 8) (g : Fin 32) (p : Fin 64) :
    ((res_main_while0b_v99 (trips m c k) (ix3 b g p : S8x32x64.Idx) : EReal),
      (res_main_while0b_v107 (trips m c k) (ix3 b g p : S8x32x64.Idx) : EReal)) = states m c b g p (k + 1) := by
  obtain ⟨h0, h1, h2, h3⟩ := trips_fixed m c k
  have e2 : transRe (trips m c k) g p = aRe (params m c) g p := (congrFun h2 _).trans (entry_re m c g p)
  have e3 : transIm (trips m c k) g p = aIm (params m c) g p := (congrFun h3 _).trans (entry_im m c g p)
  have e0 := (congrFun h0 (ix4 ⟨k, hk⟩ b g p)).trans (entry_drive_re m c ⟨k, hk⟩ b g p)
  have e1 := (congrFun h1 (ix4 ⟨k, hk⟩ b g p)).trans (entry_drive_im m c ⟨k, hk⟩ b g p)
  have er : lastRe (trips m c k) b g p = (states m c b g p k).1 := congrArg Prod.fst (hl b g p)
  have ei : lastIm (trips m c k) b g p = (states m c b g p k).2 := congrArg Prod.snd (hl b g p)
  have f0 : feedRe (trips m c k) ⟨k, hk⟩ b g p
      = drive (bbRe (params m c)) (inputAt (m ((c : Thread nD τ).loc main_arg0)) b k) g p := e0
  have f1 : feedIm (trips m c k) ⟨k, hk⟩ b g p
      = drive (bbIm (params m c)) (inputAt (m ((c : Thread nD τ).loc main_arg0)) b k) g p := e1
  have g0 := step_re (trips m c k) k hk (trips_count m c k) b g p
  have g1 := step_im (trips m c k) k hk (trips_count m c k) b g p
  rw [e2, e3, er, ei, f0] at g0
  rw [e2, e3, er, ei, f1] at g1
  unfold states hist
  rw [scan_succ]
  exact Prod.ext g0 g1

theorem trips_last (c : Dev nD) (k : ℕ) (hk : k ≤ 4096) (b : Fin 8) (g : Fin 32) (p : Fin 64) :
    (lastRe (trips m c k) b g p, lastIm (trips m c k) b g p) = states m c b g p k := by
  induction k generalizing b g p with
  | zero => rw [trips_zero]; exact Prod.ext (entry_last_re m c b g p) (entry_last_im m c b g p)
  | succ k ih =>
    have h := trips_next m c k (by omega) (fun b g p => ih (by omega) b g p) b g p
    rw [← h]
    refine Prod.ext ?_ ?_
    · show trips m c (k + 1) _ _ = _
      rw [trips_succ, STEP_main_v50_5]
      rfl
    · show trips m c (k + 1) _ _ = _
      rw [trips_succ, STEP_main_v50_6]
      rfl

/-- The stacked states: row `t` holds those after time `t`. -/
theorem trips_stack (c : Dev nD) (k : ℕ) (hk : k ≤ 4096) (t : Fin 4096) (ht : t.val < k) (b : Fin 8) (g : Fin 32) (p : Fin 64) :
    (stackRe (trips m c k) t b g p, stackIm (trips m c k) t b g p) = states m c b g p (t.val + 1) := by
  induction k with
  | zero => omega
  | succ k ih =>
    have h7 : stackRe (trips m c (k + 1)) t b g p
        = if t.val = k then (res_main_while0b_v99 (trips m c k) (ix3 b g p : S8x32x64.Idx) : EReal)
          else stackRe (trips m c k) t b g p := by
      show trips m c (k + 1) _ _ = _
      rw [trips_succ, STEP_main_v50_7]
      exact row_write _ _ _ k (by omega) (trips_count m c k) t b g p
    have h8 : stackIm (trips m c (k + 1)) t b g p
        = if t.val = k then (res_main_while0b_v107 (trips m c k) (ix3 b g p : S8x32x64.Idx) : EReal)
          else stackIm (trips m c k) t b g p := by
      show trips m c (k + 1) _ _ = _
      rw [trips_succ, STEP_main_v50_8]
      exact row_write _ _ _ k (by omega) (trips_count m c k) t b g p
    rw [h7, h8]
    by_cases h : t.val = k
    · rw [if_pos h, if_pos h, h]
      exact trips_next m c k (by omega) (fun b g p => trips_last m c k (by omega) b g p) b g p
    · rw [if_neg h, if_neg h]
      exact ih (by omega) (by omega)

end Cert.S5Reference

end
-- ==== Proof.S5Result.lean ====
/-
  What the reference's operations after its loop make of the stacked states: the branch's output.
-/
module

public import proofs.«01_k».proof.Proof.S5Reference

@[expose] public section

noncomputable section

namespace Cert.S5Result

open Cert.ReferenceIdeal Cert.ReferenceIdeal.Gen Cert.ReferenceIdeal.Value Idealize.ShloMosaic Idealize.ShloMosaic.TcCoe
open Idealize.SL.Sem Idealize.ShloMosaic.StableHlo
open Cert.S5Spec Cert.S5Layer Cert.S5Model Cert.S5Shuffle Cert.S5Loop Cert.S5Reference

set_option maxHeartbeats 2000000
set_option maxRecDepth 65536

/-- The batch row of a column of the input, and its channel. -/
def row (k : Fin 4096) : Fin 8 := ⟨k.val / 512, by omega⟩
def col (k : Fin 4096) : Fin 512 := ⟨k.val % 512, by omega⟩

/-- The weights of the output and its gate, as the contents `V0` have them. -/
def weights (V0 : Valuation τ sig (Elt Ideal)) : Params where
  lre _ _ := 0
  lim _ _ := 0
  ldt _ := 0
  bre _ _ _ := 0
  bim _ _ _ := 0
  cre g o p := V0 (Proc.devRef .tc main_arg6) (ix3 g o p : S32x16x64.Idx)
  cim g o p := V0 (Proc.devRef .tc main_arg7) (ix3 g o p : S32x16x64.Idx)
  d j := V0 (Proc.devRef .tc main_arg8) (ix1 j : S512.Idx)
  W j k := V0 (Proc.devRef .tc main_arg9) (ix2 j k : S512x512.Idx)
  bg k := V0 (Proc.devRef .tc main_arg10) (ix1 k : S512.Idx)

theorem gelu_half (z : EReal) : z * (cHalf * (1 + Ideal.tanh (cRoot * (z + cCube * (z * z * z))))) = gelu z := by
  unfold gelu
  rw [mul_comm cHalf z]
  exact (mul_assoc _ _ _).symm

theorem output_of (V0 : Valuation τ sig (Elt Ideal)) (t : Fin 4096) (k : Fin 4096) :
    out_main_v87 V0 (ix2 t k : S4096x4096.Idx)
      = out (weights V0) (fun g p => (stackRe V0 t (row k) g p, stackIm V0 t (row k) g p))
          (fun j => V0 (Proc.devRef .tc main_arg0) (ix2 t (colB (row k) j) : S4096x4096.Idx)) (col k) := by
  generalize hx : out (weights V0) (fun g p => (stackRe V0 t (row k) g p, stackIm V0 t (row k) g p))
          (fun j => V0 (Proc.devRef .tc main_arg0) (ix2 t (colB (row k) j) : S4096x4096.Idx)) (col k) = x
  pointwise [out_main_v87]
  refine Eq.trans ?_ hx
  simp only [out, glu, ← gelu_half]
  refine (?_ : @Eq EReal _ _)
  have hc : ∀ j : Fin 512, (⟨k.val / 512 * 512 + j.val, by omega⟩ : Fin 4096) = colB (row k) j := fun j =>
    Fin.ext (show k.val / 512 * 512 + j.val = 512 * (k.val / 512) + j.val by omega)
  have hk : k = colB (row k) (col k) := Fin.ext (show k.val = 512 * (k.val / 512) + k.val % 512 by omega)
  have h1 : V0 (Proc.devRef .tc main_arg0) (ix2 t k : S4096x4096.Idx) = V0 (Proc.devRef .tc main_arg0) (ix2 t (colB (row k) (col k)) : S4096x4096.Idx) :=
    congrArg (fun k => V0 (Proc.devRef .tc main_arg0) (ix2 t k : S4096x4096.Idx)) hk
  rw [h1]
  simp only [hc]
  refine congrArg₂ (fun x y : EReal => x * y) ?_ ?_
  · rfl
  · refine congrArg (fun s : EReal => Ideal.div 1 (1 + Ideal.exp (-s))) ?_
    refine congrArg₂ (fun x y : EReal => x + y) ?_ ?_
    · refine Finset.sum_congr rfl fun j _ => ?_
      rfl
    · rfl

variable (m : (ℓ : Loc nD τ sig) → Buf (Elt Ideal) ℓ)

/-- The output at time `t`: the branch on the states after it. -/
theorem output_eq (c : Dev nD) (t : Fin 4096) (k : Fin 4096) :
    out_main_v87 (trips m c 4096) (ix2 t k : S4096x4096.Idx)
      = out (params m c) (fun g p => states m c (row k) g p (t.val + 1))
          (inputAt (m ((c : Thread nD τ).loc main_arg0)) (row k) t.val) (col k) := by
  refine (output_of (trips m c 4096) t k).trans ?_
  have hs : (fun g p => (stackRe (trips m c 4096) t (row k) g p, stackIm (trips m c 4096) t (row k) g p))
      = fun g p => states m c (row k) g p (t.val + 1) :=
    funext fun g => funext fun p => trips_stack m c 4096 le_rfl t t.isLt (row k) g p
  have hu : (fun j => trips m c 4096 (Proc.devRef .tc main_arg0) (ix2 t (colB (row k) j) : S4096x4096.Idx))
      = inputAt (m ((c : Thread nD τ).loc main_arg0)) (row k) t.val := by
    funext j
    unfold inputAt
    rw [dif_pos t.isLt]
    exact congrFun (trips_arg0 m c 4096) _
  rw [hs, hu]
  unfold out glu look
  have e6 : (weights (trips m c 4096)).cre = (params m c).cre :=
    funext fun g => funext fun o => funext fun p => congrFun (trips_arg6 m c 4096) (ix3 g o p : S32x16x64.Idx)
  have e7 : (weights (trips m c 4096)).cim = (params m c).cim :=
    funext fun g => funext fun o => funext fun p => congrFun (trips_arg7 m c 4096) (ix3 g o p : S32x16x64.Idx)
  have e8 : (weights (trips m c 4096)).d = (params m c).d :=
    funext fun j => congrFun (trips_arg8 m c 4096) (ix1 j : S512.Idx)
  have e9 : (weights (trips m c 4096)).W = (params m c).W :=
    funext fun j => funext fun k => congrFun (trips_arg9 m c 4096) (ix2 j k : S512x512.Idx)
  have e10 : (weights (trips m c 4096)).bg = (params m c).bg :=
    funext fun j => congrFun (trips_arg10 m c 4096) (ix1 j : S512.Idx)
  rw [e6, e7, e8, e9, e10]

/-- The last states. -/
theorem last_re_eq (c : Dev nD) (b : Fin 8) (n : Fin 2048) :
    out_main_v88 (trips m c 4096) (ix2 b n : S8x2048.Idx) = (states m c b (grpS n) (posS n) 4096).1 := by
  generalize hx : (states m c b (grpS n) (posS n) 4096).1 = x
  pointwise [out_main_v88]
  exact (congrArg Prod.fst (trips_last m c 4096 le_rfl b (grpS n) (posS n))).trans hx

theorem last_im_eq (c : Dev nD) (b : Fin 8) (n : Fin 2048) :
    out_main_v89 (trips m c 4096) (ix2 b n : S8x2048.Idx) = (states m c b (grpS n) (posS n) 4096).2 := by
  generalize hx : (states m c b (grpS n) (posS n) 4096).2 = x
  pointwise [out_main_v89]
  exact (congrArg Prod.snd (trips_last m c 4096 le_rfl b (grpS n) (posS n))).trans hx

end Cert.S5Result

end
-- ==== Proof.S5Claim.lean ====
/-
  The first algebraic claim: the S5 kernel and its reference leave the same three arrays.
-/
module

public import proofs.«01_k».proof.Defs
public import proofs.«01_k».proof.Proof.S5Array
public import proofs.«01_k».proof.Proof.S5Host
public import proofs.«01_k».proof.Proof.S5Result

@[expose] public section

noncomputable section

namespace Cert.S5Claim

open Idealize.ShloMosaic Idealize.ShloMosaic.TcCoe Idealize.SL.Sem
open Cert.S5Layer Cert.S5Model Cert.S5Shuffle

section Kernel

open Cert.KernelIdeal Cert.KernelIdeal.Gen

variable (m : (ℓ : Loc nD τ sig) → Buf (Elt Ideal) ℓ)

/-- The kernel's states are those of the recurrence by groups. -/
theorem total_eq (c : Dev nD) (b : Fin 8) (n : Fin 2048) (k : ℕ) :
    S5Array.total m c b n k
      = hist (S5Host.params m c) (S5Array.inputAt (m ((c : Thread nD τ).loc main_arg0)) b) (grpS n) (posS n) k := by
  refine Eq.trans ?_ (state_wide (S5Host.params m c) _ n k)
  have e1 := funext (S5Host.transition_re m c)
  have e2 := funext (S5Host.transition_im m c)
  have e3 := funext fun h => funext fun k => funext fun n => S5Host.input_re m c h k n
  have e4 := funext fun h => funext fun k => funext fun n => S5Host.input_im m c h k n
  have e5 := funext fun n => congrArg₂ Prod.mk (S5Host.start m c b n) (S5Host.start m c b n)
  unfold S5Array.total
  rw [e1, e2, e3, e4, e5]

/-- The kernel's output is the branch's by groups. -/
theorem output_eq (c : Dev nD) (T : ℕ) (b : Fin 8) (o : Fin 512) :
    S5Array.output m c T b o
      = out (S5Host.params m c)
          (fun g p => hist (S5Host.params m c) (S5Array.inputAt (m ((c : Thread nD τ).loc main_arg0)) b) g p (T + 1))
          (S5Array.inputAt (m ((c : Thread nD τ).loc main_arg0)) b T) o := by
  refine Eq.trans ?_ (branch_tall (S5Host.params m c) (fun n => S5Array.total m c b n (T + 1)) _
    (fun n => total_eq m c b n (T + 1)) _ o)
  have e1 := funext fun h => funext fun n => funext fun k => S5Host.output_re m c h n k
  have e2 := funext fun h => funext fun n => funext fun k => S5Host.output_im m c h n k
  have e3 := funext (S5Host.skip m c)
  have e4 := funext fun j => funext fun k => S5Host.weight m c j k
  have e5 := funext (S5Host.offset m c)
  unfold S5Array.output
  rw [e1, e2, e3, e4, e5]

end Kernel

/-- The two programs' parameters and inputs. -/
abbrev kArgs (m : (ℓ : Loc KernelIdeal.nD KernelIdeal.τ KernelIdeal.sig) → Buf (Elt Ideal) ℓ) (c : Dev KernelIdeal.nD) :=
  S5Host.params m c
abbrev rArgs (m : (ℓ : Loc ReferenceIdeal.nD ReferenceIdeal.τ ReferenceIdeal.sig) → Buf (Elt Ideal) ℓ) (c : Dev ReferenceIdeal.nD) :=
  S5Reference.params m c

section Results

variable (m : (ℓ : Loc KernelIdeal.nD KernelIdeal.τ KernelIdeal.sig) → Buf (Elt Ideal) ℓ)
variable (m' : (ℓ : Loc ReferenceIdeal.nD ReferenceIdeal.τ ReferenceIdeal.sig) → Buf (Elt Ideal) ℓ)

variable (c : Dev KernelIdeal.nD) (hp : rArgs m' c = kArgs m c)
  (hu : ∀ b, S5Reference.inputAt (m' ((c.tc : Thread _ _).loc ReferenceIdeal.main_arg0)) b
    = S5Array.inputAt (m ((c.tc : Thread _ _).loc KernelIdeal.main_arg0)) b)

include hp hu

theorem states_same (b : Fin 8) (g : Fin 32) (p : Fin 64) (k : ℕ) :
    S5Reference.states m' c b g p k
      = hist (S5Host.params m c) (S5Array.inputAt (m ((c.tc : Thread _ _).loc KernelIdeal.main_arg0)) b) g p k := by
  unfold S5Reference.states
  rw [hu b]
  exact congrArg (fun P => hist P _ g p k) hp

theorem output_same : ReferenceIdeal.Value.out_main_v87 (S5Reference.trips m' c 4096) = S5Array.outArr m c := by
  funext i
  obtain ⟨t, k, rfl⟩ : ∃ (t k : Fin 4096), i = ix2 t k := ⟨i 0, i 1, eq_ix2 i⟩
  refine (S5Result.output_eq m' c t k).trans (Eq.trans ?_ (output_eq m c t.val (S5Array.rowB k) (S5Array.chanB k)).symm)
  have hs : (fun g p => S5Reference.states m' c (S5Result.row k) g p (t.val + 1))
      = fun g p => hist (S5Host.params m c)
          (S5Array.inputAt (m ((c.tc : Thread _ _).loc KernelIdeal.main_arg0)) (S5Array.rowB k)) g p (t.val + 1) :=
    funext fun g => funext fun p => states_same m m' c hp hu _ g p _
  rw [hs, hu]
  exact congrArg (fun P => out P _ _ _) hp

theorem re_same : ReferenceIdeal.Value.out_main_v88 (S5Reference.trips m' c 4096) = S5Array.reArr m c := by
  funext i
  obtain ⟨b, n, rfl⟩ : ∃ (b : Fin 8) (n : Fin 2048), i = ix2 b n := ⟨i 0, i 1, eq_ix2 i⟩
  refine (S5Result.last_re_eq m' c b n).trans ?_
  rw [states_same m m' c hp hu]
  exact congrArg Prod.fst (total_eq m c b n 4096).symm

theorem im_same : ReferenceIdeal.Value.out_main_v89 (S5Reference.trips m' c 4096) = S5Array.imArr m c := by
  funext i
  obtain ⟨b, n, rfl⟩ : ∃ (b : Fin 8) (n : Fin 2048), i = ix2 b n := ⟨i 0, i 1, eq_ix2 i⟩
  refine (S5Result.last_im_eq m' c b n).trans ?_
  rw [states_same m m' c hp hu]
  exact congrArg Prod.snd (total_eq m c b n 4096).symm

end Results

theorem algebraic : algebraic_KernelIdeal_ReferenceIdeal (hKernelIdeal := KernelIdeal.Gen.facts) (hReferenceIdeal := ReferenceIdeal.Gen.facts) :=
  fun m g m' g' _ hag => ⟨fun c => S5Array.outArr m c, fun c => S5Array.reArr m c, fun c => S5Array.imArr m c,
    S5Array.run m g,
    (θ_run _ _ _).mono (fun _ h c => by
      obtain ⟨e0, e1, e2, e3, e4, e5, e6, e7, e8, e9, e10⟩ := hag c
      have hu : ∀ b, S5Reference.inputAt (m' ((c.tc : Thread _ _).loc ReferenceIdeal.main_arg0)) b
          = S5Array.inputAt (m ((c.tc : Thread _ _).loc KernelIdeal.main_arg0)) b := fun b => by
        rw [e0]
        rfl
      have hp : rArgs m' c = kArgs m c := by
        unfold rArgs kArgs S5Reference.params S5Host.params
        rw [e1, e2, e3, e4, e5, e6, e7, e8, e9, e10]
      exact ⟨(h c).1.trans ((congrArg ReferenceIdeal.Value.out_main_v87 (S5Reference.trips_eq m' c 4096)).trans
          (output_same m m' c hp hu)),
        (h c).2.1.trans ((congrArg ReferenceIdeal.Value.out_main_v88 (S5Reference.trips_eq m' c 4096)).trans
          (re_same m m' c hp hu)),
        (h c).2.2.1.trans ((congrArg ReferenceIdeal.Value.out_main_v89 (S5Reference.trips_eq m' c 4096)).trans
          (im_same m m' c hp hu)),
        (h c).2.2.2⟩) (ReferenceIdeal.Value.run m' g')⟩

end Cert.S5Claim

end
-- ==== Proof.FfnSpec.lean ====
/-
  The feed-forward half of the layer as mathematics over the extended reals, one row at a time: a gated pair of
  projections (SwiGLU), the residual sum `α·x + ½·ffn(x)`, and a layer norm over the row. Both programs of the second
  algebraic claim are shown to compute `ffnOut`. A row `x` has 1024 entries, the hidden layer 2816.
-/
module

public import Idealize.ShloMosaic.PureOps.Ideal.Laws

@[expose] public section

noncomputable section

namespace Cert.FfnSpec

open Idealize.ShloMosaic

/-- The residual scale `α` (the binary32 number nearest to the square root of 2). -/
abbrev cAlpha : EReal := Ideal.ofBits .f32 0x3FB504F3#32
/-- The weight ½ of the feed-forward branch. -/
abbrev cHalf : EReal := Ideal.ofBits .f32 0x3F000000#32
/-- The length 1024 of a row. -/
abbrev cLen : EReal := Ideal.ofBits .f32 0x44800000#32
/-- The layer norm's ε. -/
abbrev cEps : EReal := Ideal.ofBits .f32 0x3727C5AC#32

/-- A row times column `j` of a matrix. -/
def proj {K N : Nat} (x : Fin K → EReal) (w : Fin K → Fin N → EReal) (j : Fin N) : EReal := ∑ k, x k * w k j

/-- `z · σ(z)`. -/
def silu (z : EReal) : EReal := z * Ideal.div 1 (1 + Ideal.exp (-z))

/-- The hidden layer: the gate's silu times the up-projection. -/
def gated (x : Fin 1024 → EReal) (wg wu : Fin 1024 → Fin 2816 → EReal) (h : Fin 2816) : EReal :=
  silu (proj x wg h) * proj x wu h

/-- The residual sum before the norm. -/
def resid (x : Fin 1024 → EReal) (wg wu : Fin 1024 → Fin 2816 → EReal) (wd : Fin 2816 → Fin 1024 → EReal)
    (o : Fin 1024) : EReal :=
  cAlpha * x o + cHalf * proj (gated x wg wu) wd o

/-- A row's mean. -/
def mean (v : Fin 1024 → EReal) : EReal := Ideal.div (∑ k, v k) cLen

/-- The layer norm of a row, scaled by `g` and shifted by `b`. -/
def layerNorm (v g b : Fin 1024 → EReal) (o : Fin 1024) : EReal :=
  (v o - mean v) * Ideal.rsqrt (mean (fun k => (v k - mean v) * (v k - mean v)) + cEps) * g o + b o

/-- The whole feed-forward half on a row. -/
def ffnOut (x : Fin 1024 → EReal) (wg wu : Fin 1024 → Fin 2816 → EReal) (wd : Fin 2816 → Fin 1024 → EReal)
    (g b : Fin 1024 → EReal) (o : Fin 1024) : EReal :=
  layerNorm (resid x wg wu wd) g b o

end Cert.FfnSpec

end
-- ==== Proof.FfnBlock.lean ====
/-
  What one grid point of the feed-forward kernel computes: row `r` of its block of 512 rows is `FfnSpec.ffnOut` of row `r`
  of the input block.
-/
module

public import proofs.«01_k».proof.Proof.Gen.Kernel2Ideal.Value
public import proofs.«01_k».proof.Proof.FfnSpec
public import Idealize.ShloMosaic.Lib.Pointwise

@[expose] public section

noncomputable section

namespace Cert.FfnBlock

open Cert.Kernel2Ideal Cert.Kernel2Ideal.Gen Cert.FfnSpec Idealize.ShloMosaic Idealize.ShloMosaic.TcCoe

/-- The residual sum of a block, read at row `r`, column `o`. -/
theorem resid_apply (x : Vec Ideal S512x1024 .f32) (wg wu : Vec Ideal S1024x2816 .bf16) (wd : Vec Ideal S2816x1024 .bf16)
    (r : Fin 512) (o : Fin 1024) :
    k0_pay2 x wg wu wd (ix2 r o)
      = resid (fun k => x (ix2 r k)) (fun k h => wg (ix2 k h)) (fun k h => wu (ix2 k h)) (fun h k => wd (ix2 h k)) o := by
  pointwise [k0_pay2]
  simp only [resid, proj, gated, silu, zero_sub]

/-- The stored block, read at row `r`, column `o`. -/
theorem block_apply (x : Vec Ideal S512x1024 .f32) (wg wu : Vec Ideal S1024x2816 .bf16) (wd : Vec Ideal S2816x1024 .bf16)
    (g b : Vec Ideal S1x1024 .f32) (r : Fin 512) (o : Fin 1024) :
    k0_pay1 (k0_pay2 x wg wu wd) (k0_pay3 g) (k0_pay4 b) (k0_pay5 x wg wu wd) (ix2 r o)
      = ffnOut (fun k => x (ix2 r k)) (fun k h => wg (ix2 k h)) (fun k h => wu (ix2 k h)) (fun h k => wd (ix2 h k))
          (fun k => g (ix2 0 k)) (fun k => b (ix2 0 k)) o := by
  unfold k0_pay1 k0_pay5 k0_pay3 k0_pay4
  have hr := resid_apply x wg wu wd
  generalize k0_pay2 x wg wu wd = v at hr ⊢
  pointwise
  simp only [hr, ffnOut, layerNorm, mean]

end Cert.FfnBlock

end
-- ==== Proof.FfnArray.lean ====
/-
  The array the feed-forward kernel leaves: row `r` is `FfnSpec.ffnOut` of row `r` of the argument. The grid's 64 points
  each write one block of 512 rows; the weights' blocks are the whole arrays, which the host prepared from the arguments
  (the two halves of the stacked gate and up matrix).
-/
module

public import proofs.«01_k».proof.Proof.FfnBlock

@[expose] public section

noncomputable section

namespace Cert.FfnArray

open Cert.Kernel2Ideal Cert.Kernel2Ideal.Gen Cert.FfnSpec Idealize.ShloMosaic Idealize.ShloMosaic.TcCoe Idealize.SL.Sem
open Idealize.ShloMosaic.Pipeline (Dat)

/-- The result array as one function of the five argument arrays. -/
def ffnArr (x : FVec Ideal S32768x1024 .f32) (w : FVec Ideal S1024x5632 .f32) (wd : FVec Ideal S2816x1024 .f32)
    (g b : FVec Ideal S1024 .f32) : FVec Ideal S32768x1024 .f32 := fun i =>
  ffnOut (fun k => x (ix2 (i 0) k)) (fun k h => w (ix2 k ⟨h.val, by omega⟩)) (fun k h => w (ix2 k ⟨2816 + h.val, by omega⟩))
    (fun h k => wd (ix2 h k)) (fun k => g (ix1 k)) (fun k => b (ix1 k)) (i 1)

variable (m : (ℓ : Loc nD τ sig) → Buf (Elt Ideal) ℓ)

/-! ### What the host hands the kernel -/

theorem V_gate (c : Dev nD) : V m c main_v2 = extractStridedSlice S1024x2816 ![0, 0] (m ((c : Thread nD τ).loc main_arg1)) slices_S1024x5632_S1024x2816_0_0 := by
  simp only [V, hostOps0]
  after_results_simp
  rfl

theorem V_up (c : Dev nD) : V m c main_v3 = extractStridedSlice S1024x2816 ![0, 2816] (m ((c : Thread nD τ).loc main_arg1)) slices_S1024x5632_S1024x2816_0_2816 := by
  simp only [V, hostOps0]
  after_results_simp
  rfl

theorem V_down (c : Dev nD) : V m c main_v4 = m ((c : Thread nD τ).loc main_arg2) := by
  simp only [V, hostOps0]
  after_results_simp
  rfl

theorem V_scale (c : Dev nD) : V m c main_v5 = shapeCast S1x1024 (m ((c : Thread nD τ).loc main_arg3)) shapeCasts_S1024_S1x1024 := by
  simp only [V, hostOps0]
  after_results_simp
  rfl

theorem V_shift (c : Dev nD) : V m c main_v6 = shapeCast S1x1024 (m ((c : Thread nD τ).loc main_arg4)) shapeCasts_S1024_S1x1024 := by
  simp only [V, hostOps0]
  after_results_simp
  rfl

/-! ### The blocks at a grid point -/

/-- Point `t`'s block of rows starts at row `512 t` in the input and in the result; every other window stays at its
    whole array. -/
theorem index_facts : ∀ t : Fin cfg0.N, win0_0.index t 0 = t.val ∧ win0_0.index t 1 = 0 ∧ win0_6.index t 0 = t.val ∧ win0_6.index t 1 = 0
    ∧ win0_1.index t 0 = 0 ∧ win0_1.index t 1 = 0 ∧ win0_2.index t 0 = 0 ∧ win0_2.index t 1 = 0 ∧ win0_3.index t 0 = 0 ∧ win0_3.index t 1 = 0
    ∧ win0_4.index t 0 = 0 ∧ win0_4.index t 1 = 0 ∧ win0_5.index t 0 = 0 ∧ win0_5.index t 1 = 0 :=
  (by decide +kernel : ∀ t : Fin grid0.N, win0_0.index t 0 = t.val ∧ win0_0.index t 1 = 0 ∧ win0_6.index t 0 = t.val ∧ win0_6.index t 1 = 0
    ∧ win0_1.index t 0 = 0 ∧ win0_1.index t 1 = 0 ∧ win0_2.index t 0 = 0 ∧ win0_2.index t 1 = 0 ∧ win0_3.index t 0 = 0 ∧ win0_3.index t 1 = 0
    ∧ win0_4.index t 0 = 0 ∧ win0_4.index t 1 = 0 ∧ win0_5.index t 0 = 0 ∧ win0_5.index t 1 = 0)

theorem point_lt (t : Fin cfg0.N) : t.val < 64 := lt_of_lt_of_eq t.isLt N_0

/-- The row of the array under row `r` of point `t`'s block. -/
abbrev rowOf (t : Fin cfg0.N) (r : Fin 512) : Fin 32768 := ⟨512 * t.val + r.val, by have := point_lt t; omega⟩

theorem rows_block (c : Dev nD) (t : Fin cfg0.N) (r : Fin 512) (k : Fin 1024) :
    (iblk m c 0 t : Vec Ideal S512x1024 .f32) (ix2 r k) = m ((c : Thread nD τ).loc main_arg0) (ix2 (rowOf t r) k) := by
  obtain ⟨h0, h1, -⟩ := index_facts t
  show V m c main_arg0 (((cfg0.win 0).blk t).view.emb (ix2 r k)) = _
  rw [V_main_arg0]
  refine congrArg _ (funext fun a => Fin.ext ?_)
  match a with
  | ⟨0, _⟩ => show win0_0.index t 0 * 512 + 1 * r.val = 512 * t.val + r.val; rw [h0]; omega
  | ⟨1, _⟩ => show win0_0.index t 1 * 1024 + 1 * k.val = k.val; rw [h1]; omega

theorem gate_block (c : Dev nD) (t : Fin cfg0.N) (k : Fin 1024) (h : Fin 2816) :
    (iblk m c 1 t : Vec Ideal S1024x2816 .bf16) (ix2 k h) = m ((c : Thread nD τ).loc main_arg1) (ix2 k ⟨h.val, by omega⟩) := by
  obtain ⟨-, -, -, -, h0, h1, -⟩ := index_facts t
  have e : ((cfg0.win 1).blk t).view.emb (ix2 k h) = (ix2 k h : S1024x2816.Idx) := funext fun a => Fin.ext (by
    match a with
    | ⟨0, _⟩ => show win0_1.index t 0 * 1024 + 1 * k.val = k.val; rw [h0]; omega
    | ⟨1, _⟩ => show win0_1.index t 1 * 2816 + 1 * h.val = h.val; rw [h1]; omega)
  show V m c main_v2 (((cfg0.win 1).blk t).view.emb (ix2 k h)) = _
  rw [e, V_gate]
  pointwise

theorem up_block (c : Dev nD) (t : Fin cfg0.N) (k : Fin 1024) (h : Fin 2816) :
    (iblk m c 2 t : Vec Ideal S1024x2816 .bf16) (ix2 k h) = m ((c : Thread nD τ).loc main_arg1) (ix2 k ⟨2816 + h.val, by omega⟩) := by
  obtain ⟨-, -, -, -, -, -, h0, h1, -⟩ := index_facts t
  have e : ((cfg0.win 2).blk t).view.emb (ix2 k h) = (ix2 k h : S1024x2816.Idx) := funext fun a => Fin.ext (by
    match a with
    | ⟨0, _⟩ => show win0_2.index t 0 * 1024 + 1 * k.val = k.val; rw [h0]; omega
    | ⟨1, _⟩ => show win0_2.index t 1 * 2816 + 1 * h.val = h.val; rw [h1]; omega)
  show V m c main_v3 (((cfg0.win 2).blk t).view.emb (ix2 k h)) = _
  rw [e, V_up]
  pointwise

theorem down_block (c : Dev nD) (t : Fin cfg0.N) (h : Fin 2816) (k : Fin 1024) :
    (iblk m c 3 t : Vec Ideal S2816x1024 .bf16) (ix2 h k) = m ((c : Thread nD τ).loc main_arg2) (ix2 h k) := by
  obtain ⟨-, -, -, -, -, -, -, -, h0, h1, -⟩ := index_facts t
  have e : ((cfg0.win 3).blk t).view.emb (ix2 h k) = (ix2 h k : S2816x1024.Idx) := funext fun a => Fin.ext (by
    match a with
    | ⟨0, _⟩ => show win0_3.index t 0 * 2816 + 1 * h.val = h.val; rw [h0]; omega
    | ⟨1, _⟩ => show win0_3.index t 1 * 1024 + 1 * k.val = k.val; rw [h1]; omega)
  show V m c main_v4 (((cfg0.win 3).blk t).view.emb (ix2 h k)) = _
  rw [e, V_down]

theorem scale_block (c : Dev nD) (t : Fin cfg0.N) (k : Fin 1024) :
    (iblk m c 4 t : Vec Ideal S1x1024 .f32) (ix2 0 k) = m ((c : Thread nD τ).loc main_arg3) (ix1 k) := by
  obtain ⟨-, -, -, -, -, -, -, -, -, -, h0, h1, -⟩ := index_facts t
  have e : ((cfg0.win 4).blk t).view.emb (ix2 0 k) = (ix2 0 k : S1x1024.Idx) := funext fun a => Fin.ext (by
    match a with
    | ⟨0, _⟩ => show win0_4.index t 0 * 1 + 1 * 0 = 0; rw [h0]
    | ⟨1, _⟩ => show win0_4.index t 1 * 1024 + 1 * k.val = k.val; rw [h1]; omega)
  show V m c main_v5 (((cfg0.win 4).blk t).view.emb (ix2 0 k)) = _
  rw [e, V_scale]
  pointwise

theorem shift_block (c : Dev nD) (t : Fin cfg0.N) (k : Fin 1024) :
    (iblk m c 5 t : Vec Ideal S1x1024 .f32) (ix2 0 k) = m ((c : Thread nD τ).loc main_arg4) (ix1 k) := by
  obtain ⟨-, -, -, -, -, -, -, -, -, -, -, -, h0, h1⟩ := index_facts t
  have e : ((cfg0.win 5).blk t).view.emb (ix2 0 k) = (ix2 0 k : S1x1024.Idx) := funext fun a => Fin.ext (by
    match a with
    | ⟨0, _⟩ => show win0_5.index t 0 * 1 + 1 * 0 = 0; rw [h0]
    | ⟨1, _⟩ => show win0_5.index t 1 * 1024 + 1 * k.val = k.val; rw [h1]; omega)
  show V m c main_v6 (((cfg0.win 5).blk t).view.emb (ix2 0 k)) = _
  rw [e, V_shift]
  pointwise

/-! ### The array -/

/-- The result, from core `c`'s arguments. -/
abbrev result (c : Dev nD) : Buf (Elt Ideal) ((c : Thread nD τ).loc main_v7) :=
  ffnArr (m ((c : Thread nD τ).loc main_arg0)) (m ((c : Thread nD τ).loc main_arg1)) (m ((c : Thread nD τ).loc main_arg2))
    (m ((c : Thread nD τ).loc main_arg3)) (m ((c : Thread nD τ).loc main_arg4))

theorem zero_offsets : (![0, 0] : Fin 2 → Nat) = fun _ => 0 := funext fun a => by fin_cases a <;> rfl

/-- The place in the result array of row `r`, column `o` of the block point `t` writes. -/
theorem result_place (t : Fin cfg0.N) (r : Fin 512) (o : Fin 1024) :
    ((cfg0.win 6).blk t).view.emb (ix2 r o : S512x1024.Idx) = (ix2 (rowOf t r) o : S32768x1024.Idx) := by
  obtain ⟨-, -, h0, h1, -⟩ := index_facts t
  refine funext fun a => Fin.ext ?_
  match a with
  | ⟨0, _⟩ => show win0_6.index t 0 * 512 + 1 * r.val = 512 * t.val + r.val; rw [h0]; omega
  | ⟨1, _⟩ => show win0_6.index t 1 * 1024 + 1 * o.val = o.val; rw [h1]; omega

/-- What point `t` writes back is its block of the result. -/
theorem flushed_eq (c : Dev nD) (t : Fin cfg0.N) :
    (dats m 0 c).flushed 6 t = ((cfg0.win 6).blk t).view.read (Elt Ideal) (result m c) := by
  show (cfg0.win 6).cut (grid0.coords t) ((dats m 0 c).after 6 t) = _
  rw [after0_6]
  unfold out0_6
  rw [View.canon_unit_zero zero_offsets]
  simp only [View.ld_unit_zero (S := S512x1024) zero_offsets, View.ld_unit_zero (S := S1024x2816) zero_offsets,
    View.ld_unit_zero (S := S2816x1024) zero_offsets, View.ld_unit_zero (S := S1x1024) zero_offsets]
  refine funext fun (y : S512x1024.Idx) => ?_
  obtain ⟨r, o, rfl⟩ : ∃ (r : Fin 512) (o : Fin 1024), y = ix2 r o := ⟨y 0, y 1, eq_ix2 y⟩
  refine (FfnBlock.block_apply _ _ _ _ _ _ r o).trans ?_
  show _ = result m c (((cfg0.win 6).blk t).view.emb (ix2 r o : S512x1024.Idx))
  rw [result_place t r o]
  simp only [rows_block, gate_block, up_block, down_block, scale_block, shift_block]
  rfl

/-- The 64 blocks cover the result array, so it ends as `ffnArr` of the arguments. -/
theorem final (c : Dev nD) : (dats m 0 c).arrAt 6 cfg0.N = result m c :=
  (dats m 0 c).arrAt_eq_of_cover 6 (result m c) (fun t _ => flushed_eq m c t) fun i => by
    obtain ⟨R, o, rfl⟩ : ∃ (R : Fin 32768) (o : Fin 1024), i = ix2 R o := ⟨i 0, i 1, eq_ix2 i⟩
    refine ⟨⟨R.val / 512, lt_of_lt_of_eq (by omega) N_0.symm⟩, flush0_6 _, ?_⟩
    have e := result_place ⟨R.val / 512, lt_of_lt_of_eq (by omega) N_0.symm⟩ ⟨R.val % 512, by omega⟩ o
    have hR : rowOf ⟨R.val / 512, lt_of_lt_of_eq (by omega) N_0.symm⟩ ⟨R.val % 512, by omega⟩ = R := Fin.ext (by show 512 * (R.val / 512) + R.val % 512 = R.val; omega)
    rw [hR] at e
    rw [← e]
    exact View.emb_mem_set _ _

/-- The run: the result array at `ffnArr` of the arguments, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Value.run_blocks m ρ)

end Cert.FfnArray

end
-- ==== Proof.FfnReference.lean ====
/-
  The reference of the second algebraic claim computes `FfnSpec.ffnOut` on every row.
-/
module

public import proofs.«01_k».proof.Proof.Gen.Reference2Ideal.Read
public import proofs.«01_k».proof.Proof.FfnSpec
public import Idealize.ShloMosaic.Lib.Pointwise

@[expose] public section

noncomputable section

namespace Cert.FfnReference

open Cert.Reference2Ideal Cert.Reference2Ideal.Gen Cert.Reference2Ideal.Read Cert.FfnSpec Idealize.ShloMosaic Idealize.ShloMosaic.TcCoe

variable (x : FVec Ideal S32768x1024 .f32) (w : FVec Ideal S1024x5632 .f32) (wd : FVec Ideal S2816x1024 .f32)
  (g b : FVec Ideal S1024 .f32)

/-- The sum the layer norm is taken of. -/
theorem resid_apply (r : Fin 32768) (o : Fin 1024) :
    val_main_v10 (F := Ideal) x w wd (ix2 r o)
      = resid (fun k => x (ix2 r k)) (fun k h => w (ix2 k ⟨h.val, by omega⟩)) (fun k h => w (ix2 k ⟨2816 + h.val, by omega⟩))
          (fun h k => wd (ix2 h k)) o := by
  pointwise [val_main_v10, val_main_v9, val_main_v8, val_main_cst_0, val_main_v7, val_main_v6, val_main_v5, val_main_call0_v5,
    val_main_call0_v4, val_main_call0_cst_0, val_main_call0_v3, val_main_call0_v2, val_main_call0_cst, val_main_call0_v1,
    val_main_call0_v0, val_main_v4, val_main_v3, val_main_v2, val_main_v1, val_main_v0, val_main_cst]
  simp only [resid, proj, gated, silu]

/-- The reference's result, read at row `r`, column `o`. -/
theorem result_apply (r : Fin 32768) (o : Fin 1024) :
    val_main_v34 (F := Ideal) x w wd g b (ix2 r o)
      = ffnOut (fun k => x (ix2 r k)) (fun k h => w (ix2 k ⟨h.val, by omega⟩)) (fun k h => w (ix2 k ⟨2816 + h.val, by omega⟩))
          (fun h k => wd (ix2 h k)) (fun k => g (ix1 k)) (fun k => b (ix1 k)) o := by
  unfold val_main_v34 val_main_v31 val_main_v28 val_main_v27 val_main_v26 val_main_v25 val_main_v23 val_main_v22 val_main_v21
    val_main_v19 val_main_v18 val_main_v17 val_main_v16 val_main_v15 val_main_v14 val_main_v12 val_main_v11
  have hr := resid_apply x w wd
  generalize val_main_v10 (F := Ideal) x w wd = v at hr ⊢
  pointwise [val_main_v33, val_main_v32, val_main_v30, val_main_v29, val_main_v24, val_main_cst_5, val_main_v20, val_main_cst_4,
    val_main_cst_3, val_main_v13, val_main_cst_2, val_main_cst_1]
  simp only [hr, ffnOut, layerNorm, mean]

end Cert.FfnReference

end
-- ==== Proof.FfnClaim.lean ====
/-
  The second algebraic claim: the feed-forward kernel and its reference leave the same array.
-/
module

public import proofs.«01_k».proof.Defs
public import proofs.«01_k».proof.Proof.FfnArray
public import proofs.«01_k».proof.Proof.FfnReference
public import proofs.«01_k».proof.Proof.Gen.Reference2Ideal

@[expose] public section

noncomputable section

namespace Cert.FfnClaim

open Idealize.ShloMosaic Idealize.ShloMosaic.TcCoe Idealize.SL.Sem

/-- The reference's result is the same function of the arguments as the kernel's. -/
theorem reference_eq (m : (ℓ : Loc Reference2Ideal.nD Reference2Ideal.τ Reference2Ideal.sig) → Buf (Elt Ideal) ℓ) (c : Dev Reference2Ideal.nD) :
    Reference2Ideal.Value.res_out0 m c
      = FfnArray.ffnArr (m ((c.tc : Thread _ _).loc Reference2Ideal.main_arg0)) (m ((c.tc : Thread _ _).loc Reference2Ideal.main_arg1))
          (m ((c.tc : Thread _ _).loc Reference2Ideal.main_arg2)) (m ((c.tc : Thread _ _).loc Reference2Ideal.main_arg3))
          (m ((c.tc : Thread _ _).loc Reference2Ideal.main_arg4)) := by
  refine (Reference2Ideal.Read.val_main_v34_eq m c).trans (funext fun i => ?_)
  obtain ⟨r, o, rfl⟩ : ∃ (r : Fin 32768) (o : Fin 1024), i = ix2 r o := ⟨i 0, i 1, eq_ix2 i⟩
  exact FfnReference.result_apply _ _ _ _ _ r o

theorem algebraic : algebraic_Kernel2Ideal_Reference2Ideal (hKernel2Ideal := Kernel2Ideal.Gen.facts) (hReference2Ideal := Reference2Ideal.Gen.facts) :=
  fun m g m' g' _ hag => ⟨fun c => FfnArray.result m c,
    FfnArray.run m g,
    (θ_run _ _ _).mono (fun _ h c => by
      obtain ⟨e0, e1, e2, e3, e4⟩ := hag c
      refine ⟨(h c).1.trans ((reference_eq m' c).trans ?_), (h c).2⟩
      rw [e0, e1, e2, e3, e4]) (Reference2Ideal.Value.run m' g')⟩

end Cert.FfnClaim

end
-- ==== Proof.MergeSpec.lean ====
/-
  The merge of the three mixers as mathematics over the extended reals, one row at a time: three gates from the row,
  each times one mixer's projection, their sum through the output projection, the residual sum, and a layer norm.
-/
module

public import proofs.«01_k».proof.Proof.FfnSpec

@[expose] public section

noncomputable section

namespace Cert.MergeSpec

open Idealize.ShloMosaic Cert.FfnSpec

/-- The logistic function. -/
def sigmoid (z : EReal) : EReal := Ideal.div 1 (1 + Ideal.exp (-z))

/-- The gated sum of the projections `pa`, `pb`, `pc` of the mixers; `wg` holds the columns of the three gates. -/
def merged (x : Fin 1024 → EReal) (wg : Fin 1024 → Fin 3072 → EReal) (pa pb pc : Fin 1024 → EReal) (k : Fin 1024) : EReal :=
  sigmoid (proj x wg ⟨k.val, by omega⟩) * pa k + sigmoid (proj x wg ⟨1024 + k.val, by omega⟩) * pb k
    + sigmoid (proj x wg ⟨2048 + k.val, by omega⟩) * pc k

/-- The whole merge on a row. -/
def mergeOut (x : Fin 1024 → EReal) (wg : Fin 1024 → Fin 3072 → EReal) (pa pb pc : Fin 1024 → EReal)
    (wo : Fin 1024 → Fin 1024 → EReal) (g b : Fin 1024 → EReal) (o : Fin 1024) : EReal :=
  layerNorm (fun o => cAlpha * x o + proj (merged x wg pa pb pc) wo o) g b o

/-- Where channel `j` of the attention's 512 lies among the 1024 lanes: a head has 128 lanes, of which the first four
    heads use the lower 64 and the last four the upper 64. -/
def lane (j : Fin 512) : Fin 1024 := ⟨128 * (j.val / 64) + 64 * (j.val / 256) + j.val % 64, by omega⟩

/-- The attention's projection, zero on the unused lanes. -/
def padded (w : Fin 512 → Fin 1024 → EReal) (n k : Fin 1024) : EReal :=
  if n.val / 64 % 2 = n.val / 512 then w ⟨64 * (n.val / 128) + n.val % 64, by omega⟩ k else 0

theorem lane_used : ∀ j : Fin 512, (lane j).val / 64 % 2 = (lane j).val / 512
    ∧ 64 * ((lane j).val / 128) + (lane j).val % 64 = j.val := by
  decide +kernel

theorem lane_of : ∀ n : Fin 1024, n.val / 64 % 2 = n.val / 512 → lane ⟨64 * (n.val / 128) + n.val % 64, by omega⟩ = n := by
  decide +kernel

theorem padded_lane (w : Fin 512 → Fin 1024 → EReal) (j : Fin 512) (k : Fin 1024) : padded w (lane j) k = w j k := by
  unfold padded
  rw [if_pos (lane_used j).1]
  exact congrArg (fun j => w j k) (Fin.ext (lane_used j).2)

/-- The sum over all lanes is the sum over the channels. -/
theorem proj_padded (y : Fin 1024 → EReal) (w : Fin 512 → Fin 1024 → EReal) (k : Fin 1024) :
    proj y (padded w) k = proj (fun j => y (lane j)) w k := by
  unfold proj
  symm
  refine Finset.sum_of_injOn lane ?_ ?_ ?_ ?_
  · intro i _ j _ e
    have h : 128 * (i.val / 64) + 64 * (i.val / 256) + i.val % 64 = 128 * (j.val / 64) + 64 * (j.val / 256) + j.val % 64 :=
      congrArg Fin.val e
    exact Fin.ext (by omega)
  · exact fun _ _ => Finset.mem_coe.mpr (Finset.mem_univ _)
  · intro n _ hn
    have hne : ¬ n.val / 64 % 2 = n.val / 512 := by
      intro e
      refine hn ⟨⟨64 * (n.val / 128) + n.val % 64, by omega⟩, Finset.mem_coe.mpr (Finset.mem_univ _), lane_of n e⟩
    unfold padded
    rw [if_neg hne, mul_zero]
  · intro j _
    rw [padded_lane]

end Cert.MergeSpec

end
-- ==== Proof.MergeBlock.lean ====
/-
  What one grid point of the merge kernel computes: row `r` of its block of 512 rows is `MergeSpec.mergeOut` of row `r` of
  the input blocks.
-/
module

public import proofs.«01_k».proof.Proof.Gen.Kernel3Ideal.Value
public import proofs.«01_k».proof.Proof.MergeSpec
public import Idealize.ShloMosaic.Lib.Pointwise

@[expose] public section

noncomputable section

namespace Cert.MergeBlock

open Cert.Kernel3Ideal Cert.Kernel3Ideal.Gen Cert.FfnSpec Cert.MergeSpec Idealize.ShloMosaic Idealize.ShloMosaic.TcCoe

/-- The first mixer's gated projection. -/
theorem first_apply (x : Vec Ideal S1x512x1024 .f32) (w : Vec Ideal S1024x1024 .bf16) (y : Vec Ideal S512x512 .bf16)
    (wa : Vec Ideal S512x1024 .bf16) (r : Fin 512) (o : Fin 1024) :
    k0_pay4 x w y wa (ix2 r o)
      = sigmoid (proj (fun k => x (ix3 0 r k)) (fun k h => w (ix2 k h)) o) * proj (fun j => y (ix2 r j)) (fun j k => wa (ix2 j k)) o := by
  pointwise [k0_pay4, k0_pay3, k0_pay2]
  simp only [sigmoid, proj, zero_sub]

/-- The second mixer's gate. -/
theorem gate_apply (x : Vec Ideal S1x512x1024 .f32) (w : Vec Ideal S1024x1024 .bf16) (r : Fin 512) (o : Fin 1024) :
    k0_pay5 x w (ix2 r o) = sigmoid (proj (fun k => x (ix3 0 r k)) (fun k h => w (ix2 k h)) o) := by
  pointwise [k0_pay5, k0_pay3, k0_pay2]
  simp only [sigmoid, proj, zero_sub]

/-- The residual sum less its row's mean, from the first mixer's part `a` and the second's gate `gb`. -/
theorem centred_apply (x : Vec Ideal S1x512x1024 .f32) (a gb : FVec Ideal S512x1024 .f32) (yb : Vec Ideal S1x512x1024 .bf16)
    (wb wc wo : Vec Ideal S1024x1024 .bf16) (yc : Vec Ideal S1x512x512 .bf16) (wyc : Vec Ideal S512x1024 .bf16)
    (v : Fin 1024 → EReal) (r : Fin 512)
    (hv : ∀ o, v o = cAlpha * x (ix3 0 r o) + ∑ k : Fin 1024, (a (ix2 r k)
        + gb (ix2 r k) * proj (fun j => yb (ix3 0 r j)) (fun j k => wb (ix2 j k)) k
        + sigmoid (proj (fun k => x (ix3 0 r k)) (fun k h => wc (ix2 k h)) k)
          * proj (fun j => yc (ix3 0 r j)) (fun j k => wyc (ix2 j k)) k) * wo (ix2 k o)) (o : Fin 1024) :
    k0_pay10 (k0_pay2 x) (k0_pay3 x) a gb (k0_pay6 yb) (k0_pay7 wb) (constant S512x1024 .f32 0x00000000#32) wc yc wyc wo (ix2 r o)
      = v o - mean v := by
  pointwise [k0_pay10, k0_pay7, k0_pay6, k0_pay3, k0_pay2]
  simp only [hv, mean, sigmoid, proj, zero_sub]

/-- The stored block, read at row `r`, column `o`. -/
theorem block_apply (x : Vec Ideal S1x512x1024 .f32) (ya : Vec Ideal S512x512 .bf16) (yb : Vec Ideal S1x512x1024 .bf16)
    (yc : Vec Ideal S1x512x512 .bf16) (w0 w1 w2 : Vec Ideal S1024x1024 .bf16) (wa : Vec Ideal S512x1024 .bf16)
    (wb : Vec Ideal S1024x1024 .bf16) (wc : Vec Ideal S512x1024 .bf16) (wo : Vec Ideal S1024x1024 .bf16)
    (g b : Vec Ideal S1x1024 .f32) (wg : Fin 1024 → Fin 3072 → EReal)
    (h0 : ∀ k h, w0 (ix2 k h) = wg k ⟨h.val, by omega⟩) (h1 : ∀ k h, w1 (ix2 k h) = wg k ⟨1024 + h.val, by omega⟩)
    (h2 : ∀ k h, w2 (ix2 k h) = wg k ⟨2048 + h.val, by omega⟩) (r : Fin 512) (o : Fin 1024) :
    k0_pay1 (k0_pay8 g) (k0_pay9 b)
        (k0_pay10 (k0_pay2 x) (k0_pay3 x) (k0_pay4 x w0 ya wa) (k0_pay5 x w1) (k0_pay6 yb) (k0_pay7 wb)
          (constant S512x1024 .f32 0x00000000#32) w2 yc wc wo)
        (k0_pay11 (k0_pay2 x) (k0_pay3 x) (k0_pay4 x w0 ya wa) (k0_pay5 x w1) (k0_pay6 yb) (k0_pay7 wb)
          (constant S512x1024 .f32 0x00000000#32) w2 yc wc wo) (ix3 0 r o)
      = mergeOut (fun k => x (ix3 0 r k)) wg
          (proj (fun j => ya (ix2 r j)) (fun j k => wa (ix2 j k))) (proj (fun j => yb (ix3 0 r j)) (fun j k => wb (ix2 j k)))
          (proj (fun j => yc (ix3 0 r j)) (fun j k => wc (ix2 j k))) (fun k n => wo (ix2 k n)) (fun k => g (ix2 0 k))
          (fun k => b (ix2 0 k)) o := by
  unfold k0_pay1 k0_pay11 k0_pay8 k0_pay9
  have hr := centred_apply x (k0_pay4 x w0 ya wa) (k0_pay5 x w1) yb wb w2 wo yc wc
    (fun o => cAlpha * x (ix3 0 r o) + proj (merged (fun k => x (ix3 0 r k)) wg
          (proj (fun j => ya (ix2 r j)) (fun j k => wa (ix2 j k))) (proj (fun j => yb (ix3 0 r j)) (fun j k => wb (ix2 j k)))
          (proj (fun j => yc (ix3 0 r j)) (fun j k => wc (ix2 j k)))) (fun k n => wo (ix2 k n)) o) r (fun o => by
      simp only [first_apply, gate_apply, h0, h1, h2]
      rfl)
  generalize k0_pay10 (k0_pay2 x) (k0_pay3 x) (k0_pay4 x w0 ya wa) (k0_pay5 x w1) (k0_pay6 yb) (k0_pay7 wb)
          (constant S512x1024 .f32 0x00000000#32) w2 yc wc wo = v at hr ⊢
  pointwise
  simp only [hr, mergeOut, layerNorm]
  rfl

end Cert.MergeBlock

end
-- ==== Proof.MergeHost.lean ====
/-
  What the host hands the merge kernel: the gates' columns of the stacked input matrix, the projections, and the
  attention's projection spread over its lanes.
-/
module

public import proofs.«01_k».proof.Proof.Gen.Kernel3Ideal.Frame
public import proofs.«01_k».proof.Proof.MergeSpec
public import Idealize.ShloMosaic.Lib.Pointwise

@[expose] public section

noncomputable section

namespace Cert.MergeHost

open Cert.Kernel3Ideal Cert.Kernel3Ideal.Gen Cert.FfnSpec Cert.MergeSpec Idealize.ShloMosaic Idealize.ShloMosaic.TcCoe Idealize.SL.Sem

variable (m : (ℓ : Loc nD τ sig) → Buf (Elt Ideal) ℓ)

theorem V_gates (c : Dev nD) (k : Fin 1024) (h : Fin 3072) :
    V m c main_v19 (ix2 k h : S1024x3072.Idx) = m ((c : Thread nD τ).loc main_arg4) (ix2 k ⟨3352 + h.val, by omega⟩) := by
  simp only [V, hostOps0, hostOps0_1, hostOps0_2, hostOps0_3, hostOps0_4, List.flatten_cons, List.flatten_nil, List.append_nil, List.cons_append, List.nil_append]
  after_results_simp
  pointwise

theorem V_first (c : Dev nD) : V m c main_v20 = m ((c : Thread nD τ).loc main_arg5) := by
  simp only [V, hostOps0, hostOps0_1, hostOps0_2, hostOps0_3, hostOps0_4, List.flatten_cons, List.flatten_nil, List.append_nil, List.cons_append, List.nil_append]
  after_results_simp
  rfl

theorem V_third (c : Dev nD) : V m c main_v22 = m ((c : Thread nD τ).loc main_arg7) := by
  simp only [V, hostOps0, hostOps0_1, hostOps0_2, hostOps0_3, hostOps0_4, List.flatten_cons, List.flatten_nil, List.append_nil, List.cons_append, List.nil_append]
  after_results_simp
  rfl

theorem V_output (c : Dev nD) : V m c main_v23 = m ((c : Thread nD τ).loc main_arg8) := by
  simp only [V, hostOps0, hostOps0_1, hostOps0_2, hostOps0_3, hostOps0_4, List.flatten_cons, List.flatten_nil, List.append_nil, List.cons_append, List.nil_append]
  after_results_simp
  rfl

theorem V_scale (c : Dev nD) (k : Fin 1024) :
    V m c main_v24 (ix2 0 k : S1x1024.Idx) = m ((c : Thread nD τ).loc main_arg9) (ix1 k) := by
  simp only [V, hostOps0, hostOps0_1, hostOps0_2, hostOps0_3, hostOps0_4, List.flatten_cons, List.flatten_nil, List.append_nil, List.cons_append, List.nil_append]
  after_results_simp
  pointwise

theorem V_shift (c : Dev nD) (k : Fin 1024) :
    V m c main_v25 (ix2 0 k : S1x1024.Idx) = m ((c : Thread nD τ).loc main_arg10) (ix1 k) := by
  simp only [V, hostOps0, hostOps0_1, hostOps0_2, hostOps0_3, hostOps0_4, List.flatten_cons, List.flatten_nil, List.append_nil, List.cons_append, List.nil_append]
  after_results_simp
  pointwise

/-! ### The attention's projection on its lanes -/

/-- The projection, transposed and split by heads. -/
theorem V_heads (c : Dev nD) (k : Fin 1024) (h : Fin 8) (d : Fin 64) :
    V m c main_v10 (ix3 k h d : S1024x8x64.Idx) = m ((c : Thread nD τ).loc main_arg6) (ix2 ⟨64 * h.val + d.val, by omega⟩ k : S512x1024.Idx) := by
  simp only [V, hostOps0, hostOps0_1, hostOps0_2, hostOps0_3, hostOps0_4, List.flatten_cons, List.flatten_nil, List.append_nil, List.cons_append, List.nil_append]
  after_results_simp
  pointwise
  exact congrArg (fun j : Fin 512 => m ((c : Thread nD τ).loc main_arg6) (ix2 j k : S512x1024.Idx)) (Fin.ext (by
    show h.val * 64 + d.val = 64 * h.val + d.val; omega))

theorem V_zeros (c : Dev nD) (k : Fin 1024) (h : Fin 8) (d : Fin 64) : V m c main_v11 (ix3 k h d : S1024x8x64.Idx) = (0 : EReal) := by
  simp only [V, hostOps0, hostOps0_1, hostOps0_2, hostOps0_3, hostOps0_4, List.flatten_cons, List.flatten_nil, List.append_nil, List.cons_append, List.nil_append]
  after_results_simp
  pointwise

/-- The heads on the lower 64 lanes. -/
theorem V_lower (c : Dev nD) : V m c main_v12 = concatenate S1024x8x128 2 [⟨S1024x8x64, V m c main_v10⟩, ⟨S1024x8x64, V m c main_v11⟩] concatenates_S1024x8x64_S1024x8x64_S1024x8x128_d2 := by
  simp only [V, hostOps0, hostOps0_1, hostOps0_2, hostOps0_3, hostOps0_4, List.flatten_cons, List.flatten_nil, List.append_nil, List.cons_append, List.nil_append]
  after_results_simp
  rfl

/-- The heads on the upper 64 lanes. -/
theorem V_upper (c : Dev nD) : V m c main_v13 = concatenate S1024x8x128 2 [⟨S1024x8x64, V m c main_v11⟩, ⟨S1024x8x64, V m c main_v10⟩] concatenates_S1024x8x64_S1024x8x64_S1024x8x128_d2 := by
  simp only [V, hostOps0, hostOps0_1, hostOps0_2, hostOps0_3, hostOps0_4, List.flatten_cons, List.flatten_nil, List.append_nil, List.cons_append, List.nil_append]
  after_results_simp
  rfl

/-- Whether a head is among the first four, as the host's division by four decides it. -/
theorem V_first_half (c : Dev nD) (h : Fin 8) : V m c main_v15 (ix3 0 h 0) = if h.val < 4 then 1#1 else 0#1 := by
  simp only [V, hostOps0, hostOps0_1, hostOps0_2, hostOps0_3, hostOps0_4, List.flatten_cons, List.flatten_nil, List.append_nil, List.cons_append, List.nil_append]
  after_results_simp
  simp only [id_eq, StableHlo.TRef.ofBuf, StableHlo.TRef.toBuf, cast_eq]
  pointwise
  fin_cases h
  all_goals rfl

theorem V_chosen (c : Dev nD) : V m c main_v16 = select (broadcastInDim S1024x8x128 ![0, 1, 2] bcast_S1x8x1_S1024x8x128_0_1_2 (V m c main_v15)) (V m c main_v12) (V m c main_v13) := by
  simp only [V, hostOps0, hostOps0_1, hostOps0_2, hostOps0_3, hostOps0_4, List.flatten_cons, List.flatten_nil, List.append_nil, List.cons_append, List.nil_append]
  after_results_simp
  rfl

theorem V_lanes (c : Dev nD) : V m c main_v21 = truncf (F := Ideal) .bf16 (transpose S1024x1024 [1, 0] (shapeCast S1024x1024 (V m c main_v16) shapeCasts_S1024x8x128_S1024x1024) transposes_S1024x1024_S1024x1024_1_0) bitsLt_bf16_f32 := by
  simp only [V, hostOps0, hostOps0_1, hostOps0_2, hostOps0_3, hostOps0_4, List.flatten_cons, List.flatten_nil, List.append_nil, List.cons_append, List.nil_append]
  after_results_simp
  rfl

theorem V_second (c : Dev nD) (n k : Fin 1024) :
    V m c main_v21 (ix2 n k : S1024x1024.Idx)
      = padded (fun j k => m ((c : Thread nD τ).loc main_arg6) (ix2 j k : S512x1024.Idx)) n k := by
  rw [V_lanes, V_chosen, V_lower, V_upper]
  have h1 := V_heads m c
  have h2 := V_zeros m c
  have h3 := V_first_half m c
  generalize V m c main_v10 = v10 at h1 ⊢
  generalize V m c main_v11 = v11 at h2 ⊢
  generalize V m c main_v15 = v15 at h3 ⊢
  generalize hx : padded (fun j k => m ((c : Thread nD τ).loc main_arg6) (ix2 j k : S512x1024.Idx)) n k = x
  pointwise
  simp only [h1, h2, h3]
  rw [← hx]
  unfold padded
  have hn : n.val < 1024 := n.isLt
  by_cases ha : n.val / 128 < 4 <;> by_cases hb : n.val % 128 < 64
  · rw [if_pos ha, dif_pos hb, if_pos (show n.val / 64 % 2 = n.val / 512 by omega)]
    exact congrArg (fun j : Fin 512 => m ((c : Thread nD τ).loc main_arg6) (ix2 j k : S512x1024.Idx)) (Fin.ext (by
      show 64 * (n.val / 128) + n.val % 128 = 64 * (n.val / 128) + n.val % 64; omega))
  · rw [if_pos ha, dif_neg hb, if_neg (show ¬ n.val / 64 % 2 = n.val / 512 by omega)]
    rfl
  · rw [if_neg ha, dif_pos hb, dif_pos hb, if_neg (show ¬ n.val / 64 % 2 = n.val / 512 by omega)]
    rfl
  · rw [if_neg ha, dif_neg hb, dif_neg hb, if_pos (show n.val / 64 % 2 = n.val / 512 by omega)]
    exact congrArg (fun j : Fin 512 => m ((c : Thread nD τ).loc main_arg6) (ix2 j k : S512x1024.Idx)) (Fin.ext (by
      show 64 * (n.val / 128) + (n.val % 128 - 64) = 64 * (n.val / 128) + n.val % 64; omega))

end Cert.MergeHost

end
-- ==== Proof.MergeArray.lean ====
/-
  The array the merge kernel leaves: every row is `MergeSpec.mergeOut` of the rows of the arguments. The grid's 64 points
  each write 512 times of one of the 8 sequences; the weights' blocks are the whole arrays the host prepared.
-/
module

public import proofs.«01_k».proof.Proof.MergeBlock
public import proofs.«01_k».proof.Proof.MergeHost

@[expose] public section

noncomputable section

namespace Cert.MergeArray

open Cert.Kernel3Ideal Cert.Kernel3Ideal.Gen Cert.FfnSpec Cert.MergeSpec Cert.MergeHost Idealize.ShloMosaic Idealize.ShloMosaic.TcCoe
open Idealize.SL.Sem
open Idealize.ShloMosaic.Pipeline (Dat)

/-- The result array as one function of the eleven argument arrays. -/
def mergeArr (x : FVec Ideal S8x4096x1024 .f32) (ya : FVec Ideal S4096x4096 .bf16) (yb : FVec Ideal S8x4096x1024 .bf16)
    (yc : FVec Ideal S8x4096x512 .bf16) (w : FVec Ideal S1024x6424 .f32) (wa wb wc : FVec Ideal S512x1024 .f32)
    (wo : FVec Ideal S1024x1024 .f32) (g b : FVec Ideal S1024 .f32) : FVec Ideal S8x4096x1024 .f32 := fun i =>
  mergeOut (fun k => x (ix3 (i 0) (i 1) k)) (fun k h => w (ix2 k ⟨3352 + h.val, by omega⟩))
    (proj (fun j => ya (ix2 (i 1) ⟨512 * (i 0).val + j.val, by have : (i 0).val < 8 := (i 0).isLt; omega⟩)) (fun j k => wa (ix2 j k)))
    (proj (fun j => yb (ix3 (i 0) (i 1) (lane j))) (fun j k => wb (ix2 j k)))
    (proj (fun j => yc (ix3 (i 0) (i 1) j)) (fun j k => wc (ix2 j k))) (fun k n => wo (ix2 k n)) (fun k => g (ix1 k))
    (fun k => b (ix1 k)) (i 2)

variable (m : (ℓ : Loc nD τ sig) → Buf (Elt Ideal) ℓ)

/-! ### The blocks at a grid point -/

/-- Point `t` is at sequence `t / 8` and block `t % 8` of 512 times, in the moving inputs and in the result. -/
theorem moving : ∀ t : Fin cfg0.N, win0_0.index t 0 = t.val / 8 ∧ win0_0.index t 1 = t.val % 8 ∧ win0_0.index t 2 = 0
    ∧ win0_1.index t 0 = t.val % 8 ∧ win0_1.index t 1 = t.val / 8
    ∧ win0_2.index t 0 = t.val / 8 ∧ win0_2.index t 1 = t.val % 8 ∧ win0_2.index t 2 = 0
    ∧ win0_3.index t 0 = t.val / 8 ∧ win0_3.index t 1 = t.val % 8 ∧ win0_3.index t 2 = 0
    ∧ win0_11.index t 0 = t.val / 8 ∧ win0_11.index t 1 = t.val % 8 ∧ win0_11.index t 2 = 0 :=
  (by decide +kernel : ∀ t : Fin grid0.N, win0_0.index t 0 = t.val / 8 ∧ win0_0.index t 1 = t.val % 8 ∧ win0_0.index t 2 = 0
    ∧ win0_1.index t 0 = t.val % 8 ∧ win0_1.index t 1 = t.val / 8
    ∧ win0_2.index t 0 = t.val / 8 ∧ win0_2.index t 1 = t.val % 8 ∧ win0_2.index t 2 = 0
    ∧ win0_3.index t 0 = t.val / 8 ∧ win0_3.index t 1 = t.val % 8 ∧ win0_3.index t 2 = 0
    ∧ win0_11.index t 0 = t.val / 8 ∧ win0_11.index t 1 = t.val % 8 ∧ win0_11.index t 2 = 0)

/-- The weights' windows stay at their whole arrays. -/
theorem fixed : ∀ t : Fin cfg0.N, (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ (win0_8.index t 0 = 0 ∧ win0_8.index t 1 = 0) ∧ (win0_9.index t 0 = 0 ∧ win0_9.index t 1 = 0)
    ∧ (win0_10.index t 0 = 0 ∧ win0_10.index t 1 = 0) :=
  (by decide +kernel : ∀ t : Fin grid0.N, (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ (win0_8.index t 0 = 0 ∧ win0_8.index t 1 = 0) ∧ (win0_9.index t 0 = 0 ∧ win0_9.index t 1 = 0)
    ∧ (win0_10.index t 0 = 0 ∧ win0_10.index t 1 = 0))

theorem point_lt (t : Fin cfg0.N) : t.val < 64 := lt_of_lt_of_eq t.isLt N_0

/-- The sequence point `t` works on. -/
abbrev seqOf (t : Fin cfg0.N) : Fin 8 := ⟨t.val / 8, by have := point_lt t; omega⟩

/-- The time under row `r` of point `t`'s block. -/
abbrev timeOf (t : Fin cfg0.N) (r : Fin 512) : Fin 4096 := ⟨512 * (t.val % 8) + r.val, by omega⟩

theorem rows_block (c : Dev nD) (t : Fin cfg0.N) (r : Fin 512) (k : Fin 1024) :
    (iblk m c 0 t : Vec Ideal S1x512x1024 .f32) (ix3 0 r k) = m ((c : Thread nD τ).loc main_arg0) (ix3 (seqOf t) (timeOf t r) k) := by
  obtain ⟨h0, h1, h2, -⟩ := moving t
  show V m c main_arg0 (((cfg0.win 0).blk t).view.emb (ix3 0 r k)) = _
  rw [V_main_arg0]
  refine congrArg _ (funext fun a => Fin.ext ?_)
  match a with
  | ⟨0, _⟩ => show win0_0.index t 0 * 1 + 1 * 0 = t.val / 8; rw [h0]; omega
  | ⟨1, _⟩ => show win0_0.index t 1 * 512 + 1 * r.val = 512 * (t.val % 8) + r.val; rw [h1]; omega
  | ⟨2, _⟩ => show win0_0.index t 2 * 1024 + 1 * k.val = k.val; rw [h2]; omega

theorem first_block (c : Dev nD) (t : Fin cfg0.N) (r j : Fin 512) :
    (iblk m c 1 t : Vec Ideal S512x512 .bf16) (ix2 r j)
      = m ((c : Thread nD τ).loc main_arg1) (ix2 (timeOf t r) ⟨512 * (seqOf t).val + j.val, by have : t.val / 8 < 8 := (seqOf t).isLt; show 512 * (t.val / 8) + j.val < 4096; omega⟩) := by
  obtain ⟨-, -, -, h0, h1, -⟩ := moving t
  show V m c main_arg1 (((cfg0.win 1).blk t).view.emb (ix2 r j)) = _
  rw [V_main_arg1]
  refine congrArg _ (funext fun a => Fin.ext ?_)
  match a with
  | ⟨0, _⟩ => show win0_1.index t 0 * 512 + 1 * r.val = 512 * (t.val % 8) + r.val; rw [h0]; omega
  | ⟨1, _⟩ => show win0_1.index t 1 * 512 + 1 * j.val = 512 * (t.val / 8) + j.val; rw [h1]; omega

theorem second_block (c : Dev nD) (t : Fin cfg0.N) (r : Fin 512) (k : Fin 1024) :
    (iblk m c 2 t : Vec Ideal S1x512x1024 .bf16) (ix3 0 r k) = m ((c : Thread nD τ).loc main_arg2) (ix3 (seqOf t) (timeOf t r) k) := by
  obtain ⟨-, -, -, -, -, h0, h1, h2, -⟩ := moving t
  show V m c main_arg2 (((cfg0.win 2).blk t).view.emb (ix3 0 r k)) = _
  rw [V_main_arg2]
  refine congrArg _ (funext fun a => Fin.ext ?_)
  match a with
  | ⟨0, _⟩ => show win0_2.index t 0 * 1 + 1 * 0 = t.val / 8; rw [h0]; omega
  | ⟨1, _⟩ => show win0_2.index t 1 * 512 + 1 * r.val = 512 * (t.val % 8) + r.val; rw [h1]; omega
  | ⟨2, _⟩ => show win0_2.index t 2 * 1024 + 1 * k.val = k.val; rw [h2]; omega

theorem third_block (c : Dev nD) (t : Fin cfg0.N) (r j : Fin 512) :
    (iblk m c 3 t : Vec Ideal S1x512x512 .bf16) (ix3 0 r j) = m ((c : Thread nD τ).loc main_arg3) (ix3 (seqOf t) (timeOf t r) j) := by
  obtain ⟨-, -, -, -, -, -, -, -, h0, h1, h2, -⟩ := moving t
  show V m c main_arg3 (((cfg0.win 3).blk t).view.emb (ix3 0 r j)) = _
  rw [V_main_arg3]
  refine congrArg _ (funext fun a => Fin.ext ?_)
  match a with
  | ⟨0, _⟩ => show win0_3.index t 0 * 1 + 1 * 0 = t.val / 8; rw [h0]; omega
  | ⟨1, _⟩ => show win0_3.index t 1 * 512 + 1 * r.val = 512 * (t.val % 8) + r.val; rw [h1]; omega
  | ⟨2, _⟩ => show win0_3.index t 2 * 512 + 1 * j.val = j.val; rw [h2]; omega

theorem gates_block (c : Dev nD) (t : Fin cfg0.N) (k : Fin 1024) (h : Fin 3072) :
    (iblk m c 4 t : Vec Ideal S1024x3072 .bf16) (ix2 k h) = m ((c : Thread nD τ).loc main_arg4) (ix2 k ⟨3352 + h.val, by omega⟩) := by
  obtain ⟨⟨h0, h1⟩, -⟩ := fixed t
  have e : ((cfg0.win 4).blk t).view.emb (ix2 k h) = (ix2 k h : S1024x3072.Idx) := funext fun a => Fin.ext (by
    match a with
    | ⟨0, _⟩ => show win0_4.index t 0 * 1024 + 1 * k.val = k.val; rw [h0]; omega
    | ⟨1, _⟩ => show win0_4.index t 1 * 3072 + 1 * h.val = h.val; rw [h1]; omega)
  show V m c main_v19 (((cfg0.win 4).blk t).view.emb (ix2 k h)) = _
  rw [e, V_gates]

theorem first_proj (c : Dev nD) (t : Fin cfg0.N) (j : Fin 512) (k : Fin 1024) :
    (iblk m c 5 t : Vec Ideal S512x1024 .bf16) (ix2 j k) = m ((c : Thread nD τ).loc main_arg5) (ix2 j k) := by
  obtain ⟨-, ⟨h0, h1⟩, -⟩ := fixed t
  have e : ((cfg0.win 5).blk t).view.emb (ix2 j k) = (ix2 j k : S512x1024.Idx) := funext fun a => Fin.ext (by
    match a with
    | ⟨0, _⟩ => show win0_5.index t 0 * 512 + 1 * j.val = j.val; rw [h0]; omega
    | ⟨1, _⟩ => show win0_5.index t 1 * 1024 + 1 * k.val = k.val; rw [h1]; omega)
  show V m c main_v20 (((cfg0.win 5).blk t).view.emb (ix2 j k)) = _
  rw [e, V_first]

theorem second_proj (c : Dev nD) (t : Fin cfg0.N) (n : Fin 1024) (k : Fin 1024) :
    (iblk m c 6 t : Vec Ideal S1024x1024 .bf16) (ix2 n k) = padded (fun j k => m ((c : Thread nD τ).loc main_arg6) (ix2 j k : S512x1024.Idx)) n k := by
  obtain ⟨-, -, ⟨h0, h1⟩, -⟩ := fixed t
  have e : ((cfg0.win 6).blk t).view.emb (ix2 n k) = (ix2 n k : S1024x1024.Idx) := funext fun a => Fin.ext (by
    match a with
    | ⟨0, _⟩ => show win0_6.index t 0 * 1024 + 1 * n.val = n.val; rw [h0]; omega
    | ⟨1, _⟩ => show win0_6.index t 1 * 1024 + 1 * k.val = k.val; rw [h1]; omega)
  show V m c main_v21 (((cfg0.win 6).blk t).view.emb (ix2 n k)) = _
  rw [e, V_second]

theorem third_proj (c : Dev nD) (t : Fin cfg0.N) (j : Fin 512) (k : Fin 1024) :
    (iblk m c 7 t : Vec Ideal S512x1024 .bf16) (ix2 j k) = m ((c : Thread nD τ).loc main_arg7) (ix2 j k) := by
  obtain ⟨-, -, -, ⟨h0, h1⟩, -⟩ := fixed t
  have e : ((cfg0.win 7).blk t).view.emb (ix2 j k) = (ix2 j k : S512x1024.Idx) := funext fun a => Fin.ext (by
    match a with
    | ⟨0, _⟩ => show win0_7.index t 0 * 512 + 1 * j.val = j.val; rw [h0]; omega
    | ⟨1, _⟩ => show win0_7.index t 1 * 1024 + 1 * k.val = k.val; rw [h1]; omega)
  show V m c main_v22 (((cfg0.win 7).blk t).view.emb (ix2 j k)) = _
  rw [e, V_third]

theorem output_proj (c : Dev nD) (t : Fin cfg0.N) (k : Fin 1024) (n : Fin 1024) :
    (iblk m c 8 t : Vec Ideal S1024x1024 .bf16) (ix2 k n) = m ((c : Thread nD τ).loc main_arg8) (ix2 k n) := by
  obtain ⟨-, -, -, -, ⟨h0, h1⟩, -⟩ := fixed t
  have e : ((cfg0.win 8).blk t).view.emb (ix2 k n) = (ix2 k n : S1024x1024.Idx) := funext fun a => Fin.ext (by
    match a with
    | ⟨0, _⟩ => show win0_8.index t 0 * 1024 + 1 * k.val = k.val; rw [h0]; omega
    | ⟨1, _⟩ => show win0_8.index t 1 * 1024 + 1 * n.val = n.val; rw [h1]; omega)
  show V m c main_v23 (((cfg0.win 8).blk t).view.emb (ix2 k n)) = _
  rw [e, V_output]

theorem scale_block (c : Dev nD) (t : Fin cfg0.N) (k : Fin 1024) :
    (iblk m c 9 t : Vec Ideal S1x1024 .f32) (ix2 0 k) = m ((c : Thread nD τ).loc main_arg9) (ix1 k) := by
  obtain ⟨-, -, -, -, -, ⟨h0, h1⟩, -⟩ := fixed t
  have e : ((cfg0.win 9).blk t).view.emb (ix2 0 k) = (ix2 0 k : S1x1024.Idx) := funext fun a => Fin.ext (by
    match a with
    | ⟨0, _⟩ => show win0_9.index t 0 * 1 + 1 * 0 = 0; rw [h0]
    | ⟨1, _⟩ => show win0_9.index t 1 * 1024 + 1 * k.val = k.val; rw [h1]; omega)
  show V m c main_v24 (((cfg0.win 9).blk t).view.emb (ix2 0 k)) = _
  rw [e, V_scale]

theorem shift_block (c : Dev nD) (t : Fin cfg0.N) (k : Fin 1024) :
    (iblk m c 10 t : Vec Ideal S1x1024 .f32) (ix2 0 k) = m ((c : Thread nD τ).loc main_arg10) (ix1 k) := by
  obtain ⟨-, -, -, -, -, -, ⟨h0, h1⟩⟩ := fixed t
  have e : ((cfg0.win 10).blk t).view.emb (ix2 0 k) = (ix2 0 k : S1x1024.Idx) := funext fun a => Fin.ext (by
    match a with
    | ⟨0, _⟩ => show win0_10.index t 0 * 1 + 1 * 0 = 0; rw [h0]
    | ⟨1, _⟩ => show win0_10.index t 1 * 1024 + 1 * k.val = k.val; rw [h1]; omega)
  show V m c main_v25 (((cfg0.win 10).blk t).view.emb (ix2 0 k)) = _
  rw [e, V_shift]

/-! ### The array -/

/-- The result, from core `c`'s arguments. -/
abbrev result (c : Dev nD) : Buf (Elt Ideal) ((c : Thread nD τ).loc main_v26) :=
  mergeArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))

theorem zero_offsets : (![0, 0] : Fin 2 → Nat) = fun _ => 0 := funext fun a => by fin_cases a <;> rfl
theorem zero_offsets3 : (![0, 0, 0] : Fin 3 → Nat) = fun _ => 0 := funext fun a => by fin_cases a <;> rfl

/-- The place in the result array of row `r`, column `o` of the block point `t` writes. -/
theorem result_place (t : Fin cfg0.N) (r : Fin 512) (o : Fin 1024) :
    ((cfg0.win 11).blk t).view.emb (ix3 0 r o : S1x512x1024.Idx) = (ix3 (seqOf t) (timeOf t r) o : S8x4096x1024.Idx) := by
  obtain ⟨-, -, -, -, -, -, -, -, -, -, -, h0, h1, h2⟩ := moving t
  refine funext fun a => Fin.ext ?_
  match a with
  | ⟨0, _⟩ => show win0_11.index t 0 * 1 + 1 * 0 = t.val / 8; rw [h0]; omega
  | ⟨1, _⟩ => show win0_11.index t 1 * 512 + 1 * r.val = 512 * (t.val % 8) + r.val; rw [h1]; omega
  | ⟨2, _⟩ => show win0_11.index t 2 * 1024 + 1 * o.val = o.val; rw [h2]; omega

/-- A third of the gates' columns, starting at column `a`. -/
theorem third_of (x : Vec Ideal S1024x3072 .bf16) (r : Rect S1024x3072) (a : Nat) (k h : Fin 1024) (i : r.shape.Idx)
    (e0 : (r.idx i 0).val = k.val) (e1 : (r.idx i 1).val = a + h.val) (ha : a + h.val < 3072) :
    View.ld x r i = x (ix2 k ⟨a + h.val, ha⟩) :=
  congrArg x (funext fun d => Fin.ext (by
    match d with
    | ⟨0, _⟩ => exact e0
    | ⟨1, _⟩ => exact e1))

/-- What point `t` writes back is its block of the result. -/
theorem flushed_eq (c : Dev nD) (t : Fin cfg0.N) :
    (dats m 0 c).flushed 11 t = ((cfg0.win 11).blk t).view.read (Elt Ideal) (result m c) := by
  show (cfg0.win 11).cut (grid0.coords t) ((dats m 0 c).after 11 t) = _
  rw [after0_11]
  unfold_out out0_11
  rw [View.canon_unit_zero zero_offsets3]
  simp only [View.ld_unit_zero (S := S1x512x1024) zero_offsets3, View.ld_unit_zero (S := S1x512x512) zero_offsets3,
    View.ld_unit_zero (S := S512x512) zero_offsets, View.ld_unit_zero (S := S512x1024) zero_offsets,
    View.ld_unit_zero (S := S1024x1024) zero_offsets, View.ld_unit_zero (S := S1x1024) zero_offsets]
  refine funext fun (y : S1x512x1024.Idx) => ?_
  obtain ⟨r, o, rfl⟩ : ∃ (r : Fin 512) (o : Fin 1024), y = ix3 0 r o :=
    ⟨y 1, y 2, (eq_ix3 y).trans (congrArg (fun z => ix3 z (y 1) (y 2)) (Fin.ext (by have : (y 0).val < 1 := (y 0).isLt; show (y 0).val = 0; omega)))⟩
  refine (MergeBlock.block_apply _ _ _ _ _ _ _ _ _ _ _ _ _
    (fun k h => (iblk m c 4 t : Vec Ideal S1024x3072 .bf16) (ix2 k h)) ?_ ?_ ?_ r o).trans ?_
  · intro k h
    refine (third_of _ _ 0 k h _ (by show 0 + 1 * k.val = k.val; omega) (by show 0 + 1 * h.val = 0 + h.val; omega) (by omega)).trans ?_
    exact congrArg (fun z => (iblk m c 4 t : Vec Ideal S1024x3072 .bf16) (ix2 k z)) (Fin.ext (Nat.zero_add _))
  · exact fun k h => third_of _ _ 1024 k h _ (by show 0 + 1 * k.val = k.val; omega) (by show 1024 + 1 * h.val = 1024 + h.val; omega) (by omega)
  · exact fun k h => third_of _ _ 2048 k h _ (by show 0 + 1 * k.val = k.val; omega) (by show 2048 + 1 * h.val = 2048 + h.val; omega) (by omega)
  show _ = result m c (((cfg0.win 11).blk t).view.emb (ix3 0 r o : S1x512x1024.Idx))
  rw [result_place t r o]
  simp only [rows_block, first_block, second_block, third_block, gates_block, first_proj, second_proj, third_proj, output_proj,
    scale_block, shift_block]
  have hp := fun (y : Fin 1024 → EReal) => funext (proj_padded y fun j k => m ((c : Thread nD τ).loc main_arg6) (ix2 j k : S512x1024.Idx))
  have hs : ∀ (a b : Fin 1024 → EReal), a = b → ∀ (x : Fin 1024 → EReal) wg pa pc wo g s,
      mergeOut x wg pa a pc wo g s o = mergeOut x wg pa b pc wo g s o := fun a b e x wg pa pc wo g s => by rw [e]
  exact hs _ _ (hp _) _ _ _ _ _ _ _

/-- The 64 blocks cover the result array, so it ends as `mergeArr` of the arguments. -/
theorem final (c : Dev nD) : (dats m 0 c).arrAt 11 cfg0.N = result m c :=
  (dats m 0 c).arrAt_eq_of_cover 11 (result m c) (fun t _ => flushed_eq m c t) fun i => by
    obtain ⟨s, T, o, rfl⟩ : ∃ (s : Fin 8) (T : Fin 4096) (o : Fin 1024), i = ix3 s T o := ⟨i 0, i 1, i 2, eq_ix3 i⟩
    refine ⟨⟨8 * s.val + T.val / 512, lt_of_lt_of_eq (by omega) N_0.symm⟩, flush0_11 _, ?_⟩
    have e := result_place ⟨8 * s.val + T.val / 512, lt_of_lt_of_eq (by omega) N_0.symm⟩ ⟨T.val % 512, by omega⟩ o
    have hs : seqOf ⟨8 * s.val + T.val / 512, lt_of_lt_of_eq (by omega) N_0.symm⟩ = s :=
      Fin.ext (by show (8 * s.val + T.val / 512) / 8 = s.val; omega)
    have hT : timeOf ⟨8 * s.val + T.val / 512, lt_of_lt_of_eq (by omega) N_0.symm⟩ ⟨T.val % 512, by omega⟩ = T :=
      Fin.ext (by show 512 * ((8 * s.val + T.val / 512) % 8) + T.val % 512 = T.val; omega)
    rw [hs, hT] at e
    rw [← e]
    exact View.emb_mem_set _ _

/-- The run: the result array at `mergeArr` of the arguments, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v26) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun _ h c => ⟨(h c).1.trans (final m c), (h c).2⟩) (Value.run_blocks m ρ)

end Cert.MergeArray

end
-- ==== Proof.MergeReference.lean ====
/-
  The reference of the third algebraic claim computes `MergeSpec.mergeOut` on every row.
-/
module

public import proofs.«01_k».proof.Proof.Gen.Reference3Ideal.Read
public import proofs.«01_k».proof.Proof.MergeSpec
public import Idealize.ShloMosaic.Lib.Pointwise

@[expose] public section

noncomputable section

namespace Cert.MergeReference

open Cert.Reference3Ideal Cert.Reference3Ideal.Gen Cert.Reference3Ideal.Read Cert.FfnSpec Cert.MergeSpec Idealize.ShloMosaic
open Idealize.ShloMosaic.TcCoe

variable (x : FVec Ideal S8x4096x1024 .f32) (ya : FVec Ideal S4096x4096 .bf16) (yb : FVec Ideal S8x4096x1024 .bf16)
  (yc : FVec Ideal S8x4096x512 .bf16) (w : FVec Ideal S1024x6424 .f32) (wa wb wc : FVec Ideal S512x1024 .f32)
  (wo : FVec Ideal S1024x1024 .f32) (g b : FVec Ideal S1024 .f32)

/-- The first mixer's output, brought from time-major order. -/
theorem first_apply (s : Fin 8) (t : Fin 4096) (j : Fin 512) :
    val_main_v1 (F := Ideal) ya (ix3 s t j) = ya (ix2 t ⟨512 * s.val + j.val, by omega⟩) := by
  pointwise [val_main_v1, val_main_v0]
  exact congrArg ya (congrArg (ix2 t) (Fin.ext (by show s.val * 512 + j.val = 512 * s.val + j.val; omega)))

/-- The second mixer's channels, taken from their lanes. -/
theorem second_apply (s : Fin 8) (t : Fin 4096) (j : Fin 512) :
    val_main_v8 (F := Ideal) yb (ix3 s t j) = yb (ix3 s t (lane j)) := by
  pointwise [val_main_v8, val_main_v7, val_main_v6, val_main_v5, val_main_v4, val_main_v3, val_main_v2]
  split
  · exact congrArg (fun n => yb (ix3 s t n)) (Fin.ext (by
      show j.val / 64 * 128 + j.val % 64 = 128 * (j.val / 64) + 64 * (j.val / 256) + j.val % 64; omega))
  · exact congrArg (fun n => yb (ix3 s t n)) (Fin.ext (by
      show (4 + (j.val / 64 - 4)) * 128 + 64 + j.val % 64 = 128 * (j.val / 64) + 64 * (j.val / 256) + j.val % 64; omega))

/-- The three gates side by side. -/
theorem gates_apply (s : Fin 8) (t : Fin 4096) (n : Fin 3072) :
    val_main_v21 (F := Ideal) x w (ix3 s t n)
      = sigmoid (proj (fun k => x (ix3 s t k)) (fun k h => w (ix2 k ⟨3352 + h.val, by omega⟩)) n) := by
  pointwise [val_main_v21, val_main_v20, val_main_cst_0, val_main_v19, val_main_v18, val_main_cst, val_main_v17, val_main_v16,
    val_main_v15, val_main_v9]
  simp only [sigmoid, proj]

/-- The gated sum of the three projections. -/
theorem merged_apply (s : Fin 8) (t : Fin 4096) (k : Fin 1024) :
    val_main_v36 (F := Ideal) x ya yb yc w wa wb wc (ix3 s t k)
      = merged (fun k => x (ix3 s t k)) (fun k h => w (ix2 k ⟨3352 + h.val, by omega⟩))
          (proj (fun j => ya (ix2 t ⟨512 * s.val + j.val, by omega⟩)) (fun j k => wa (ix2 j k)))
          (proj (fun j => yb (ix3 s t (lane j))) (fun j k => wb (ix2 j k)))
          (proj (fun j => yc (ix3 s t j)) (fun j k => wc (ix2 j k))) k := by
  unfold val_main_v36 val_main_v35 val_main_v34 val_main_v33 val_main_v32 val_main_v31 val_main_v30 val_main_v29 val_main_v28
    val_main_v27 val_main_v26 val_main_v25 val_main_v24 val_main_v23 val_main_v22
  have h1 := first_apply ya
  have h2 := second_apply yb
  have h3 := gates_apply x w
  generalize val_main_v1 (F := Ideal) ya = ya' at h1 ⊢
  generalize val_main_v8 (F := Ideal) yb = yb' at h2 ⊢
  generalize val_main_v21 (F := Ideal) x w = gates at h3 ⊢
  pointwise
  simp only [h1, h2, h3, merged, proj]

/-- The sum the layer norm is taken of. -/
theorem resid_apply (s : Fin 8) (t : Fin 4096) (o : Fin 1024) :
    val_main_v40 (F := Ideal) x ya yb yc w wa wb wc wo (ix3 s t o)
      = cAlpha * x (ix3 s t o) + proj (merged (fun k => x (ix3 s t k)) (fun k h => w (ix2 k ⟨3352 + h.val, by omega⟩))
          (proj (fun j => ya (ix2 t ⟨512 * s.val + j.val, by omega⟩)) (fun j k => wa (ix2 j k)))
          (proj (fun j => yb (ix3 s t (lane j))) (fun j k => wb (ix2 j k)))
          (proj (fun j => yc (ix3 s t j)) (fun j k => wc (ix2 j k)))) (fun k n => wo (ix2 k n)) o := by
  unfold val_main_v40 val_main_v39
  have h := merged_apply x ya yb yc w wa wb wc
  generalize val_main_v36 (F := Ideal) x ya yb yc w wa wb wc = v at h ⊢
  pointwise [val_main_v38, val_main_v37, val_main_cst_1]
  simp only [h]
  rfl

/-- The reference's result, read at sequence `s`, time `t`, column `o`. -/
theorem result_apply (s : Fin 8) (t : Fin 4096) (o : Fin 1024) :
    val_main_v64 (F := Ideal) x ya yb yc w wa wb wc wo g b (ix3 s t o)
      = mergeOut (fun k => x (ix3 s t k)) (fun k h => w (ix2 k ⟨3352 + h.val, by omega⟩))
          (proj (fun j => ya (ix2 t ⟨512 * s.val + j.val, by omega⟩)) (fun j k => wa (ix2 j k)))
          (proj (fun j => yb (ix3 s t (lane j))) (fun j k => wb (ix2 j k)))
          (proj (fun j => yc (ix3 s t j)) (fun j k => wc (ix2 j k))) (fun k n => wo (ix2 k n)) (fun k => g (ix1 k))
          (fun k => b (ix1 k)) o := by
  unfold val_main_v64 val_main_v61 val_main_v58 val_main_v57 val_main_v56 val_main_v55 val_main_v53 val_main_v52 val_main_v51
    val_main_v49 val_main_v48 val_main_v47 val_main_v46 val_main_v45 val_main_v44 val_main_v42 val_main_v41
  have hr := resid_apply x ya yb yc w wa wb wc wo
  generalize val_main_v40 (F := Ideal) x ya yb yc w wa wb wc wo = v at hr ⊢
  pointwise [val_main_v63, val_main_v62, val_main_v60, val_main_v59, val_main_v54, val_main_cst_6, val_main_v50, val_main_cst_5,
    val_main_cst_4, val_main_v43, val_main_cst_3, val_main_cst_2]
  simp only [hr, mergeOut, layerNorm, mean]

end Cert.MergeReference

end
-- ==== Proof.MergeClaim.lean ====
/-
  The third algebraic claim: the merge kernel and its reference leave the same array.
-/
module

public import proofs.«01_k».proof.Defs
public import proofs.«01_k».proof.Proof.MergeArray
public import proofs.«01_k».proof.Proof.MergeReference
public import proofs.«01_k».proof.Proof.Gen.Reference3Ideal

@[expose] public section

noncomputable section

namespace Cert.MergeClaim

open Idealize.ShloMosaic Idealize.ShloMosaic.TcCoe Idealize.SL.Sem

/-- The reference's result is the same function of the arguments as the kernel's. -/
theorem reference_eq (m : (ℓ : Loc Reference3Ideal.nD Reference3Ideal.τ Reference3Ideal.sig) → Buf (Elt Ideal) ℓ) (c : Dev Reference3Ideal.nD) :
    Reference3Ideal.Value.res_out0 m c
      = MergeArray.mergeArr (m ((c.tc : Thread _ _).loc Reference3Ideal.main_arg0)) (m ((c.tc : Thread _ _).loc Reference3Ideal.main_arg1))
          (m ((c.tc : Thread _ _).loc Reference3Ideal.main_arg2)) (m ((c.tc : Thread _ _).loc Reference3Ideal.main_arg3))
          (m ((c.tc : Thread _ _).loc Reference3Ideal.main_arg4)) (m ((c.tc : Thread _ _).loc Reference3Ideal.main_arg5))
          (m ((c.tc : Thread _ _).loc Reference3Ideal.main_arg6)) (m ((c.tc : Thread _ _).loc Reference3Ideal.main_arg7))
          (m ((c.tc : Thread _ _).loc Reference3Ideal.main_arg8)) (m ((c.tc : Thread _ _).loc Reference3Ideal.main_arg9))
          (m ((c.tc : Thread _ _).loc Reference3Ideal.main_arg10)) := by
  refine (Reference3Ideal.Read.val_main_v64_eq m c).trans (funext fun i => ?_)
  obtain ⟨s, t, o, rfl⟩ : ∃ (s : Fin 8) (t : Fin 4096) (o : Fin 1024), i = ix3 s t o := ⟨i 0, i 1, i 2, eq_ix3 i⟩
  exact MergeReference.result_apply _ _ _ _ _ _ _ _ _ _ _ s t o

theorem algebraic : algebraic_Kernel3Ideal_Reference3Ideal (hKernel3Ideal := Kernel3Ideal.Gen.facts) (hReference3Ideal := Reference3Ideal.Gen.facts) :=
  fun m g m' g' _ hag => ⟨fun c => MergeArray.result m c,
    MergeArray.run m g,
    (θ_run _ _ _).mono (fun _ h c => by
      obtain ⟨e0, e1, e2, e3, e4, e5, e6, e7, e8, e9, e10⟩ := hag c
      refine ⟨(h c).1.trans ((reference_eq m' c).trans ?_), (h c).2⟩
      rw [e0, e1, e2, e3, e4, e5, e6, e7, e8, e9, e10]) (Reference3Ideal.Value.run m' g')⟩

end Cert.MergeClaim

end
-- ==== Proof.lean ====
/-
  The certificate: the frames of the programs, that nothing was rewritten between a kernel and its ideal form, and
  that the S5 kernel, the feed-forward kernel and the merge kernel compute their references.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Kernel2.Frame
public import proofs.«01_k».proof.Proof.Gen.Kernel3.Frame
public import proofs.«01_k».proof.Proof.S5Claim
public import proofs.«01_k».proof.Proof.FfnClaim
public import proofs.«01_k».proof.Proof.MergeClaim

@[expose] public section

open Idealize.ShloMosaic Idealize.SL.Sem

theorem Cert.Proof.claim : Cert.Claim :=
  ⟨Kernel.Gen.facts, KernelIdeal.Gen.facts, ReferenceIdeal.Gen.facts, Kernel2.Gen.facts, Kernel2Ideal.Gen.facts,
    Reference2Ideal.Gen.facts, Kernel3.Gen.facts, Kernel3Ideal.Gen.facts, Reference3Ideal.Gen.facts,
    fun m ρ _ => Kernel.Gen.frame m ρ, fun m ρ _ => KernelIdeal.Gen.frame m ρ,
    fun m ρ _ => (θ_run _ _ _).mono (fun r h => ⟨fun c => (h c).2.2.2, sem_eq_zero_of_no_sems (by decide) r.2⟩)
      (ReferenceIdeal.Value.run m ρ),
    fun m ρ _ => Kernel2.Gen.frame m ρ, fun m ρ _ => Kernel2Ideal.Gen.frame m ρ,
    fun m ρ _ => (θ_run _ _ _).mono (fun r h => ⟨fun c => (h c).2, sem_eq_zero_of_no_sems (by decide) r.2⟩)
      (Reference2Ideal.Value.run m ρ),
    fun m ρ _ => Kernel3.Gen.frame m ρ, fun m ρ _ => Kernel3Ideal.Gen.frame m ρ,
    fun m ρ _ => (θ_run _ _ _).mono (fun r h => ⟨fun c => (h c).2, sem_eq_zero_of_no_sems (by decide) r.2⟩)
      (Reference3Ideal.Value.run m ρ),
    trivial, S5Claim.algebraic, trivial, FfnClaim.algebraic, trivial, MergeClaim.algebraic⟩
